-- ==== Defs.lean ====
def Pre_Kernel [hPre_groups_cover : Cert.Pre_groups_cover.Facts] (m : (ℓ : Loc Cert.Kernel.nD Cert.Kernel.τ Cert.Kernel.sig) → Buf (Elt Bits) ℓ) : Prop :=
  ∀ c : Dev Cert.Kernel.nD,
    (Cert.Pre_groups_cover.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_groups_cover : Cert.Pre_groups_cover.Facts] (m : (ℓ : Loc Cert.KernelIdeal.nD Cert.KernelIdeal.τ Cert.KernelIdeal.sig) → Buf (Elt Ideal) ℓ) : Prop :=
  ∀ c : Dev Cert.KernelIdeal.nD,
    (Cert.Pre_groups_cover.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_groups_cover_finite [hPre_groups_cover_finite : Cert.Pre_groups_cover_finite.Facts] (m : (ℓ : Loc Cert.KernelIdeal.nD Cert.KernelIdeal.τ Cert.KernelIdeal.sig) → Buf (Elt Ideal) ℓ) : Prop :=
  ∀ c : Dev Cert.KernelIdeal.nD,
    (Cert.Pre_groups_cover_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_cover_finite [hPre_groups_cover_finite : Cert.Pre_groups_cover_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_cover_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_groups_cover : Cert.Pre_groups_cover.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_groups_cover : Cert.Pre_groups_cover.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_groups_cover_finite [hKernelIdeal : Cert.KernelIdeal.Facts] [hPre_groups_cover_finite : Cert.Pre_groups_cover_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_groups_cover_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_groups_cover_finite [hReferenceIdeal : Cert.ReferenceIdeal.Facts] [hPre_groups_cover_finite : Cert.Pre_groups_cover_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_cover_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_groups_cover_finite [hKernelIdeal : Cert.KernelIdeal.Facts] [hReferenceIdeal : Cert.ReferenceIdeal.Facts] [hPre_groups_cover_finite : Cert.Pre_groups_cover_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_groups_cover_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_groups_cover : Cert.Pre_groups_cover.Facts) (hPre_groups_cover_finite : Cert.Pre_groups_cover_finite.Facts),
    quiescent_Kernel (hKernel := hKernel) (hPre_groups_cover := hPre_groups_cover)
    ∧ quiescent_KernelIdeal (hKernelIdeal := hKernelIdeal) (hPre_groups_cover := hPre_groups_cover)
    ∧ quiescent_KernelIdeal_pre_groups_cover_finite (hKernelIdeal := hKernelIdeal) (hPre_groups_cover_finite := hPre_groups_cover_finite)
    ∧ quiescent_ReferenceIdeal (hReferenceIdeal := hReferenceIdeal)
    ∧ quiescent_ReferenceIdeal_pre_groups_cover_finite (hReferenceIdeal := hReferenceIdeal) (hPre_groups_cover_finite := hPre_groups_cover_finite)
    ∧ preserves_Kernel_KernelIdeal
    ∧ algebraic_KernelIdeal_ReferenceIdeal_pre_groups_cover_finite (hKernelIdeal := hKernelIdeal) (hReferenceIdeal := hReferenceIdeal) (hPre_groups_cover_finite := hPre_groups_cover_finite)
-- ==== Pre_groups_cover.lean ====
abbrev S32768x2816 : Shape := ⟨2, ![32768, 2816]⟩
abbrev S16 : Shape := ⟨1, ![16]⟩
abbrev S16x3072x2816 : Shape := ⟨3, ![16, 3072, 2816]⟩
abbrev S16x3072 : Shape := ⟨2, ![16, 3072]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S32768x2816 .bf16) (main_arg1 : IVec S16 32) (main_arg2 : FVec F S16x3072x2816 .fp8e4m3) (main_arg3 : FVec F S16x3072 .f32) : IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 32768#32
  let main_v2 : IVec S16 32 := broadcastInDim S16 ![] bcast_S_S16 main_c_0
  let main_v3 : IVec S16 1 := cmpi .sle main_arg1 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  let main_c_2 : IVec S_ 32 := constantI S_ 32 0#32
  let main_v6 : IVec S_ 32 := (fun x v => Host.reduce IntOp.addi x v reducesTo_S16_S_d0 h_S_) main_arg1 main_c_2
  let main_c_3 : IVec S_ 32 := constantI S_ 32 32768#32
  let main_v7 : IVec S_ 1 := cmpi .eq main_v6 main_c_3
  let main_v8 : IVec S_ 1 := andi main_v5 main_v7
  main_v8
-- ==== Pre_groups_cover_finite.lean ====
abbrev S32768x2816 : Shape := ⟨2, ![32768, 2816]⟩
abbrev S16 : Shape := ⟨1, ![16]⟩
abbrev S16x3072x2816 : Shape := ⟨3, ![16, 3072, 2816]⟩
abbrev S16x3072 : Shape := ⟨2, ![16, 3072]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bitsLt_bf16_f32 : FTy.bits .bf16 < FTy.bits .f32
  bcast_S_S32768x2816 : S_.BroadcastsInDim S32768x2816 (![] : Fin 0 → Fin S32768x2816.rank)
  reducesTo_S32768x2816_S_d0_1 : S32768x2816.ReducesTo [0, 1] S_

variable [Facts]

def fn {F : FTy → Type} [FloatOps F] (main_arg0 : FVec F S32768x2816 .bf16) (main_arg1 : IVec S16 32) (main_arg2 : FVec F S16x3072x2816 .fp8e4m3) (main_arg3 : FVec F S16x3072 .f32) : IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 32768#32
  let main_v2 : IVec S16 32 := broadcastInDim S16 ![] bcast_S_S16 main_c_0
  let main_v3 : IVec S16 1 := cmpi .sle main_arg1 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  let main_c_2 : IVec S_ 32 := constantI S_ 32 0#32
  let main_v6 : IVec S_ 32 := (fun x v => Host.reduce IntOp.addi x v reducesTo_S16_S_d0 h_S_) main_arg1 main_c_2
  let main_c_3 : IVec S_ 32 := constantI S_ 32 32768#32
  let main_v7 : IVec S_ 1 := cmpi .eq main_v6 main_c_3
  let main_v8 : IVec S_ 1 := andi main_v5 main_v7
  let main_v9 : FVec F S32768x2816 .f32 := (extf .f32 · bitsLt_bf16_f32) main_arg0
  let main_v10 : FVec F S32768x2816 .f32 := Host.absf main_v9
  let main_cst : FVec F S_ .f32 := constant S_ .f32 0x7F7F0000#32
  let main_v11 : FVec F S32768x2816 .f32 := broadcastInDim S32768x2816 ![] bcast_S_S32768x2816 main_cst
  let main_v12 : IVec S32768x2816 1 := cmpf .ole main_v10 main_v11
  let main_c_4 : IVec S_ 1 := constantI S_ 1 1#1
  let main_v13 : IVec S_ 1 := (fun x v => Host.reduce IntOp.andi x v reducesTo_S32768x2816_S_d0_1 h_S_) main_v12 main_c_4
  let main_v14 : IVec S_ 1 := andi main_v8 main_v13
  main_v14
-- ==== Kernel.lean ====
abbrev S32768x2816 : Shape := ⟨2, ![32768, 2816]⟩
abbrev S16 : Shape := ⟨1, ![16]⟩
abbrev S16x3072x2816 : Shape := ⟨3, ![16, 3072, 2816]⟩
abbrev S16x3072 : Shape := ⟨2, ![16, 3072]⟩
abbrev S_ : Shape := ⟨0, ![]⟩
abbrev S1 : Shape := ⟨1, ![1]⟩
abbrev S79 : Shape := ⟨1, ![79]⟩
abbrev S79x1 : Shape := ⟨2, ![79, 1]⟩
abbrev S1x16 : Shape := ⟨2, ![1, 16]⟩
abbrev S79x16 : Shape := ⟨2, ![79, 16]⟩
abbrev S32768x3072 : Shape := ⟨2, ![32768, 3072]⟩
abbrev S512x2816 : Shape := ⟨2, ![512, 2816]⟩
abbrev S1x3072x2816 : Shape := ⟨3, ![1, 3072, 2816]⟩
abbrev S512x3072 : Shape := ⟨2, ![512, 3072]⟩
abbrev S512x128 : Shape := ⟨2, ![512, 128]⟩
abbrev S512 : Shape := ⟨1, ![512]⟩
abbrev S512x1 : Shape := ⟨2, ![512, 1]⟩
abbrev S3072x2816 : Shape := ⟨2, ![3072, 2816]⟩
abbrev S1x3072 : Shape := ⟨2, ![1, 3072]⟩

abbrev nBuf : Space → Nat
  | .hbm => 93
  | .vmem => 9
  | .smem => 5
  | _ => 0

abbrev bufTy : (tb : Table) → Fin (tcTables nBuf tb) → BufTy
  | .hbm, ⟨0, _⟩ => ⟨S32768x2816, .bf16⟩
  | .hbm, ⟨1, _⟩ => ⟨S16, .i32⟩
  | .hbm, ⟨2, _⟩ => ⟨S16x3072x2816, .fp8e4m3⟩
  | .hbm, ⟨3, _⟩ => ⟨S16x3072, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S16, .i32⟩
  | .hbm, ⟨11, _⟩ => ⟨S_, .i32⟩
  | .hbm, ⟨12, _⟩ => ⟨S16, .i32⟩
  | .hbm, ⟨13, _⟩ => ⟨S16, .i1⟩
  | .hbm, ⟨14, _⟩ => ⟨S16, .i32⟩
  | .hbm, ⟨15, _⟩ => ⟨S16, .i32⟩
  | .hbm, ⟨16, _⟩ => ⟨S_, .i32⟩
  | .hbm, ⟨17, _⟩ => ⟨S16, .i32⟩
  | .hbm, ⟨18, _⟩ => ⟨S16, .i1⟩
  | .hbm, ⟨19, _⟩ => ⟨S16, .i1⟩
  | .hbm, ⟨20, _⟩ => ⟨S_, .i32⟩
  | .hbm, ⟨21, _⟩ => ⟨S16, .i32⟩
  | .hbm, ⟨22, _⟩ => ⟨S16, .i32⟩
  | .hbm, ⟨23, _⟩ => ⟨S16, .i32⟩
  | .hbm, ⟨24, _⟩ => ⟨S_, .i32⟩
  | .hbm, ⟨25, _⟩ => ⟨S16, .i32⟩
  | .hbm, ⟨26, _⟩ => ⟨S16, .i1⟩
  | .hbm, ⟨27, _⟩ => ⟨S_, .i32⟩
  | .hbm, ⟨28, _⟩ => ⟨S16, .i32⟩
  | .hbm, ⟨29, _⟩ => ⟨S16, .i32⟩
  | .hbm, ⟨30, _⟩ => ⟨S_, .i32⟩
  | .hbm, ⟨31, _⟩ => ⟨S16, .i32⟩
  | .hbm, ⟨32, _⟩ => ⟨S16, .i32⟩
  | .hbm, ⟨33, _⟩ => ⟨S_, .i32⟩
  | .hbm, ⟨34, _⟩ => ⟨S_, .i32⟩
  | .hbm, ⟨35, _⟩ => ⟨S16, .i32⟩
  | .hbm, ⟨36, _⟩ => ⟨S16, .i32⟩
  | .hbm, ⟨37, _⟩ => ⟨S16, .i32⟩
  | .hbm, ⟨38, _⟩ => ⟨S_, .i32⟩
  | .hbm, ⟨39, _⟩ => ⟨S16, .i32⟩
  | .hbm, ⟨40, _⟩ => ⟨S16, .i1⟩
  | .hbm, ⟨41, _⟩ => ⟨S16, .i32⟩
  | .hbm, ⟨42, _⟩ => ⟨S16, .i32⟩
  | .hbm, ⟨43, _⟩ => ⟨S_, .i32⟩
  | .hbm, ⟨44, _⟩ => ⟨S16, .i32⟩
  | .hbm, ⟨45, _⟩ => ⟨S16, .i1⟩
  | .hbm, ⟨46, _⟩ => ⟨S16, .i1⟩
  | .hbm, ⟨47, _⟩ => ⟨S_, .i32⟩
  | .hbm, ⟨48, _⟩ => ⟨S16, .i32⟩
  | .hbm, ⟨49, _⟩ => ⟨S16, .i32⟩
  | .hbm, ⟨50, _⟩ => ⟨S16, .i32⟩
  | .hbm, ⟨51, _⟩ => ⟨S16, .i32⟩
  | .hbm, ⟨52, _⟩ => ⟨S_, .i32⟩
  | .hbm, ⟨53, _⟩ => ⟨S_, .i32⟩
  | .hbm, ⟨54, _⟩ => ⟨S16, .i32⟩
  | .hbm, ⟨55, _⟩ => ⟨S16, .i32⟩
  | .hbm, ⟨56, _⟩ => ⟨S_, .i32⟩
  | .hbm, ⟨57, _⟩ => ⟨S_, .i32⟩
  | .hbm, ⟨58, _⟩ => ⟨S16, .i32⟩
  | .hbm, ⟨59, _⟩ => ⟨S79, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S79, .i32⟩
  | .hbm, ⟨64, _⟩ => ⟨S79, .i32⟩
  | .hbm, ⟨65, _⟩ => ⟨S79x1, .i32⟩
  | .hbm, ⟨66, _⟩ => ⟨S1x16, .i32⟩
  | .hbm, ⟨67, _⟩ => ⟨S79x16, .i32⟩
  | .hbm, ⟨68, _⟩ => ⟨S79x16, .i32⟩
  | .hbm, ⟨69, _⟩ => ⟨S79x16, .i1⟩
  | .hbm, ⟨70, _⟩ => ⟨S79x16, .i32⟩
  | .hbm, ⟨71, _⟩ => ⟨S_, .i32⟩
  | .hbm, ⟨72, _⟩ => ⟨S_, .i32⟩
  | .hbm, ⟨73, _⟩ => ⟨S79, .i32⟩
  | .hbm, ⟨74, _⟩ => ⟨S79, .i1⟩
  | .hbm, ⟨75, _⟩ => ⟨S_, .i32⟩
  | .hbm, ⟨76, _⟩ => ⟨S79, .i32⟩
  | .hbm, ⟨77, _⟩ => ⟨S79, .i32⟩
  | .hbm, ⟨78, _⟩ => ⟨S79, .i32⟩
  | .hbm, ⟨79, _⟩ => ⟨S79x1, .i32⟩
  | .hbm, ⟨80, _⟩ => ⟨S79, .i32⟩
  | .hbm, ⟨81, _⟩ => ⟨S79, .i32⟩
  | .hbm, ⟨82, _⟩ => ⟨S16, .i32⟩
  | .hbm, ⟨83, _⟩ => ⟨S_, .i32⟩
  | .hbm, ⟨84, _⟩ => ⟨S79, .i32⟩
  | .hbm, ⟨85, _⟩ => ⟨S79, .i1⟩
  | .hbm, ⟨86, _⟩ => ⟨S_, .i32⟩
  | .hbm, ⟨87, _⟩ => ⟨S79, .i32⟩
  | .hbm, ⟨88, _⟩ => ⟨S79, .i32⟩
  | .hbm, ⟨89, _⟩ => ⟨S79, .i32⟩
  | .hbm, ⟨90, _⟩ => ⟨S79x1, .i32⟩
  | .hbm, ⟨91, _⟩ => ⟨S79, .i32⟩
  | .hbm, ⟨92, _⟩ => ⟨S32768x3072, .bf16⟩
  | .local _ .vmem, ⟨0, _⟩ => ⟨S512x2816, .bf16⟩
  | .local _ .vmem, ⟨1, _⟩ => ⟨S512x2816, .bf16⟩
  | .local _ .vmem, ⟨2, _⟩ => ⟨S1x3072x2816, .fp8e4m3⟩
  | .local _ .vmem, ⟨3, _⟩ => ⟨S1x3072x2816, .fp8e4m3⟩
  | .local _ .vmem, ⟨4, _⟩ => ⟨S16x3072, .f32⟩
  | .local _ .vmem, ⟨5, _⟩ => ⟨S512x3072, .bf16⟩
  | .local _ .vmem, ⟨6, _⟩ => ⟨S512x3072, .bf16⟩
  | .local _ .vmem, ⟨7, _⟩ => ⟨S512x2816, .fp8e5m2⟩
  | .local _ .vmem, ⟨8, _⟩ => ⟨S512x128, .f32⟩
  | .local _ .smem, ⟨0, _⟩ => ⟨S79, .i32⟩
  | .local _ .smem, ⟨1, _⟩ => ⟨S79, .i32⟩
  | .local _ .smem, ⟨2, _⟩ => ⟨S16, .i32⟩
  | .local _ .smem, ⟨3, _⟩ => ⟨S16, .i32⟩
  | .local _ .smem, ⟨4, _⟩ => ⟨S1, .i32⟩
  | _, _ => ⟨S32768x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_c : Ref sig .tc := ⟨.hbm, 6, rfl⟩
abbrev main_call1_v0 : Ref sig .tc := ⟨.hbm, 7, rfl⟩
abbrev main_call1_v1 : Ref sig .tc := ⟨.hbm, 8, rfl⟩
abbrev main_call1_v2 : Ref sig .tc := ⟨.hbm, 9, rfl⟩
abbrev main_call1_v3 : Ref sig .tc := ⟨.hbm, 10, rfl⟩
abbrev main_call1_v4 : Ref sig .tc := ⟨.hbm, 11, rfl⟩
abbrev main_call1_v5 : Ref sig .tc := ⟨.hbm, 12, rfl⟩
abbrev main_call1_v6 : Ref sig .tc := ⟨.hbm, 13, rfl⟩
abbrev main_call1_v7 : Ref sig .tc := ⟨.hbm, 14, rfl⟩
abbrev main_call1_v8 : Ref sig .tc := ⟨.hbm, 15, rfl⟩
abbrev main_call1_c : Ref sig .tc := ⟨.hbm, 16, rfl⟩
abbrev main_call1_v9 : Ref sig .tc := ⟨.hbm, 17, rfl⟩
abbrev main_call1_v10 : Ref sig .tc := ⟨.hbm, 18, rfl⟩
abbrev main_call1_v11 : Ref sig .tc := ⟨.hbm, 19, rfl⟩
abbrev main_call1_c_0 : Ref sig .tc := ⟨.hbm, 20, rfl⟩
abbrev main_call1_v12 : Ref sig .tc := ⟨.hbm, 21, rfl⟩
abbrev main_call1_v13 : Ref sig .tc := ⟨.hbm, 22, rfl⟩
abbrev main_v2 : Ref sig .tc := ⟨.hbm, 23, rfl⟩
abbrev main_c_0 : Ref sig .tc := ⟨.hbm, 24, rfl⟩
abbrev main_v3 : Ref sig .tc := ⟨.hbm, 25, rfl⟩
abbrev main_v4 : Ref sig .tc := ⟨.hbm, 26, rfl⟩
abbrev main_c_1 : Ref sig .tc := ⟨.hbm, 27, rfl⟩
abbrev main_v5 : Ref sig .tc := ⟨.hbm, 28, rfl⟩
abbrev main_v6 : Ref sig .tc := ⟨.hbm, 29, rfl⟩
abbrev main_c_2 : Ref sig .tc := ⟨.hbm, 30, rfl⟩
abbrev main_v7 : Ref sig .tc := ⟨.hbm, 31, rfl⟩
abbrev main_v8 : Ref sig .tc := ⟨.hbm, 32, rfl⟩
abbrev main_c_3 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_c : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_0 : Ref sig .tc := ⟨.hbm, 47, rfl⟩
abbrev main_call2_v12 : Ref sig .tc := ⟨.hbm, 48, rfl⟩
abbrev main_call2_v13 : Ref sig .tc := ⟨.hbm, 49, rfl⟩
abbrev main_v9 : Ref sig .tc := ⟨.hbm, 50, rfl⟩
abbrev main_v10 : Ref sig .tc := ⟨.hbm, 51, rfl⟩
abbrev main_c_4 : Ref sig .tc := ⟨.hbm, 52, rfl⟩
abbrev main_call3_v0 : Ref sig .tc := ⟨.hbm, 53, rfl⟩
abbrev main_call3_v1 : Ref sig .tc := ⟨.hbm, 54, rfl⟩
abbrev main_v11 : Ref sig .tc := ⟨.hbm, 55, rfl⟩
abbrev main_call4_call0_c : Ref sig .tc := ⟨.hbm, 56, rfl⟩
abbrev main_call4_call0_v0 : Ref sig .tc := ⟨.hbm, 57, rfl⟩
abbrev main_v12 : Ref sig .tc := ⟨.hbm, 58, rfl⟩
abbrev main_v14 : Ref sig .tc := ⟨.hbm, 59, rfl⟩
abbrev main_v15 : Ref sig .tc := ⟨.hbm, 60, rfl⟩
abbrev main_c_5 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_c_6 : Ref sig .tc := ⟨.hbm, 71, rfl⟩
abbrev main_c_7 : Ref sig .tc := ⟨.hbm, 72, rfl⟩
abbrev main_v26 : Ref sig .tc := ⟨.hbm, 73, rfl⟩
abbrev main_v27 : Ref sig .tc := ⟨.hbm, 74, rfl⟩
abbrev main_c_8 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_c_9 : Ref sig .tc := ⟨.hbm, 83, rfl⟩
abbrev main_v35 : Ref sig .tc := ⟨.hbm, 84, rfl⟩
abbrev main_v36 : Ref sig .tc := ⟨.hbm, 85, rfl⟩
abbrev main_c_10 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v43 : Ref sig .tc := ⟨.hbm, 92, rfl⟩
abbrev main_v42 : Ref sig .tc := ⟨.smem, 0, rfl⟩
abbrev main_v25 : Ref sig .tc := ⟨.smem, 1, rfl⟩
abbrev main_v1 : Ref sig .tc := ⟨.smem, 2, rfl⟩
abbrev main_v0 : Ref sig .tc := ⟨.smem, 3, rfl⟩
abbrev main_v13 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![79], ![false]⟩

abbrev pre0 : Pipeline.Prefetch sig := ⟨5, ![main_v42.idx, main_v25.idx, main_v1.idx, main_v0.idx, main_v13.idx], fun | 0 => main_v42.names | 1 => main_v25.names | 2 => main_v1.names | 3 => main_v0.names | 4 => main_v13.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
def k0_off3 (i : grid0.Coords) : Fin 1 → Nat :=
  let arg0 : BitVec 32 := BitVec.ofNat 32 (i 0).val
  let v23 : Index := Scalar.indexCast arg0
  ![v23.toNat]
def k0_off4 (v24 : BitVec 32) : Fin 2 → Nat :=
  let v25 : Index := Scalar.indexCast v24
  let c0_10 : Index := 0#32
  ![v25.toNat, 0]
def k0_cond2 (i : grid0.Coords) (v9 : BitVec 32) : BitVec 1 :=
  let arg0 : BitVec 32 := BitVec.ofNat 32 (i 0).val
  let v10 : BitVec 1 := Scalar.cmpi .slt arg0 v9
  let v14 : BitVec 32 := Scalar.extui v10
  let c0_i32_2 : BitVec 32 := 0#32
  let v15 : BitVec 1 := Scalar.cmpi .ne v14 c0_i32_2
  v15

def k0_chk1 (i : grid0.Coords) (v9 : BitVec 32) (v24 : BitVec 32) : Prop :=
  (∀ (k0_h2 : k0_cond2 i v9 = 1#1), ∀ a, (k0_off4 v24) a + S1x3072.size a ≤ S16x3072.size a)
theorem k0_off4_inb : ∀ (i : grid0.Coords) (v9 : BitVec 32) (v24 : BitVec 32) (k0_hw1 : k0_chk1 i v9 v24), ∀ (k0_h2 : k0_cond2 i v9 = 1#1), ∀ a, (k0_off4 v24) a + S1x3072.size a ≤ S16x3072.size a := fun i v9 v24 k0_hw1 k0_h2 => k0_hw1 k0_h2

def k0_off5 (i : grid0.Coords) : Fin 1 → Nat :=
  let arg0 : BitVec 32 := BitVec.ofNat 32 (i 0).val
  let v34 : Index := Scalar.indexCast arg0
  ![v34.toNat]
def k0_off6 (v35 : BitVec 32) : Fin 1 → Nat :=
  let v36 : Index := Scalar.indexCast v35
  ![v36.toNat]

def k0_chk2 (i : grid0.Coords) (v9 : BitVec 32) (v35 : BitVec 32) : Prop :=
  (∀ (k0_h2 : k0_cond2 i v9 = 1#1), ∀ a, (k0_off6 v35) a + S1.size a ≤ S16.size a)
theorem k0_off6_inb : ∀ (i : grid0.Coords) (v9 : BitVec 32) (v35 : BitVec 32) (k0_hw2 : k0_chk2 i v9 v35), ∀ (k0_h2 : k0_cond2 i v9 = 1#1), ∀ a, (k0_off6 v35) a + S1.size a ≤ S16.size a := fun i v9 v35 k0_hw2 k0_h2 => k0_hw2 k0_h2

def k0_off7 (i : grid0.Coords) : Fin 1 → Nat :=
  let arg0 : BitVec 32 := BitVec.ofNat 32 (i 0).val
  let v40 : Index := Scalar.indexCast arg0
  ![v40.toNat]
def k0_off8 (v41 : BitVec 32) : Fin 1 → Nat :=
  let v42 : Index := Scalar.indexCast v41
  ![v42.toNat]

def k0_chk3 (i : grid0.Coords) (v9 : BitVec 32) (v41 : BitVec 32) : Prop :=
  (∀ (k0_h2 : k0_cond2 i v9 = 1#1), ∀ a, (k0_off8 v41) a + S1.size a ≤ S16.size a)
theorem k0_off8_inb : ∀ (i : grid0.Coords) (v9 : BitVec 32) (v41 : BitVec 32) (k0_hw3 : k0_chk3 i v9 v41), ∀ (k0_h2 : k0_cond2 i v9 = 1#1), ∀ a, (k0_off8 v41) a + S1.size a ≤ S16.size a := fun i v9 v41 k0_hw3 k0_h2 => k0_hw3 k0_h2

def cc0_transform_0 (k0_off1_inb : ∀ i : grid0.Coords, ∀ a, (k0_off1 i) a + S1.size a ≤ S79.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S79) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S79.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S79) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S79.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S79) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3072x2816 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32768x2816 : Shape := ⟨2, ![32768, 2816]⟩
abbrev S16 : Shape := ⟨1, ![16]⟩
abbrev S16x3072x2816 : Shape := ⟨3, ![16, 3072, 2816]⟩
abbrev S16x3072 : Shape := ⟨2, ![16, 3072]⟩
abbrev S_ : Shape := ⟨0, ![]⟩
abbrev S32768 : Shape := ⟨1, ![32768]⟩
abbrev S1x32768 : Shape := ⟨2, ![1, 32768]⟩
abbrev S16x1 : Shape := ⟨2, ![16, 1]⟩
abbrev S16x32768 : Shape := ⟨2, ![16, 32768]⟩
abbrev S32768x1 : Shape := ⟨2, ![32768, 1]⟩
abbrev S32768x3072 : Shape := ⟨2, ![32768, 3072]⟩
abbrev S1x254 : Shape := ⟨2, ![1, 254]⟩
abbrev S32768x254 : Shape := ⟨2, ![32768, 254]⟩
abbrev S1x3072x2816 : Shape := ⟨3, ![1, 3072, 2816]⟩
abbrev S3072x2816 : Shape := ⟨2, ![3072, 2816]⟩
abbrev S1x3072 : Shape := ⟨2, ![1, 3072]⟩
abbrev S3072 : Shape := ⟨1, ![3072]⟩

abbrev nBuf : Space → Nat
  | .hbm => 26
  | .vmem => 5
  | .smem => 0
  | _ => 0

abbrev bufTy : (tb : Table) → Fin (tcTables nBuf tb) → BufTy
  | .hbm, ⟨0, _⟩ => ⟨S32768x2816, .bf16⟩
  | .hbm, ⟨1, _⟩ => ⟨S16, .i32⟩
  | .hbm, ⟨2, _⟩ => ⟨S16x3072x2816, .fp8e4m3⟩
  | .hbm, ⟨3, _⟩ => ⟨S16x3072, .f32⟩
  | .hbm, ⟨4, _⟩ => ⟨S_, .i32⟩
  | .hbm, ⟨5, _⟩ => ⟨S_, .i32⟩
  | .hbm, ⟨6, _⟩ => ⟨S16, .i32⟩
  | .hbm, ⟨7, _⟩ => ⟨S32768, .i32⟩
  | .hbm, ⟨8, _⟩ => ⟨S1x32768, .i32⟩
  | .hbm, ⟨9, _⟩ => ⟨S16x1, .i32⟩
  | .hbm, ⟨10, _⟩ => ⟨S16x32768, .i32⟩
  | .hbm, ⟨11, _⟩ => ⟨S16x32768, .i32⟩
  | .hbm, ⟨12, _⟩ => ⟨S16x32768, .i1⟩
  | .hbm, ⟨13, _⟩ => ⟨S16x32768, .i32⟩
  | .hbm, ⟨14, _⟩ => ⟨S_, .i32⟩
  | .hbm, ⟨15, _⟩ => ⟨S32768, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S32768, .i32⟩
  | .hbm, ⟨20, _⟩ => ⟨S32768, .i32⟩
  | .hbm, ⟨21, _⟩ => ⟨S_, .i32⟩
  | .hbm, ⟨22, _⟩ => ⟨S32768, .i32⟩
  | .hbm, ⟨23, _⟩ => ⟨S32768, .i32⟩
  | .hbm, ⟨24, _⟩ => ⟨S32768x1, .i32⟩
  | .hbm, ⟨25, _⟩ => ⟨S32768x3072, .bf16⟩
  | .local _ .vmem, ⟨0, _⟩ => ⟨S32768x2816, .bf16⟩
  | .local _ .vmem, ⟨1, _⟩ => ⟨S32768x1, .i32⟩
  | .local _ .vmem, ⟨2, _⟩ => ⟨S16x3072x2816, .fp8e4m3⟩
  | .local _ .vmem, ⟨3, _⟩ => ⟨S16x3072, .f32⟩
  | .local _ .vmem, ⟨4, _⟩ => ⟨S32768x3072, .bf16⟩
  | _, _ => ⟨S32768x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_call1_call0_v0 : Ref sig .tc := ⟨.hbm, 8, rfl⟩
abbrev main_call1_call0_v1 : Ref sig .tc := ⟨.hbm, 9, rfl⟩
abbrev main_call1_call0_v2 : Ref sig .tc := ⟨.hbm, 10, rfl⟩
abbrev main_call1_call0_v3 : Ref sig .tc := ⟨.hbm, 11, rfl⟩
abbrev main_call1_call0_v4 : Ref sig .tc := ⟨.hbm, 12, rfl⟩
abbrev main_call1_call0_v5 : Ref sig .tc := ⟨.hbm, 13, rfl⟩
abbrev main_call1_call0_c : Ref sig .tc := ⟨.hbm, 14, rfl⟩
abbrev main_v2 : Ref sig .tc := ⟨.hbm, 15, rfl⟩
abbrev main_c : Ref sig .tc := ⟨.hbm, 16, rfl⟩
abbrev main_c_0 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S32768x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x3072x2816 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32768x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelBody.lean ====
/- What the kernel's body leaves in the output block and in its two scratch buffers at a grid point, in the three ways its two
   conditions can fall: live and to be quantised anew, live with the codes of the point before, and not live. -/
module

public import proofs.«01_k».proof.Proof.Gen.Kernel.Launch
public import proofs.«01_k».proof.Proof.Gen.Kernel.Skeleton
public import Idealize.ShloMosaic.Lib.Pipeline.FrameBody
public import Idealize.ShloMosaic.Lib.Pipeline.ValueKit.Basic
public import Idealize.ShloMosaic.Lib.Pipeline.Frame
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

abbrev tb0 : Memref sig .tc .smem S79 .i32 := Memref.whole main_v42
abbrev tb1 : Memref sig .tc .smem S79 .i32 := Memref.whole main_v25
abbrev tb2 : Memref sig .tc .smem S16 .i32 := Memref.whole main_v1
abbrev tb3 : Memref sig .tc .smem S16 .i32 := Memref.whole main_v0
abbrev tb4 : Memref sig .tc .smem S1 .i32 := Memref.whole main_v13
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp (MT nD τ sig Unit (Elt F) ℕ (UR sig nD τ) ℕ) :=
  M.view.loc (c : Thread nD τ) ↦{fullShare.right} f

/-- The word of a 79-word table at the offsets `off`. -/
abbrev wd79 (c : Dev nD) (M : Memref sig .tc .smem S79 .i32) (t : TbBuf (F := F) c M) (off : Fin 1 → Nat) (h : ∀ a, off a + S1.size a ≤ S79.size a) : Elt F .i32 :=
  M.view.readAt (Elt F) (Rect.unit (s := S79) off S1.size h).toLoadRect t (Shape.Idx.first (numel1_S1.symm ▸ Nat.one_pos))
/-- The word of a 16-word table at the offsets `off`. -/
abbrev wd16 (c : Dev nD) (M : Memref sig .tc .smem S16 .i32) (t : TbBuf (F := F) c M) (off : Fin 1 → Nat) (h : ∀ a, off a + S1.size a ≤ S16.size a) : Elt F .i32 :=
  M.view.readAt (Elt F) (Rect.unit (s := S16) off S1.size h).toLoadRect t (Shape.Idx.first (numel1_S1.symm ▸ Nat.one_pos))
/-- The word of the one-word table. -/
abbrev wd1 (c : Dev nD) (M : Memref sig .tc .smem S1 .i32) (t : TbBuf (F := F) c M) : Elt F .i32 :=
  M.view.readAt (Elt F) (Rect.unit (s := S1) ![0] S1.size inb_S1_S1_0).toLoadRect t (Shape.Idx.first (numel1_S1.symm ▸ Nat.one_pos))

/-- Whether a point is to quantise its tile: it is live, and the first or at a tile its predecessor did not have. -/
def isNew (i : grid0.Coords) (v1 v5 v9 : BitVec 32) : BitVec 1 :=
  let arg0 : BitVec 32 := BitVec.ofNat 32 (i 0).val
  Scalar.cmpi .ne (Scalar.extui (Scalar.andi (Scalar.cmpi .slt arg0 v9) (Scalar.ori (Scalar.cmpi .eq arg0 0#32) (Scalar.cmpi .ne v1 v5))) : BitVec 32) 0#32

/-- The codes of a block of rows: each row scaled by the inverse of its power of two, clipped and rounded. -/
def codesOf (x0 : Vec F S512x2816 .bf16) : Vec F S512x2816 .fp8e5m2 :=
  k0_pay1 (k0_pay10 (k0_pay4 x0) (k0_pay5 x0) (k0_pay6 x0) k0_pay7)
/-- The rows' powers of two, each repeated along 128 lanes. -/
def scalesOf (x0 : Vec F S512x2816 .bf16) : Vec F S512x128 .f32 := k0_pay2 (k0_pay9 (k0_pay5 x0) (k0_pay6 x0) k0_pay7)
/-- The first lane of the scales. -/
abbrev scaleCol (s : Vec F S512x128 .f32) : Vec F S512x1 .f32 :=
  View.ld s (Rect.unit (s := S512x128) ![0, 0] S512x1.size inb_S512x128_S512x1_0_0)

/-- Equal operands give an equal output block. -/
theorem pay3_congr {w : BitVec 32} {a a' : Vec F S512x2816 .fp8e5m2} {b b' : Vec F S1x3072x2816 .fp8e4m3} {s s' : Vec F S512x1 .f32}
    {u : Vec F S1x3072 .f32} {l h : BitVec 32} {y y' : Vec F S512x3072 .bf16} (ha : a = a') (hb : b = b') (hs : s = s') (hy : y = y') :
    k0_pay3 w a b s u l h y = k0_pay3 w a' b' s' u l h y' := by subst ha hb hs hy; rfl

/-- A live point at a new tile. -/
theorem run_new (c : Dev nD) (E : Set ℕ) (i : grid0.Coords)
    (arg6 : Memref sig .tc .vmem S512x2816 .bf16) (harg6 : arg6.IsWhole)
    (arg7 : Memref sig .tc .vmem S1x3072x2816 .fp8e4m3) (harg7 : arg7.IsWhole)
    (arg8 : Memref sig .tc .vmem S16x3072 .f32) (harg8 : arg8.IsWhole)
    (arg9 : Memref sig .tc .vmem S512x3072 .bf16) (harg9 : arg9.IsWhole)
    (arg10 : Memref sig .tc .vmem S512x2816 .fp8e5m2) (harg10 : arg10.IsWhole)
    (arg11 : Memref sig .tc .vmem S512x128 .f32) (harg11 : arg11.IsWhole)
    (t0 : TbBuf (F := F) c tb0) (t1 : TbBuf (F := F) c tb1) (t2 : TbBuf (F := F) c tb2) (t3 : TbBuf (F := F) c tb3) (t4 : TbBuf (F := F) c tb4)
    (x0 : Vec F S512x2816 .bf16) (x1 : Vec F S1x3072x2816 .fp8e4m3) (x2 : Vec F S16x3072 .f32) (x3 : Vec F S512x3072 .bf16)
    (x4 : Vec F S512x2816 .fp8e5m2) (x5 : Vec F S512x128 .f32)
    (K : PUnit → sProp (MT nD τ sig Unit (Elt F) ℕ (UR sig nD τ) ℕ))
    (hnew : isNew i (wd79 c tb0 t0 (k0_off1 i) (k0_off1_inb i)) (wd79 c tb0 t0 (k0_off2 i) (k0_off2_inb i)) (wd1 c tb4 t4) = 1#1)
    (hlive : k0_cond2 i (wd1 c tb4 t4) = 1#1)
    (hc1 : k0_chk1 i (wd1 c tb4 t4) (wd79 c tb1 t1 (k0_off3 i) (k0_off3_inb i)))
    (hc2 : k0_chk2 i (wd1 c tb4 t4) (wd79 c tb1 t1 (k0_off5 i) (k0_off5_inb i)))
    (hc3 : k0_chk3 i (wd1 c tb4 t4) (wd79 c tb1 t1 (k0_off7 i) (k0_off7_inb i))) :
    iprop(owns (c : Thread nD τ) arg6 fullShare x0 ∗ owns (c : Thread nD τ) arg7 fullShare x1
        ∗ owns (c : Thread nD τ) arg8 fullShare x2 ∗ owns (c : Thread nD τ) arg9 fullShare x3
        ∗ owns (c : Thread nD τ) arg10 fullShare x4 ∗ owns (c : Thread nD τ) arg11 fullShare x5
        ∗ tbPt c tb0 t0 ∗ tbPt c tb1 t1 ∗ tbPt c tb2 t2 ∗ tbPt c tb3 t3 ∗ tbPt c tb4 t4
        ∗ (iprop(owns (c : Thread nD τ) arg6 fullShare x0 ∗ owns (c : Thread nD τ) arg7 fullShare x1
        ∗ owns (c : Thread nD τ) arg8 fullShare x2 ∗ owns (c : Thread nD τ) arg9 fullShare (k0_pay3 (wd79 c tb0 t0 (k0_off1 i) (k0_off1_inb i)) (codesOf x0) x1 (scaleCol (scalesOf x0))
          (View.ld x2 (Rect.unit (s := S16x3072) (k0_off4 (wd79 c tb1 t1 (k0_off3 i) (k0_off3_inb i))) S1x3072.size (k0_off4_inb i _ _ hc1 hlive)))
          (wd16 c tb2 t2 (k0_off6 (wd79 c tb1 t1 (k0_off5 i) (k0_off5_inb i))) (k0_off6_inb i _ _ hc2 hlive))
          (wd16 c tb3 t3 (k0_off8 (wd79 c tb1 t1 (k0_off7 i) (k0_off7_inb i))) (k0_off8_inb i _ _ hc3 hlive)) x3)
        ∗ owns (c : Thread nD τ) arg10 fullShare (codesOf x0) ∗ owns (c : Thread nD τ) arg11 fullShare (scalesOf x0)
        ∗ tbPt c tb0 t0 ∗ tbPt c tb1 t1 ∗ tbPt c tb2 t2 ∗ tbPt c tb3 t3 ∗ tbPt c tb4 t4) -∗ K ⟨⟩))
      ⊢ wp frame (wpE (defs₀ (F := F)) Variants.none c none) E
          (cc0_moe_dgrad i tb0 (Memref.isWhole_whole _) tb1 (Memref.isWhole_whole _) tb2 (Memref.isWhole_whole _) tb3 (Memref.isWhole_whole _) tb4 (Memref.isWhole_whole _)
            arg6 harg6 arg7 harg7 arg8 harg8 arg9 harg9 arg10 harg10 arg11 harg11) K := by
  simp only [cc0_moe_dgrad_eq_skeleton]; unfold cc0_moe_dgrad_skel
  simp only [k0_part1_eq_skeleton, k0_part2_eq_skeleton]
  unfold isNew at hnew
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, HT0, HT1, HT2, HT3, HT4, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (fun y => View.cover_of_tiled _ S512x3072.size (by rfl) y)).trans ?_
    refine (View.canon_cons_unit_lit inb_S512x3072_S512x3072_0_0 _ _ (by decide)).trans ?_
    exact pay3_congr ((View.readCov_unit_lit arg10.view inb_S512x2816_S512x2816_0_0 _ (by decide)).trans (congrArg codesOf (View.ld_unit_lit inb_S512x2816_S512x2816_0_0 _ (by decide)))) (View.ld_unit_lit inb_S1x3072x2816_S1x3072x2816_0_0_0 _ (by decide)) ((View.readCov_eq_canon_ld _ _ _ (fun y => View.cover_of_tiled _ S512x128.size (by rfl) y)).trans (congrArg scaleCol ((View.canon_cons_unit_lit inb_S512x128_S512x128_0_0 _ _ (by decide)).trans (congrArg scalesOf (View.ld_unit_lit inb_S512x2816_S512x2816_0_0 _ (by decide)))))) (View.ld_unit_lit inb_S512x3072_S512x3072_0_0 _ (by decide))
  isplitl [H4]
  · iexists _; isplitr
    swap; · iexact H4
    ipureintro
    refine (View.read_writes_eq_canon _ _ _ (fun y => View.cover_of_tiled _ S512x2816.size (by rfl) y)).trans ?_
    refine (View.canon_cons_unit_lit inb_S512x2816_S512x2816_0_0 _ _ (by decide)).trans ?_
    exact congrArg codesOf (View.ld_unit_lit inb_S512x2816_S512x2816_0_0 _ (by decide))
  isplitl [H5]
  · iexists _; isplitr
    swap; · iexact H5
    ipureintro
    refine (View.read_writes_eq_canon _ _ _ (fun y => View.cover_of_tiled _ S512x128.size (by rfl) y)).trans ?_
    refine (View.canon_cons_unit_lit inb_S512x128_S512x128_0_0 _ _ (by decide)).trans ?_
    exact congrArg scalesOf (View.ld_unit_lit inb_S512x2816_S512x2816_0_0 _ (by decide))
  isplitl [HT0]; · iexact HT0
  isplitl [HT1]; · iexact HT1
  isplitl [HT2]; · iexact HT2
  isplitl [HT3]; · iexact HT3
  iexact HT4

/-- A live point at the tile of the point before. -/
theorem run_kept (c : Dev nD) (E : Set ℕ) (i : grid0.Coords)
    (arg6 : Memref sig .tc .vmem S512x2816 .bf16) (harg6 : arg6.IsWhole)
    (arg7 : Memref sig .tc .vmem S1x3072x2816 .fp8e4m3) (harg7 : arg7.IsWhole)
    (arg8 : Memref sig .tc .vmem S16x3072 .f32) (harg8 : arg8.IsWhole)
    (arg9 : Memref sig .tc .vmem S512x3072 .bf16) (harg9 : arg9.IsWhole)
    (arg10 : Memref sig .tc .vmem S512x2816 .fp8e5m2) (harg10 : arg10.IsWhole)
    (arg11 : Memref sig .tc .vmem S512x128 .f32) (harg11 : arg11.IsWhole)
    (t0 : TbBuf (F := F) c tb0) (t1 : TbBuf (F := F) c tb1) (t2 : TbBuf (F := F) c tb2) (t3 : TbBuf (F := F) c tb3) (t4 : TbBuf (F := F) c tb4)
    (x0 : Vec F S512x2816 .bf16) (x1 : Vec F S1x3072x2816 .fp8e4m3) (x2 : Vec F S16x3072 .f32) (x3 : Vec F S512x3072 .bf16)
    (x4 : Vec F S512x2816 .fp8e5m2) (x5 : Vec F S512x128 .f32)
    (K : PUnit → sProp (MT nD τ sig Unit (Elt F) ℕ (UR sig nD τ) ℕ))
    (hnew : ¬isNew i (wd79 c tb0 t0 (k0_off1 i) (k0_off1_inb i)) (wd79 c tb0 t0 (k0_off2 i) (k0_off2_inb i)) (wd1 c tb4 t4) = 1#1)
    (hlive : k0_cond2 i (wd1 c tb4 t4) = 1#1)
    (hc1 : k0_chk1 i (wd1 c tb4 t4) (wd79 c tb1 t1 (k0_off3 i) (k0_off3_inb i)))
    (hc2 : k0_chk2 i (wd1 c tb4 t4) (wd79 c tb1 t1 (k0_off5 i) (k0_off5_inb i)))
    (hc3 : k0_chk3 i (wd1 c tb4 t4) (wd79 c tb1 t1 (k0_off7 i) (k0_off7_inb i))) :
    iprop(owns (c : Thread nD τ) arg6 fullShare x0 ∗ owns (c : Thread nD τ) arg7 fullShare x1
        ∗ owns (c : Thread nD τ) arg8 fullShare x2 ∗ owns (c : Thread nD τ) arg9 fullShare x3
        ∗ owns (c : Thread nD τ) arg10 fullShare x4 ∗ owns (c : Thread nD τ) arg11 fullShare x5
        ∗ tbPt c tb0 t0 ∗ tbPt c tb1 t1 ∗ tbPt c tb2 t2 ∗ tbPt c tb3 t3 ∗ tbPt c tb4 t4
        ∗ (iprop(owns (c : Thread nD τ) arg6 fullShare x0 ∗ owns (c : Thread nD τ) arg7 fullShare x1
        ∗ owns (c : Thread nD τ) arg8 fullShare x2 ∗ owns (c : Thread nD τ) arg9 fullShare (k0_pay3 (wd79 c tb0 t0 (k0_off1 i) (k0_off1_inb i)) x4 x1 (scaleCol x5)
          (View.ld x2 (Rect.unit (s := S16x3072) (k0_off4 (wd79 c tb1 t1 (k0_off3 i) (k0_off3_inb i))) S1x3072.size (k0_off4_inb i _ _ hc1 hlive)))
          (wd16 c tb2 t2 (k0_off6 (wd79 c tb1 t1 (k0_off5 i) (k0_off5_inb i))) (k0_off6_inb i _ _ hc2 hlive))
          (wd16 c tb3 t3 (k0_off8 (wd79 c tb1 t1 (k0_off7 i) (k0_off7_inb i))) (k0_off8_inb i _ _ hc3 hlive)) x3)
        ∗ owns (c : Thread nD τ) arg10 fullShare x4 ∗ owns (c : Thread nD τ) arg11 fullShare x5
        ∗ tbPt c tb0 t0 ∗ tbPt c tb1 t1 ∗ tbPt c tb2 t2 ∗ tbPt c tb3 t3 ∗ tbPt c tb4 t4) -∗ K ⟨⟩))
      ⊢ wp frame (wpE (defs₀ (F := F)) Variants.none c none) E
          (cc0_moe_dgrad i tb0 (Memref.isWhole_whole _) tb1 (Memref.isWhole_whole _) tb2 (Memref.isWhole_whole _) tb3 (Memref.isWhole_whole _) tb4 (Memref.isWhole_whole _)
            arg6 harg6 arg7 harg7 arg8 harg8 arg9 harg9 arg10 harg10 arg11 harg11) K := by
  simp only [cc0_moe_dgrad_eq_skeleton]; unfold cc0_moe_dgrad_skel
  simp only [k0_part1_eq_skeleton, k0_part2_eq_skeleton]
  unfold isNew at hnew
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, HT0, HT1, HT2, HT3, HT4, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (fun y => View.cover_of_tiled _ S512x3072.size (by rfl) y)).trans ?_
    refine (View.canon_cons_unit_lit inb_S512x3072_S512x3072_0_0 _ _ (by decide)).trans ?_
    exact pay3_congr (View.ld_unit_lit inb_S512x2816_S512x2816_0_0 _ (by decide)) (View.ld_unit_lit inb_S1x3072x2816_S1x3072x2816_0_0_0 _ (by decide)) rfl (View.ld_unit_lit inb_S512x3072_S512x3072_0_0 _ (by decide))
  isplitl [H4]
  · iexists f4; isplitr; · ipureintro; rfl
    iexact H4
  isplitl [H5]
  · iexists f5; isplitr; · ipureintro; rfl
    iexact H5
  isplitl [HT0]; · iexact HT0
  isplitl [HT1]; · iexact HT1
  isplitl [HT2]; · iexact HT2
  isplitl [HT3]; · iexact HT3
  iexact HT4

/-- A point that is not live. -/
theorem run_idle (c : Dev nD) (E : Set ℕ) (i : grid0.Coords)
    (arg6 : Memref sig .tc .vmem S512x2816 .bf16) (harg6 : arg6.IsWhole)
    (arg7 : Memref sig .tc .vmem S1x3072x2816 .fp8e4m3) (harg7 : arg7.IsWhole)
    (arg8 : Memref sig .tc .vmem S16x3072 .f32) (harg8 : arg8.IsWhole)
    (arg9 : Memref sig .tc .vmem S512x3072 .bf16) (harg9 : arg9.IsWhole)
    (arg10 : Memref sig .tc .vmem S512x2816 .fp8e5m2) (harg10 : arg10.IsWhole)
    (arg11 : Memref sig .tc .vmem S512x128 .f32) (harg11 : arg11.IsWhole)
    (t0 : TbBuf (F := F) c tb0) (t1 : TbBuf (F := F) c tb1) (t2 : TbBuf (F := F) c tb2) (t3 : TbBuf (F := F) c tb3) (t4 : TbBuf (F := F) c tb4)
    (x0 : Vec F S512x2816 .bf16) (x1 : Vec F S1x3072x2816 .fp8e4m3) (x2 : Vec F S16x3072 .f32) (x3 : Vec F S512x3072 .bf16)
    (x4 : Vec F S512x2816 .fp8e5m2) (x5 : Vec F S512x128 .f32)
    (K : PUnit → sProp (MT nD τ sig Unit (Elt F) ℕ (UR sig nD τ) ℕ))
    (hnew : ¬isNew i (wd79 c tb0 t0 (k0_off1 i) (k0_off1_inb i)) (wd79 c tb0 t0 (k0_off2 i) (k0_off2_inb i)) (wd1 c tb4 t4) = 1#1)
    (hlive : ¬k0_cond2 i (wd1 c tb4 t4) = 1#1) :
    iprop(owns (c : Thread nD τ) arg6 fullShare x0 ∗ owns (c : Thread nD τ) arg7 fullShare x1
        ∗ owns (c : Thread nD τ) arg8 fullShare x2 ∗ owns (c : Thread nD τ) arg9 fullShare x3
        ∗ owns (c : Thread nD τ) arg10 fullShare x4 ∗ owns (c : Thread nD τ) arg11 fullShare x5
        ∗ tbPt c tb0 t0 ∗ tbPt c tb1 t1 ∗ tbPt c tb2 t2 ∗ tbPt c tb3 t3 ∗ tbPt c tb4 t4
        ∗ (iprop(owns (c : Thread nD τ) arg6 fullShare x0 ∗ owns (c : Thread nD τ) arg7 fullShare x1
        ∗ owns (c : Thread nD τ) arg8 fullShare x2 ∗ owns (c : Thread nD τ) arg9 fullShare x3
        ∗ owns (c : Thread nD τ) arg10 fullShare x4 ∗ owns (c : Thread nD τ) arg11 fullShare x5
        ∗ tbPt c tb0 t0 ∗ tbPt c tb1 t1 ∗ tbPt c tb2 t2 ∗ tbPt c tb3 t3 ∗ tbPt c tb4 t4) -∗ K ⟨⟩))
      ⊢ wp frame (wpE (defs₀ (F := F)) Variants.none c none) E
          (cc0_moe_dgrad i tb0 (Memref.isWhole_whole _) tb1 (Memref.isWhole_whole _) tb2 (Memref.isWhole_whole _) tb3 (Memref.isWhole_whole _) tb4 (Memref.isWhole_whole _)
            arg6 harg6 arg7 harg7 arg8 harg8 arg9 harg9 arg10 harg10 arg11 harg11) K := by
  simp only [cc0_moe_dgrad_eq_skeleton]; unfold cc0_moe_dgrad_skel
  simp only [k0_part1_eq_skeleton, k0_part2_eq_skeleton]
  unfold isNew at hnew
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, HT0, HT1, HT2, HT3, HT4, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [HT0]; · iexact HT0
  isplitl [HT1]; · iexact HT1
  isplitl [HT2]; · iexact HT2
  isplitl [HT3]; · iexact HT3
  iexact HT4

end Cert.Kernel.Run

end
-- ==== Proof.KernelTab.lean ====
/- The kernel's prefetched tables as the region finds them, the facts of them its certificate uses (`Tab`), and the pipeline at them. -/
module

public import proofs.«01_k».proof.Proof.KernelBody
public import Idealize.ShloMosaic.Lib.Affine

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]
variable (m : (ℓ : Loc nD τ sig) → Buf (Elt F) ℓ)

/-- What every buffer holds when the region is entered: the launch contents after the lines before it. -/
def V (c : Dev nD) (b : Ref sig .tc) : Buf (Elt F) ((c.tc : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 800000 in
/-- The program up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No line before the region writes an argument. -/
theorem V_arg (b : Ref sig .tc) (hb : b = main_arg0 ∨ b = main_arg1 ∨ b = main_arg2 ∨ b = main_arg3) (c : Dev nD) :
    V m c b = m ((c : Thread nD τ).loc b) :=
  StableHlo.after_of_forall_not_mem (b := Proc.devRef .tc b) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    rcases hb with rfl | rfl | rfl | rfl
    all_goals
      repeat' apply And.intro
      all_goals exact StableHlo.devRef_ne_of_ne (by decide)))

/-- The tables' contents (there is one device). -/
def tbl : pre0.Contents (Elt F) := fun j => V m (0 : Dev nD) (pre0.ref j)
theorem V_pre (c : Dev nD) (j : Fin 5) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The index of word `n` of a table. -/
def ix79 (n : Fin 79) : S79.Idx := fun a => ⟨n.val, by obtain rfl : a = 0 := Subsingleton.elim _ _; exact n.isLt⟩
def ix16 (e : Fin 16) : S16.Idx := fun a => ⟨e.val, by obtain rfl : a = 0 := Subsingleton.elim _ _; exact e.isLt⟩
def ix1 : S1.Idx := fun a => ⟨0, by obtain rfl : a = 0 := Subsingleton.elim _ _; exact Nat.one_pos⟩

/-- The words of the tables: a pair's tile and expert, an expert's first row and the row after its last, the number of pairs. -/
def wTile (n : Fin 79) : BitVec 32 := (V m 0 main_v42 : S79.Idx → BitVec 32) (ix79 n)
def wEx (n : Fin 79) : BitVec 32 := (V m 0 main_v25 : S79.Idx → BitVec 32) (ix79 n)
def wStart (e : Fin 16) : BitVec 32 := (V m 0 main_v1 : S16.Idx → BitVec 32) (ix16 e)
def wEnd (e : Fin 16) : BitVec 32 := (V m 0 main_v0 : S16.Idx → BitVec 32) (ix16 e)
def wCount : BitVec 32 := (V m 0 main_v13 : S1.Idx → BitVec 32) ix1

/-- What the certificate uses of the tables: they hold small numbers, the tiles do not decrease, an expert's rows are those
    the kernel's two bounds admit, and each row's tile is paired with the row's expert at some live point. -/
structure Tab where
  tile : Nat → Nat
  ex : Nat → Nat
  st : Nat → Nat
  en : Nat → Nat
  cnt : Nat
  rowEx : Nat → Nat
  hT : ∀ n : Fin 79, wTile m n = BitVec.ofNat 32 (tile n)
  hE : ∀ n : Fin 79, wEx m n = BitVec.ofNat 32 (ex n)
  hS : ∀ e : Fin 16, wStart m e = BitVec.ofNat 32 (st e)
  hD : ∀ e : Fin 16, wEnd m e = BitVec.ofNat 32 (en e)
  hC : wCount m = BitVec.ofNat 32 cnt
  tile_lt : ∀ n, n < 79 → tile n < 64
  ex_lt : ∀ n, n < 79 → ex n < 16
  tile_mono : ∀ n, n + 1 < 79 → tile n ≤ tile (n + 1)
  cnt_le : cnt ≤ 79
  st_le : ∀ e, e < 16 → st e ≤ 32768
  en_le : ∀ e, e < 16 → en e ≤ 32768
  mine : ∀ e, e < 16 → ∀ r, r < 32768 → ((st e ≤ r ∧ r < en e) ↔ rowEx r = e)
  cover : ∀ r, r < 32768 → ∃ n, n < cnt ∧ tile n = r / 512 ∧ ex n = rowEx r

variable {m}

theorem rect_first_79 (n : Nat) (hn : n < 79) (off : Fin 1 → Nat) (h : ∀ a, off a + S1.size a ≤ S79.size a) (ho : off 0 = n) :
    (Rect.unit (s := S79) off S1.size h).emb (Shape.Idx.first (numel1_S1.symm ▸ Nat.one_pos)) = ix79 ⟨n, hn⟩ := by
  funext a; obtain rfl : a = 0 := Subsingleton.elim _ _
  apply Fin.ext
  show off 0 + 1 * 0 = n
  omega
theorem rect_first_16 (n : Nat) (hn : n < 16) (off : Fin 1 → Nat) (h : ∀ a, off a + S1.size a ≤ S16.size a) (ho : off 0 = n) :
    (Rect.unit (s := S16) off S1.size h).emb (Shape.Idx.first (numel1_S1.symm ▸ Nat.one_pos)) = ix16 ⟨n, hn⟩ := by
  funext a; obtain rfl : a = 0 := Subsingleton.elim _ _
  apply Fin.ext
  show off 0 + 1 * 0 = n
  omega

/-- The point's number. -/
abbrev pt (i : grid0.Coords) : Fin 79 := i 0

theorem ofNat_pt (i : grid0.Coords) : (BitVec.ofNat 32 (i 0).val).toNat = (pt i).val := by
  have h : (i 0).val < 79 := (pt i).isLt
  show (i 0).val % 2 ^ 32 = (i 0).val
  exact Nat.mod_eq_of_lt (by omega)
theorem off1_eq (i : grid0.Coords) : k0_off1 i 0 = (pt i).val := ofNat_pt i

theorem tr0_eq (T : Tab m) (i : grid0.Coords) : cc0_transform_0 k0_off1_inb numel1_S1 (tbl m) i = ![T.tile (pt i), 0] := by
  have h := T.tile_lt (pt i) (pt i).isLt
  have e : (tbl m).at 0 (Rect.unit (s := S79) ![(Scalar.indexCast (BitVec.ofNat 32 (i 0).val)).toNat] S1.size (k0_off1_inb i)) numel1_S1
      = BitVec.ofNat 32 (T.tile (pt i)) := by
    rw [← T.hT (pt i)]
    exact congrArg (V m 0 main_v42 : S79.Idx → BitVec 32) (rect_first_79 _ (pt i).isLt _ _ (ofNat_pt i))
  have e2 : (BitVec.ofNat 32 (T.tile (pt i))).toNat = T.tile (pt i) := Nat.mod_eq_of_lt (by omega)
  unfold cc0_transform_0
  dsimp only
  rw [e, e2]; rfl
theorem tr3_eq (T : Tab m) (i : grid0.Coords) : cc0_transform_3 k0_off1_inb numel1_S1 (tbl m) i = ![T.tile (pt i), 0] := tr0_eq T i
theorem tr1_eq (T : Tab m) (i : grid0.Coords) : cc0_transform_1 k0_off1_inb numel1_S1 (tbl m) i = ![T.ex (pt i), 0, 0] := by
  have h := T.ex_lt (pt i) (pt i).isLt
  have e : (tbl m).at 1 (Rect.unit (s := S79) ![(Scalar.indexCast (BitVec.ofNat 32 (i 0).val)).toNat] S1.size (k0_off1_inb i)) numel1_S1
      = BitVec.ofNat 32 (T.ex (pt i)) := by
    rw [← T.hE (pt i)]
    exact congrArg (V m 0 main_v25 : S79.Idx → BitVec 32) (rect_first_79 _ (pt i).isLt _ _ (ofNat_pt i))
  have e2 : (BitVec.ofNat 32 (T.ex (pt i))).toNat = T.ex (pt i) := Nat.mod_eq_of_lt (by omega)
  unfold cc0_transform_1
  dsimp only
  rw [e, e2]; rfl

/-- Every block lies in its array and moves whole words. -/
theorem okM (T : Tab m) : Ok m := by
  refine ⟨fun i => ?_, fun i => ?_, fun i => ?_⟩
  · have h := T.tile_lt (pt i) (pt i).isLt
    refine ⟨?_, .inr (Affine.block_words_dvd (by decide) (by decide))⟩
    rw [tr0_eq T i]; intro a
    match a with
    | 0 => show (T.tile (pt i) + 1) * 512 ≤ 32768; omega
    | 1 => exact Nat.le_of_eq (Nat.one_mul _)
  · have h := T.ex_lt (pt i) (pt i).isLt
    refine ⟨?_, .inr (Affine.block_words_dvd (by decide) (by decide))⟩
    rw [tr1_eq T i]; intro a
    match a with
    | 0 => show (T.ex (pt i) + 1) * 1 ≤ 16; omega
    | 1 => exact Nat.le_of_eq (Nat.one_mul _)
    | 2 => exact Nat.le_of_eq (Nat.one_mul _)
  · have h := T.tile_lt (pt i) (pt i).isLt
    refine ⟨?_, .inr (Affine.block_words_dvd (by decide) (by decide))⟩
    rw [tr3_eq T i]; intro a
    match a with
    | 0 => show (T.tile (pt i) + 1) * 512 ≤ 32768; omega
    | 1 => exact Nat.le_of_eq (Nat.one_mul _)

theorem s1_idx (j : S1.Idx) : j = ix1 := funext fun a => match a with | 0 => Subsingleton.elim (α := Fin 1) _ _

/-- The body's words: the tile's at a point, its expert's, and the bounds at an expert's number. -/
theorem wd_tile (T : Tab m) (i : grid0.Coords) (off : Fin 1 → Nat) (h : ∀ a, off a + S1.size a ≤ S79.size a) (n : Nat) (hn : n < 79) (ho : off 0 = n) :
    wd79 0 tb0 (tbl m 0) off h = BitVec.ofNat 32 (T.tile n) :=
  (congrArg (V m 0 main_v42 : S79.Idx → BitVec 32) (rect_first_79 n hn _ _ ho)).trans (T.hT ⟨n, hn⟩)
theorem wd_ex (T : Tab m) (i : grid0.Coords) (off : Fin 1 → Nat) (h : ∀ a, off a + S1.size a ≤ S79.size a) (n : Nat) (hn : n < 79) (ho : off 0 = n) :
    wd79 0 tb1 (tbl m 1) off h = BitVec.ofNat 32 (T.ex n) :=
  (congrArg (V m 0 main_v25 : S79.Idx → BitVec 32) (rect_first_79 n hn _ _ ho)).trans (T.hE ⟨n, hn⟩)
theorem wd_start (T : Tab m) (off : Fin 1 → Nat) (h : ∀ a, off a + S1.size a ≤ S16.size a) (n : Nat) (hn : n < 16) (ho : off 0 = n) :
    wd16 0 tb2 (tbl m 2) off h = BitVec.ofNat 32 (T.st n) :=
  (congrArg (V m 0 main_v1 : S16.Idx → BitVec 32) (rect_first_16 n hn _ _ ho)).trans (T.hS ⟨n, hn⟩)
theorem wd_end (T : Tab m) (off : Fin 1 → Nat) (h : ∀ a, off a + S1.size a ≤ S16.size a) (n : Nat) (hn : n < 16) (ho : off 0 = n) :
    wd16 0 tb3 (tbl m 3) off h = BitVec.ofNat 32 (T.en n) :=
  (congrArg (V m 0 main_v0 : S16.Idx → BitVec 32) (rect_first_16 n hn _ _ ho)).trans (T.hD ⟨n, hn⟩)
theorem wd_count (T : Tab m) : wd1 0 tb4 (tbl m 4) = BitVec.ofNat 32 T.cnt :=
  (congrArg (V m 0 main_v13 : S1.Idx → BitVec 32) (s1_idx _)).trans T.hC

theorem slt_bit : ∀ n : Fin 79, ∀ k : Fin 80, Scalar.cmpi .slt (BitVec.ofNat 32 n.val) (BitVec.ofNat 32 k.val) = BitVec.ofBool (decide (n.val < k.val)) := by
  decide +kernel
theorem ofBool_eq_one (p : Prop) [Decidable p] : BitVec.ofBool (decide p) = 1#1 ↔ p := by by_cases h : p <;> simp [h]
theorem wide_bit : ∀ x : BitVec 1, Scalar.cmpi .ne (Scalar.extui x : BitVec 32) 0#32 = x := by decide
theorem and_bit : ∀ x y : BitVec 1, Scalar.andi x y = 1#1 ↔ x = 1#1 ∧ y = 1#1 := by decide
theorem or_bit : ∀ x y : BitVec 1, Scalar.ori x y = 1#1 ↔ x = 1#1 ∨ y = 1#1 := by decide
theorem eq_bit (a b : BitVec 32) : Scalar.cmpi .eq a b = 1#1 ↔ a = b := by
  show BitVec.ofBool (decide (a = b)) = 1#1 ↔ _
  exact ofBool_eq_one _
theorem ne_bit (a b : BitVec 32) : Scalar.cmpi .ne a b = 1#1 ↔ a ≠ b := by
  show BitVec.ofBool (a != b) = 1#1 ↔ _
  by_cases h : a = b
  · subst h; simp
  · have e : (a != b) = true := by simpa using h
    rw [e]; simp [h]

/-- The body's second condition: the point is one of the pairs. -/
theorem cond2_iff (T : Tab m) (i : grid0.Coords) : k0_cond2 i (BitVec.ofNat 32 T.cnt) = 1#1 ↔ (pt i).val < T.cnt := by
  have hc := T.cnt_le
  have e := slt_bit (pt i) ⟨T.cnt, by omega⟩
  show Scalar.cmpi .ne (Scalar.extui (Scalar.cmpi .slt (BitVec.ofNat 32 (pt i).val) (BitVec.ofNat 32 T.cnt)) : BitVec 32) 0#32 = 1#1 ↔ _
  rw [wide_bit, e, ofBool_eq_one]

/-- Its first condition: besides, the point is the first or its tile is not its predecessor's. -/
theorem isNew_iff (T : Tab m) (i : grid0.Coords) (a b : Nat) (ha : a < 64) (hb : b < 64) :
    isNew i (BitVec.ofNat 32 a) (BitVec.ofNat 32 b) (BitVec.ofNat 32 T.cnt) = 1#1 ↔ (pt i).val < T.cnt ∧ ((pt i).val = 0 ∨ a ≠ b) := by
  have hc := T.cnt_le
  have h0 := (pt i).isLt
  have e := slt_bit (pt i) ⟨T.cnt, by omega⟩
  show Scalar.cmpi .ne (Scalar.extui (Scalar.andi (Scalar.cmpi .slt (BitVec.ofNat 32 (pt i).val) (BitVec.ofNat 32 T.cnt))
    (Scalar.ori (Scalar.cmpi .eq (BitVec.ofNat 32 (pt i).val) (BitVec.ofNat 32 0)) (Scalar.cmpi .ne (BitVec.ofNat 32 a) (BitVec.ofNat 32 b)))) : BitVec 32) 0#32 = 1#1 ↔ _
  rw [wide_bit, and_bit, or_bit, e, ofBool_eq_one, eq_bit, ne_bit]
  generalize (pt i).val = n at *
  rw [WordCmp.ofNat_eq_ofNat_iff (by omega) (by omega), Ne, WordCmp.ofNat_eq_ofNat_iff (by omega) (by omega)]

/-- The predecessor's number, as the body computes it. -/
theorem off2_eq (i : grid0.Coords) : k0_off2 i 0 = (pt i).val - 1 := by
  have e : ∀ n : Fin 79, (Scalar.indexCast (Scalar.maxsi (Scalar.subi (BitVec.ofNat 32 n.val) 1#32) 0#32)).toNat = n.val - 1 := by decide +kernel
  exact e (pt i)

end Cert.Kernel.Run

end
-- ==== Proof.KernelRun.lean ====
/- The kernel's run: its proof data over the tables (what each point leaves in the output block, what the scratch buffers hold between
   points), the body obligation, and the launch. -/
module

public import proofs.«01_k».proof.Proof.KernelTab

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.Kernel Cert.Kernel.Gen

variable {F : FTy → Type} [FloatOps F]
variable (m : (ℓ : Loc nD τ sig) → Buf (Elt F) ℓ)

/-- Rows `512 t …` of the first operand. -/
def dyAt (t : Nat) : Vec F S512x2816 .bf16 := fun x =>
  (V m 0 main_arg0 : S32768x2816.Idx → F .bf16) fun | 0 => ⟨(t * 512 + (x 0).val) % 32768, Nat.mod_lt _ (by decide)⟩ | 1 => ⟨(x 1).val, (x 1).isLt⟩
/-- Expert `e`'s weights. -/
def wAt (e : Nat) : Vec F S1x3072x2816 .fp8e4m3 := fun x =>
  (V m 0 main_arg2 : S16x3072x2816.Idx → F .fp8e4m3) fun | 0 => ⟨e % 16, Nat.mod_lt _ (by decide)⟩ | 1 => ⟨(x 1).val, (x 1).isLt⟩ | 2 => ⟨(x 2).val, (x 2).isLt⟩
/-- Expert `e`'s weight scales. -/
def wsAt (e : Nat) : Vec F S1x3072 .f32 := fun x =>
  (V m 0 main_arg3 : S16x3072.Idx → F .f32) fun | 0 => ⟨e % 16, Nat.mod_lt _ (by decide)⟩ | 1 => ⟨(x 1).val, (x 1).isLt⟩

/-- The block of products of tile `t`'s rows with expert `e`'s weights, scaled. -/
def valAt (t e : Nat) : Vec F S512x3072 .bf16 :=
  truncf .bf16 (mulf (mulf (matmul dot_S512x2816_S3072x2816_S512x3072_1_1_0_0_n_n none (codesOf (dyAt m t))
    (shapeCast S3072x2816 (wAt m e) shapeCasts_S1x3072x2816_S3072x2816) (constant S512x3072 .f32 0x00000000#32))
    (broadcastTo S512x3072 (scaleCol (scalesOf (dyAt m t))) broadcasts_S512x1_S512x3072))
    (broadcastTo S512x3072 (wsAt m e) broadcasts_S1x3072_S512x3072)) bitsLt_bf16_f32

variable {m}

/-- What point `n` leaves in the output block it found at `Y`. -/
def outAt (T : Tab m) (n : Nat) (Y : Vec F S512x3072 .bf16) : Vec F S512x3072 .bf16 :=
  if n < T.cnt then
    k0_pay3 (BitVec.ofNat 32 (T.tile n)) (codesOf (dyAt m (T.tile n))) (wAt m (T.ex n)) (scaleCol (scalesOf (dyAt m (T.tile n)))) (wsAt m (T.ex n))
      (BitVec.ofNat 32 (T.st (T.ex n))) (BitVec.ofNat 32 (T.en (T.ex n))) Y
  else Y

/-- What the scratch buffers hold before point `n`: after a live point, the codes and the scales of its tile. -/
def ScrOk (T : Tab m) (n : Nat) (x4 : Vec F S512x2816 .fp8e5m2) (x5 : Vec F S512x128 .f32) : Prop :=
  ∀ k, n = k + 1 → k < T.cnt → x4 = codesOf (dyAt m (T.tile k)) ∧ x5 = scalesOf (dyAt m (T.tile k))

abbrev scr0 : Memref sig .tc .vmem S512x2816 .fp8e5m2 := Memref.whole cc0_scratch0
abbrev scr1 : Memref sig .tc .vmem S512x128 .f32 := Memref.whole cc0_scratch1

/-- The tables' halves and the generator's register, which the body leaves as they are. -/
def PhiR (m : (ℓ : Loc nD τ sig) → Buf (Elt F) ℓ) (c : Dev nD) : sProp (MT nD τ sig Unit (Elt F) ℕ (UR sig nD τ) ℕ) :=
  iprop((∃ r, prngReg c r) ∗ Pipeline.ΦT pre0 (tbl m) c)

/-- The proof data. -/
def rdat (T : Tab m) (c : Dev nD) : RDat τ (Elt F) Unit ℕ (UR sig nD τ) ℕ (cfgM m (okM T)) c where
  A w := V m c (Pipeline.arrRef spec0 w)
  after := fun
    | 0 => fun t Y X => X = Y
    | 1 => fun t Y X => X = Y
    | 2 => fun t Y X => X = Y
    | 3 => fun t Y X => X = outAt T t.val Y
    | ⟨_ + 4, h⟩ => absurd h (Nat.not_lt.2 (Nat.le_add_left _ _))
  Φ n := iprop((∃ x4 x5, ⌜ScrOk T n.val x4 x5⌝ ∗ owns (c : Thread nD τ) scr0 fullShare x4 ∗ owns (c : Thread nD τ) scr1 fullShare x5) ∗ PhiR m c)
  q := fun _ => fullShare
  owed := fun _ => 0

theorem coords_val : ∀ t : Fin grid0.N, (grid0.coords t 0).val = t.val := by decide +kernel

theorem bound_val (T : Tab m) (t : Fin (cfgM m (okM T)).N) : t.val < 79 := Nat.lt_of_lt_of_eq t.isLt N_0

/-- A fetch fills the whole block, no block being cut. -/
theorem fetched_blk (T : Tab m) (w : Fin 4) (t : Fin (cfgM m (okM T)).N) (d) (x) :
    (rdat T 0).fetched w t d x = (rdat T 0).blockOf w t fun a => ⟨(x a).val, (x a).isLt⟩ := by
  have hm : ((cfgM m (okM T)).win w).moved ((cfgM m (okM T)).grid.coords t) x = true :=
    (((cfgM m (okM T)).win w).moved_iff _ x).mpr fun a => (x a).isLt
  unfold RDat.fetched Pipeline.Window.fill
  rw [dif_pos hm]

/-- Window 0's block number at a point. -/
def ixs0 (T : Tab m) (t : Fin (cfgM m (okM T)).N) : Fin 2 → Nat := ((cfgM m (okM T)).win 0).index t
theorem index0 (T : Tab m) (t : Fin (cfgM m (okM T)).N) : ixs0 T t = ![T.tile t.val, 0] := by
  show cc0_transform_0 k0_off1_inb numel1_S1 (tbl m) (grid0.coords t) = _
  rw [tr0_eq T, coords_val]
/-- Window 1's block number at a point. -/
def ixs1 (T : Tab m) (t : Fin (cfgM m (okM T)).N) : Fin 3 → Nat := ((cfgM m (okM T)).win 1).index t
theorem index1 (T : Tab m) (t : Fin (cfgM m (okM T)).N) : ixs1 T t = ![T.ex t.val, 0, 0] := by
  show cc0_transform_1 k0_off1_inb numel1_S1 (tbl m) (grid0.coords t) = _
  rw [tr1_eq T, coords_val]
/-- Window 3's block number at a point. -/
def ixs3 (T : Tab m) (t : Fin (cfgM m (okM T)).N) : Fin 2 → Nat := ((cfgM m (okM T)).win 3).index t
theorem index3 (T : Tab m) (t : Fin (cfgM m (okM T)).N) : ixs3 T t = ![T.tile t.val, 0] := by
  show cc0_transform_3 k0_off1_inb numel1_S1 (tbl m) (grid0.coords t) = _
  rw [tr3_eq T, coords_val]

/-- The block of an input at a point is the rows its tile or expert names. -/
theorem blk0 (T : Tab m) (t : Fin (cfgM m (okM T)).N) (d) : (rdat T 0).fetched 0 t d = dyAt m (T.tile t.val) := by
  have hl := T.tile_lt _ (bound_val T t)
  have hix := index0 T t
  funext (x : S512x2816.Idx)
  refine (fetched_blk T 0 t d x).trans ?_
  refine congrArg (V m 0 main_arg0 : S32768x2816.Idx → F .bf16) (funext fun a : Fin 2 => Fin.ext ?_)
  have hx0 : (x 0).val < 512 := (x 0).isLt
  match a with
  | 0 =>
    have h0 : ixs0 T t 0 = T.tile t.val := congrFun hix 0
    refine Eq.trans (b := ixs0 T t 0 * 512 + 1 * (x 0).val) rfl ?_
    show _ = (T.tile t.val * 512 + (x 0).val) % 32768
    rw [h0]; omega
  | 1 =>
    have h1 : ixs0 T t 1 = 0 := congrFun hix 1
    refine Eq.trans (b := ixs0 T t 1 * 2816 + 1 * (x 1).val) rfl ?_
    show _ = (x 1).val
    rw [h1]; omega

theorem blk1 (T : Tab m) (t : Fin (cfgM m (okM T)).N) (d) : (rdat T 0).fetched 1 t d = wAt m (T.ex t.val) := by
  have hl := T.ex_lt _ (bound_val T t)
  have hix := index1 T t
  funext (x : S1x3072x2816.Idx)
  refine (fetched_blk T 1 t d x).trans ?_
  refine congrArg (V m 0 main_arg2 : S16x3072x2816.Idx → F .fp8e4m3) (funext fun a : Fin 3 => Fin.ext ?_)
  have hx0 : (x 0).val < 1 := (x 0).isLt
  match a with
  | 0 =>
    have h0 : ixs1 T t 0 = T.ex t.val := congrFun hix 0
    refine Eq.trans (b := ixs1 T t 0 * 1 + 1 * (x 0).val) rfl ?_
    show _ = T.ex t.val % 16
    rw [h0]; omega
  | 1 =>
    have h1 : ixs1 T t 1 = 0 := congrFun hix 1
    refine Eq.trans (b := ixs1 T t 1 * 3072 + 1 * (x 1).val) rfl ?_
    show _ = (x 1).val
    rw [h1]; omega
  | 2 =>
    have h2 : ixs1 T t 2 = 0 := congrFun hix 2
    refine Eq.trans (b := ixs1 T t 2 * 2816 + 1 * (x 2).val) rfl ?_
    show _ = (x 2).val
    rw [h2]; omega

theorem blk2 (T : Tab m) (t : Fin (cfgM m (okM T)).N) (d) : (rdat T 0).fetched 2 t d = (V m 0 main_arg3 : S16x3072.Idx → F .f32) := by
  funext (x : S16x3072.Idx)
  refine (fetched_blk T 2 t d x).trans ?_
  refine congrArg (V m 0 main_arg3 : S16x3072.Idx → F .f32) (funext fun a : Fin 2 => Fin.ext ?_)
  match a with
  | 0 =>
    refine Eq.trans (b := 0 * 16 + 1 * (x 0).val) rfl ?_
    show _ = (x 0).val
    omega
  | 1 =>
    refine Eq.trans (b := 0 * 3072 + 1 * (x 1).val) rfl ?_
    show _ = (x 1).val
    omega

/-- So it is what the body finds in the input's buffer. -/
theorem found0 (T : Tab m) (t : Fin (cfgM m (okM T)).N) (Y) (h : (rdat T 0).Finds 0 t Y) : Y = dyAt m (T.tile t.val) := by
  obtain ⟨d, hd⟩ := RDat.finds_in_eq_fetched (rdat T 0) 0 rfl (fun _ _ _ => rfl) (fun _ _ _ h => h) t Y h
  rw [hd]; exact blk0 T t d
theorem found1 (T : Tab m) (t : Fin (cfgM m (okM T)).N) (Y) (h : (rdat T 0).Finds 1 t Y) : Y = wAt m (T.ex t.val) := by
  obtain ⟨d, hd⟩ := RDat.finds_in_eq_fetched (rdat T 0) 1 rfl (fun _ _ _ => rfl) (fun _ _ _ h => h) t Y h
  rw [hd]; exact blk1 T t d
theorem found2 (T : Tab m) (t : Fin (cfgM m (okM T)).N) (Y) (h : (rdat T 0).Finds 2 t Y) : Y = (V m 0 main_arg3 : S16x3072.Idx → F .f32) := by
  obtain ⟨d, hd⟩ := RDat.finds_in_eq_fetched (rdat T 0) 2 rfl (fun _ _ _ => rfl) (fun _ _ _ h => h) t Y h
  rw [hd]; exact blk2 T t d

/-- A row of the weight scales, as the body loads it. -/
theorem ws_row (e : Nat) (he : e < 16) (off : Fin 2 → Nat) (h) (h0 : off 0 = e) (h1 : off 1 = 0) :
    View.ld (V m 0 main_arg3 : S16x3072.Idx → F .f32) (Rect.unit (s := S16x3072) off S1x3072.size h) = wsAt m e := by
  funext x
  refine congrArg (V m 0 main_arg3 : S16x3072.Idx → F .f32) (funext fun a : Fin 2 => Fin.ext ?_)
  have hx0 : (x 0).val < 1 := (x 0).isLt
  match a with
  | 0 =>
    show off 0 + 1 * (x 0).val = e % 16
    omega
  | 1 =>
    show off 1 + 1 * (x 1).val = (x 1).val
    omega

end Cert.Kernel.Run

end
-- ==== Proof.KernelStep.lean ====
/- One point of the kernel's grid over the tables' facts: the three cases of its body in one statement. -/
module

public import proofs.«01_k».proof.Proof.KernelRun

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.Kernel Cert.Kernel.Gen

variable {F : FTy → Type} [FloatOps F]
variable {m : (ℓ : Loc nD τ sig) → Buf (Elt F) ℓ}

/-- An expert's number admits the body's three reads by it. -/
theorem chk1_of (i : grid0.Coords) (a : BitVec 32) (e : Nat) (he : e < 16) : k0_chk1 i a (BitVec.ofNat 32 e) := fun _ ax => by
  have h : (BitVec.ofNat 32 e).toNat = e := Nat.mod_eq_of_lt (by omega)
  match ax with
  | 0 => show (BitVec.ofNat 32 e).toNat + 1 ≤ 16; omega
  | 1 => show 0 + 3072 ≤ 3072; omega
theorem chk2_of (i : grid0.Coords) (a : BitVec 32) (e : Nat) (he : e < 16) : k0_chk2 i a (BitVec.ofNat 32 e) := fun _ ax => by
  have h : (BitVec.ofNat 32 e).toNat = e := Nat.mod_eq_of_lt (by omega)
  match ax with
  | 0 => show (BitVec.ofNat 32 e).toNat + 1 ≤ 16; omega
theorem chk3_of (i : grid0.Coords) (a : BitVec 32) (e : Nat) (he : e < 16) : k0_chk3 i a (BitVec.ofNat 32 e) := fun _ ax => by
  have h : (BitVec.ofNat 32 e).toNat = e := Nat.mod_eq_of_lt (by omega)
  match ax with
  | 0 => show (BitVec.ofNat 32 e).toNat + 1 ≤ 16; omega

/-- The body's block of products, its words read off the tables. -/
theorem pay3_words (T : Tab m) (i : grid0.Coords) (a b c d : BitVec 32) (h1 h2 h3) (n : Nat)
    (ht : a = BitVec.ofNat 32 (T.tile n)) (he : T.ex n < 16)
    (hb : b = BitVec.ofNat 32 (T.ex n)) (hc : c = BitVec.ofNat 32 (T.ex n)) (hd : d = BitVec.ofNat 32 (T.ex n))
    (x0 : Vec F S512x2816 .fp8e5m2) (x1 : Vec F S1x3072x2816 .fp8e4m3) (x5 : Vec F S512x1 .f32) (x3 : Vec F S512x3072 .bf16) :
    k0_pay3 a x0 x1 x5
        (View.ld (V m 0 main_arg3 : S16x3072.Idx → F .f32) (Rect.unit (s := S16x3072) (k0_off4 b) S1x3072.size h1))
        (wd16 0 tb2 (tbl m 2) (k0_off6 c) h2) (wd16 0 tb3 (tbl m 3) (k0_off8 d) h3) x3
      = k0_pay3 (BitVec.ofNat 32 (T.tile n)) x0 x1 x5 (wsAt m (T.ex n))
        (BitVec.ofNat 32 (T.st (T.ex n))) (BitVec.ofNat 32 (T.en (T.ex n))) x3 := by
  subst ht hb hc hd
  have h : (BitVec.ofNat 32 (T.ex n)).toNat = T.ex n := Nat.mod_eq_of_lt (by omega)
  rw [ws_row (T.ex n) he _ h1 h rfl, wd_start T _ h2 (T.ex n) he h, wd_end T _ h3 (T.ex n) he h]

/-- The scratch buffers before point `n`. -/
def Scr (T : Tab m) (n : Nat) : sProp (MT nD τ sig Unit (Elt F) ℕ (UR sig nD τ) ℕ) :=
  iprop(∃ x4 x5, ⌜ScrOk T n x4 x5⌝ ∗ owns ((0 : Dev nD) : Thread nD τ) scr0 fullShare x4 ∗ owns ((0 : Dev nD) : Thread nD τ) scr1 fullShare x5)
/-- The tables' halves. -/
def Tbs (m : (ℓ : Loc nD τ sig) → Buf (Elt F) ℓ) : sProp (MT nD τ sig Unit (Elt F) ℕ (UR sig nD τ) ℕ) :=
  iprop(tbPt 0 tb0 (tbl m 0) ∗ tbPt 0 tb1 (tbl m 1) ∗ tbPt 0 tb2 (tbl m 2) ∗ tbPt 0 tb3 (tbl m 3) ∗ tbPt 0 tb4 (tbl m 4))

/-- What a point leaves in the scratch buffers it may leave as its codes and scales, -/
theorem scrOk_new (T : Tab m) (n : Nat) : ScrOk T (n + 1) (codesOf (dyAt m (T.tile n))) (scalesOf (dyAt m (T.tile n))) := by
  intro k hk _
  obtain rfl : n = k := Nat.succ.inj hk
  exact ⟨rfl, rfl⟩
/-- and a point past the pairs, as anything. -/
theorem scrOk_idle (T : Tab m) (n : Nat) (hn : ¬n < T.cnt) (x4 x5) : ScrOk T (n + 1) x4 x5 := by
  intro k hk h
  obtain rfl : n = k := Nat.succ.inj hk
  exact absurd h hn

theorem step (T : Tab m) (E : Set ℕ) (i : grid0.Coords)
    (arg6 : Memref sig .tc .vmem S512x2816 .bf16) (harg6 : arg6.IsWhole)
    (arg7 : Memref sig .tc .vmem S1x3072x2816 .fp8e4m3) (harg7 : arg7.IsWhole)
    (arg8 : Memref sig .tc .vmem S16x3072 .f32) (harg8 : arg8.IsWhole)
    (arg9 : Memref sig .tc .vmem S512x3072 .bf16) (harg9 : arg9.IsWhole)
    (x3 : Vec F S512x3072 .bf16) (K : PUnit → sProp (MT nD τ sig Unit (Elt F) ℕ (UR sig nD τ) ℕ)) :
    iprop(owns ((0 : Dev nD) : Thread nD τ) arg6 fullShare (dyAt m (T.tile (pt i))) ∗ owns ((0 : Dev nD) : Thread nD τ) arg7 fullShare (wAt m (T.ex (pt i)))
        ∗ owns ((0 : Dev nD) : Thread nD τ) arg8 fullShare (V m 0 main_arg3 : S16x3072.Idx → F .f32) ∗ owns ((0 : Dev nD) : Thread nD τ) arg9 fullShare x3
        ∗ Scr T (pt i) ∗ Tbs m
        ∗ (iprop(owns ((0 : Dev nD) : Thread nD τ) arg6 fullShare (dyAt m (T.tile (pt i))) ∗ owns ((0 : Dev nD) : Thread nD τ) arg7 fullShare (wAt m (T.ex (pt i)))
        ∗ owns ((0 : Dev nD) : Thread nD τ) arg8 fullShare (V m 0 main_arg3 : S16x3072.Idx → F .f32) ∗ owns ((0 : Dev nD) : Thread nD τ) arg9 fullShare (outAt T (pt i) x3)
        ∗ Scr T ((pt i).val + 1) ∗ Tbs m) -∗ K ⟨⟩))
      ⊢ wp frame (wpE (defs₀ (F := F)) Variants.none ((0 : Dev nD)) none) E
          (cc0_moe_dgrad i tb0 (Memref.isWhole_whole _) tb1 (Memref.isWhole_whole _) tb2 (Memref.isWhole_whole _) tb3 (Memref.isWhole_whole _) tb4 (Memref.isWhole_whole _)
            arg6 harg6 arg7 harg7 arg8 harg8 arg9 harg9 scr0 (Memref.isWhole_whole _) scr1 (Memref.isWhole_whole _)) K := by
  have hn : (pt i).val < 79 := (pt i).isLt
  have he := T.ex_lt _ hn
  have ht := T.tile_lt _ hn
  have e1 := wd_tile T i (k0_off1 i) (k0_off1_inb i) _ hn (off1_eq i)
  have e2 := wd_tile T i (k0_off2 i) (k0_off2_inb i) ((pt i).val - 1) (by omega) (off2_eq i)
  have e3 := wd_ex T i (k0_off3 i) (k0_off3_inb i) _ hn (off1_eq i)
  have e5 := wd_ex T i (k0_off5 i) (k0_off5_inb i) _ hn (off1_eq i)
  have e7 := wd_ex T i (k0_off7 i) (k0_off7_inb i) _ hn (off1_eq i)
  have e4 := wd_count T
  have hnew := isNew_iff T i (T.tile (pt i)) (T.tile ((pt i).val - 1)) ht (T.tile_lt _ (by omega))
  have hlive := cond2_iff T i
  rw [← e1, ← e2, ← e4] at hnew
  rw [← e4] at hlive
  have hc1 : k0_chk1 i (wd1 0 tb4 (tbl m 4)) (wd79 0 tb1 (tbl m 1) (k0_off3 i) (k0_off3_inb i)) := by rw [e3]; exact chk1_of i _ _ he
  have hc2 : k0_chk2 i (wd1 0 tb4 (tbl m 4)) (wd79 0 tb1 (tbl m 1) (k0_off5 i) (k0_off5_inb i)) := by rw [e5]; exact chk2_of i _ _ he
  have hc3 : k0_chk3 i (wd1 0 tb4 (tbl m 4)) (wd79 0 tb1 (tbl m 1) (k0_off7 i) (k0_off7_inb i)) := by rw [e7]; exact chk3_of i _ _ he
  unfold Scr Tbs
  iintro ⟨H0, H1, H2, H3, ⟨%x4, %x5, %hscr, H4, H5⟩, ⟨HA, HB, HC, HD, HE⟩, HK⟩
  by_cases hl : (pt i).val < T.cnt
  · have ho : outAt T (pt i) x3 = k0_pay3 (BitVec.ofNat 32 (T.tile (pt i))) (codesOf (dyAt m (T.tile (pt i)))) (wAt m (T.ex (pt i))) (scaleCol (scalesOf (dyAt m (T.tile (pt i))))) (wsAt m (T.ex (pt i)))
      (BitVec.ofNat 32 (T.st (T.ex (pt i)))) (BitVec.ofNat 32 (T.en (T.ex (pt i)))) x3 := if_pos hl
    have hp := pay3_words T i _ _ _ _ (k0_off4_inb i _ _ hc1 (hlive.mpr hl)) (k0_off6_inb i _ _ hc2 (hlive.mpr hl)) (k0_off8_inb i _ _ hc3 (hlive.mpr hl)) (pt i).val e1 he e3 e5 e7
      (codesOf (dyAt m (T.tile (pt i)))) (wAt m (T.ex (pt i))) (scaleCol (scalesOf (dyAt m (T.tile (pt i))))) x3
    by_cases hw : (pt i).val = 0 ∨ T.tile (pt i) ≠ T.tile ((pt i).val - 1)
    · iapply (run_new 0 E i arg6 harg6 arg7 harg7 arg8 harg8 arg9 harg9 scr0 (Memref.isWhole_whole _) scr1 (Memref.isWhole_whole _)
        (tbl m 0) (tbl m 1) (tbl m 2) (tbl m 3) (tbl m 4) (dyAt m (T.tile (pt i))) (wAt m (T.ex (pt i))) (V m 0 main_arg3 : S16x3072.Idx → F .f32) x3 x4 x5 K
        (hnew.mpr ⟨hl, hw⟩) (hlive.mpr hl) hc1 hc2 hc3)
      rw [ho, ← hp]
      isplitl [H0]; · iexact H0
      isplitl [H1]; · iexact H1
      isplitl [H2]; · iexact H2
      isplitl [H3]; · iexact H3
      isplitl [H4]; · iexact H4
      isplitl [H5]; · iexact H5
      isplitl [HA]; · iexact HA
      isplitl [HB]; · iexact HB
      isplitl [HC]; · iexact HC
      isplitl [HD]; · iexact HD
      isplitl [HE]; · iexact HE
      iintro ⟨H0, H1, H2, H3, H4, H5, HA, HB, HC, HD, HE⟩
      iapply HK
      isplitl [H0]; · iexact H0
      isplitl [H1]; · iexact H1
      isplitl [H2]; · iexact H2
      isplitl [H3]; · iexact H3
      isplitl [H4 H5]
      · iexists _; iexists _
        isplitr; · ipureintro; exact scrOk_new T _
        isplitl [H4]; · iexact H4
        iexact H5
      isplitl [HA]; · iexact HA
      isplitl [HB]; · iexact HB
      isplitl [HC]; · iexact HC
      isplitl [HD]; · iexact HD
      iexact HE
    · have hz : (pt i).val ≠ 0 := fun h => hw (.inl h)
      have hs : T.tile (pt i) = T.tile ((pt i).val - 1) := by by_contra h; exact hw (.inr h)
      obtain ⟨hx4, hx5⟩ := hscr ((pt i).val - 1) (by omega) (by omega)
      rw [← hs] at hx4 hx5
      subst hx4 hx5
      iapply (run_kept 0 E i arg6 harg6 arg7 harg7 arg8 harg8 arg9 harg9 scr0 (Memref.isWhole_whole _) scr1 (Memref.isWhole_whole _)
        (tbl m 0) (tbl m 1) (tbl m 2) (tbl m 3) (tbl m 4) (dyAt m (T.tile (pt i))) (wAt m (T.ex (pt i))) (V m 0 main_arg3 : S16x3072.Idx → F .f32) x3 _ _ K
        (fun h => hw (hnew.mp h).2) (hlive.mpr hl) hc1 hc2 hc3)
      rw [ho, ← hp]
      isplitl [H0]; · iexact H0
      isplitl [H1]; · iexact H1
      isplitl [H2]; · iexact H2
      isplitl [H3]; · iexact H3
      isplitl [H4]; · iexact H4
      isplitl [H5]; · iexact H5
      isplitl [HA]; · iexact HA
      isplitl [HB]; · iexact HB
      isplitl [HC]; · iexact HC
      isplitl [HD]; · iexact HD
      isplitl [HE]; · iexact HE
      iintro ⟨H0, H1, H2, H3, H4, H5, HA, HB, HC, HD, HE⟩
      iapply HK
      isplitl [H0]; · iexact H0
      isplitl [H1]; · iexact H1
      isplitl [H2]; · iexact H2
      isplitl [H3]; · iexact H3
      isplitl [H4 H5]
      · iexists _; iexists _
        isplitr; · ipureintro; exact scrOk_new T _
        isplitl [H4]; · iexact H4
        iexact H5
      isplitl [HA]; · iexact HA
      isplitl [HB]; · iexact HB
      isplitl [HC]; · iexact HC
      isplitl [HD]; · iexact HD
      iexact HE
  · have ho : outAt T (pt i) x3 = x3 := if_neg hl
    iapply (run_idle 0 E i arg6 harg6 arg7 harg7 arg8 harg8 arg9 harg9 scr0 (Memref.isWhole_whole _) scr1 (Memref.isWhole_whole _)
      (tbl m 0) (tbl m 1) (tbl m 2) (tbl m 3) (tbl m 4) (dyAt m (T.tile (pt i))) (wAt m (T.ex (pt i))) (V m 0 main_arg3 : S16x3072.Idx → F .f32) x3 x4 x5 K
      (fun h => hl (hnew.mp h).1) (fun h => hl (hlive.mp h)))
    rw [ho]
    isplitl [H0]; · iexact H0
    isplitl [H1]; · iexact H1
    isplitl [H2]; · iexact H2
    isplitl [H3]; · iexact H3
    isplitl [H4]; · iexact H4
    isplitl [H5]; · iexact H5
    isplitl [HA]; · iexact HA
    isplitl [HB]; · iexact HB
    isplitl [HC]; · iexact HC
    isplitl [HD]; · iexact HD
    isplitl [HE]; · iexact HE
    iintro ⟨H0, H1, H2, H3, H4, H5, HA, HB, HC, HD, HE⟩
    iapply HK
    isplitl [H0]; · iexact H0
    isplitl [H1]; · iexact H1
    isplitl [H2]; · iexact H2
    isplitl [H3]; · iexact H3
    isplitl [H4 H5]
    · iexists x4; iexists x5
      isplitr; · ipureintro; exact scrOk_idle T _ hl _ _
      isplitl [H4]; · iexact H4
      iexact H5
    isplitl [HA]; · iexact HA
    isplitl [HB]; · iexact HB
    isplitl [HC]; · iexact HC
    isplitl [HD]; · iexact HD
    iexact HE

end Cert.Kernel.Run

end
-- ==== Proof.KernelLaunch.lean ====
/- The kernel's body obligation over its proof data, and its launch: from any launch memory whose tables are as `Tab` states, the
   program runs to its end with its arguments unchanged and its output array as the proof data relates it. -/
module

public import proofs.«01_k».proof.Proof.KernelStep

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.Kernel Cert.Kernel.Gen

variable {F : FTy → Type} [FloatOps F]
variable {m : (ℓ : Loc nD τ sig) → Buf (Elt F) ℓ}

/-- The tables' halves, one by one. -/
theorem PhiT0_eq (m : (ℓ : Loc nD τ sig) → Buf (Elt F) ℓ) :
    (Pipeline.ΦT pre0 (tbl m) (0 : Dev nD) : sProp (MT nD τ sig Unit (Elt F) ℕ (UR sig nD τ) ℕ)) = Tbs m := by
  unfold Pipeline.ΦT Pipeline.prefHeld Tbs
  rw [show (Finset.univ : Finset (Fin 5)) = insert 0 (insert 1 (insert 2 (insert 3 {4}))) from by decide,
    bigSep_insert (by decide), bigSep_insert (by decide), bigSep_insert (by decide), bigSep_insert (by decide), bigSep_singleton]
  rfl

theorem phi_eq (T : Tab m) (n) : (rdat T 0).Φ n = iprop(Scr T n.val ∗ ((∃ r, prngReg (0 : Dev nD) r) ∗ Tbs m)) := by
  rw [← PhiT0_eq]; rfl

/-- The body at a point, as the pipeline calls it. -/
def bodyAt (T : Tab m) (t : Fin (cfgM m (okM T)).N) :=
  cc0_moe_dgrad (F := F) (grid0.coords t) tb0 (Memref.isWhole_whole _) tb1 (Memref.isWhole_whole _) tb2 (Memref.isWhole_whole _) tb3 (Memref.isWhole_whole _) tb4 (Memref.isWhole_whole _)
    (spec0_0.stage ((cfgM m (okM T)).slots t 0)) (hstage0_0 (((cfgM m (okM T)).slots t 0).cast nbuf0_0))
    (spec0_1.stage ((cfgM m (okM T)).slots t 1)) (hstage0_1 (((cfgM m (okM T)).slots t 1).cast nbuf0_1))
    (spec0_2.stage ((cfgM m (okM T)).slots t 2)) (hstage0_2 (((cfgM m (okM T)).slots t 2).cast nbuf0_2))
    (spec0_3.stage ((cfgM m (okM T)).slots t 3)) (hstage0_3 (((cfgM m (okM T)).slots t 3).cast nbuf0_3))
    scr0 (Memref.isWhole_whole _) scr1 (Memref.isWhole_whole _)
theorem defs₀_row (T : Tab m) (t : Fin (cfgM m (okM T)).N) :
    defs₀ (F := F) .tc (cfgM m (okM T)).body ((cfgM m (okM T)).bodyArgs t ((cfgM m (okM T)).slots t)) = bodyAt T t := by
  unfold defs₀; rw [Defs.onTc_tc]; rfl

def bodyPre (T : Tab m) (t : Fin (cfgM m (okM T)).N) (x3 : Vec F S512x3072 .bf16) : sProp (MT nD τ sig Unit (Elt F) ℕ (UR sig nD τ) ℕ) :=
  iprop((rdat T 0).Φ t.castSucc ∗ (rdat T 0).owesAt () t.castSucc
    ∗ owns ((0 : Dev nD) : Thread nD τ) (spec0_0.stage ((cfgM m (okM T)).slots t 0)) fullShare (dyAt m (T.tile t.val))
    ∗ owns ((0 : Dev nD) : Thread nD τ) (spec0_1.stage ((cfgM m (okM T)).slots t 1)) fullShare (wAt m (T.ex t.val))
    ∗ owns ((0 : Dev nD) : Thread nD τ) (spec0_2.stage ((cfgM m (okM T)).slots t 2)) fullShare (V m 0 main_arg3 : S16x3072.Idx → F .f32)
    ∗ owns ((0 : Dev nD) : Thread nD τ) (spec0_3.stage ((cfgM m (okM T)).slots t 3)) fullShare x3)
def bodyPost (T : Tab m) (t : Fin (cfgM m (okM T)).N) (x3 : Vec F S512x3072 .bf16) : sProp (MT nD τ sig Unit (Elt F) ℕ (UR sig nD τ) ℕ) :=
  iprop((rdat T 0).Φ t.succ ∗ (rdat T 0).owesAt () t.succ
    ∗ owns ((0 : Dev nD) : Thread nD τ) (spec0_0.stage ((cfgM m (okM T)).slots t 0)) fullShare (dyAt m (T.tile t.val))
    ∗ owns ((0 : Dev nD) : Thread nD τ) (spec0_1.stage ((cfgM m (okM T)).slots t 1)) fullShare (wAt m (T.ex t.val))
    ∗ owns ((0 : Dev nD) : Thread nD τ) (spec0_2.stage ((cfgM m (okM T)).slots t 2)) fullShare (V m 0 main_arg3 : S16x3072.Idx → F .f32)
    ∗ owns ((0 : Dev nD) : Thread nD τ) (spec0_3.stage ((cfgM m (okM T)).slots t 3)) fullShare (outAt T t.val x3))

theorem sound_body (T : Tab m) (t : Fin (cfgM m (okM T)).N) (x3 : Vec F S512x3072 .bf16) :
    bodyPre T t x3 ⊢ wp frame (wpE (defs₀ (F := F)) Variants.none ((0 : Dev nD)) none) Set.univ (bodyAt T t) (fun _ => bodyPost T t x3) := by
  have hc : (pt (grid0.coords t)).val = t.val := coords_val t
  unfold bodyPre bodyPost bodyAt
  rw [phi_eq, phi_eq, show (rdat T 0).owesAt () t.succ = (rdat T 0).owesAt () t.castSucc from rfl,
    show t.castSucc.val = t.val from rfl, show t.succ.val = t.val + 1 from rfl]
  generalize hO : (rdat T 0).owesAt () t.castSucc = O
  rw [← hc]
  iintro ⟨⟨HS, HP, HT⟩, Ho, H0, H1, H2, H3⟩
  iapply (step T Set.univ (grid0.coords t) _ _ _ _ _ _ _ _ x3 _)
  isplitl [H0]; · iexact H0
  isplitl [H1]; · iexact H1
  isplitl [H2]; · iexact H2
  isplitl [H3]; · iexact H3
  isplitl [HS]; · iexact HS
  isplitl [HT]; · iexact HT
  iintro ⟨H0, H1, H2, H3, HS, HT⟩
  isplitl [HS HP HT]
  · isplitl [HS]; · iexact HS
    isplitl [HP]; · iexact HP
    iexact HT
  isplitl [Ho]; · iexact Ho
  isplitl [H0]; · iexact H0
  isplitl [H1]; · iexact H1
  isplitl [H2]; · iexact H2
  iexact H3

theorem body_obligation (T : Tab m) : (rdat T 0).BodyObligation (defs₀ (F := F)) Variants.none () Set.univ := fun t Y hY => by
  have y0 : Y 0 = dyAt m (T.tile t.val) := found0 T t _ (hY 0)
  have y1 : Y 1 = wAt m (T.ex t.val) := found1 T t _ (hY 1)
  have y2 : Y 2 = (V m 0 main_arg3 : S16x3072.Idx → F .f32) := found2 T t _ (hY 2)
  rw [bigSep_W0, bigSep_W0, defs₀_row]
  refine triple_restated (sound_body T t (Y 3)) rfl ?_ fun _ => ?_
  · unfold bodyPre
    rw [← y0, ← y1, ← y2]
  · unfold bodyPost
    rw [← y0, ← y1, ← y2]
    iintro ⟨HΦ, Ho, H0, H1, H2, H3⟩
    isplitl [HΦ]; · iexact HΦ
    isplitl [Ho]; · iexact Ho
    isplitl [H0]
    · iexists Y 0; isplitr
      · ipureintro; exact rfl
      · iexact H0
    isplitl [H1]
    · iexists Y 1; isplitr
      · ipureintro; exact rfl
      · iexact H1
    isplitl [H2]
    · iexists Y 2; isplitr
      · ipureintro; exact rfl
      · iexact H2
    iexists outAt T t.val (Y 3); isplitr
    · ipureintro; exact rfl
    · iexact H3

/-- A scratch buffer's memref holds what the buffer holds. -/
theorem owns_scr0 (x : Vec F S512x2816 .fp8e5m2) : (owns ((0 : Dev nD) : Thread nD τ) scr0 fullShare x : sProp (MT nD τ sig Unit (Elt F) ℕ (UR sig nD τ) ℕ))
    = (((0 : Dev nD) : Thread nD τ).loc cc0_scratch0 ↦{fullShare} x) := owns_whole _ _ _ _
theorem owns_scr1 (x : Vec F S512x128 .f32) : (owns ((0 : Dev nD) : Thread nD τ) scr1 fullShare x : sProp (MT nD τ sig Unit (Elt F) ℕ (UR sig nD τ) ℕ))
    = (((0 : Dev nD) : Thread nD τ).loc cc0_scratch1 ↦{fullShare} x) := owns_whole _ _ _ _

/-- The launch hands the pipeline its invariant, -/
theorem hin (T : Tab m) : iprop(Pipeline.ΦA (cfgM m (okM T)).spec (0 : Dev nD) ∗ Pipeline.ΦT pre0 (tbl m) (0 : Dev nD)) ⊢ (rdat T 0).Φ 0 := by
  rw [phi_eq, PhiT0_eq]
  unfold Pipeline.ΦA Scr
  rw [show Pipeline.scopedRest (cfgM m (okM T)).spec (0 : Dev nD) = _ from scopedRest0_eq (0 : Dev nD)]
  simp only [owns_scr0, owns_scr1]
  iintro ⟨⟨⟨⟨%f, H4⟩, ⟨%g, H5⟩⟩, HP⟩, HT⟩
  isplitl [H4 H5]
  · iexists f; iexists g
    isplitr
    · ipureintro; intro k hk; exact absurd hk (by show ¬(0 = k + 1); omega)
    isplitl [H4]; · iexact H4
    iexact H5
  isplitl [HP]; · iexact HP
  iexact HT
/-- and takes back what it keeps. -/
theorem hout (T : Tab m) : (rdat T 0).Φ (Fin.last (cfgM m (okM T)).N) ⊢ Pipeline.ΦA (cfgM m (okM T)).spec (0 : Dev nD) := by
  rw [phi_eq]
  unfold Pipeline.ΦA Scr
  rw [show Pipeline.scopedRest (cfgM m (okM T)).spec (0 : Dev nD) = _ from scopedRest0_eq (0 : Dev nD)]
  simp only [owns_scr0, owns_scr1]
  iintro ⟨⟨%x4, %x5, -, H4, H5⟩, HP, HT⟩
  isplitr [HP]
  · isplitl [H4]
    · iexists x4; iexact H4
    · iexists x5; iexact H5
  iexact HP

set_option backward.isDefEq.respectTransparency.types false in
set_option maxHeartbeats 800000 in
/-- THE LAUNCH. -/
theorem run (T : Tab m) (g : Dev nD → PrngReg) : θ_run defs (onTc (τ := τ) (main (F := F))) (s₀ m g)
    (fun r => RDat.FramePost (cfgM m (okM T)) (rdat T) (V m) r ∧ r.2.sem = fun _ => 0) :=
  RDat.θ_run_frameP_track (Q' := _) pcfgs (fun _ => adm m (okM T)) 0 launch0 defs₀ Variants.none (rdat T) m g main
    (hbody := fun c => by obtain rfl : c = 0 := Subsingleton.elim _ _; exact body_obligation T)
    (hshare := fun c => (rdat T c).share_full fun _ => rfl) (howed := fun _ _ => rfl) (V := V m) (hmain := hmain m Variants.none)
    (hA := fun _ _ => rfl) (hpf := fun c k => V_pre m c k)
    (hin := fun c => by obtain rfl : c = 0 := Subsingleton.elim _ _; exact hin T)
    (hout := fun c => by obtain rfl : c = 0 := Subsingleton.elim _ _; exact hout T)
    (hQ' := fun _ h => h)

set_option backward.isDefEq.respectTransparency.types false in
set_option maxHeartbeats 800000 in
/-- The arguments end unchanged. -/
theorem args_of (T : Tab m) (r : PUnit × MemSt nD τ sig (Elt F)) (h : RDat.FramePost (cfgM m (okM T)) (rdat T) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(Pipeline.RDat.FramePost.arr_in h c 0 rfl).trans (V_arg m main_arg0 (.inl rfl) c),
    ((h c).2 main_arg1 (by decide : main_arg1 ∈ Pipeline.restRefs sig spec0)).trans (V_arg m main_arg1 (.inr (.inl rfl)) c),
    (Pipeline.RDat.FramePost.arr_in h c 1 rfl).trans (V_arg m main_arg2 (.inr (.inr (.inl rfl))) c),
    (Pipeline.RDat.FramePost.arr_in h c 2 rfl).trans (V_arg m main_arg3 (.inr (.inr (.inr rfl))) c)⟩

end Cert.Kernel.Run

end
-- ==== Proof.KernelHost.lean ====
/- What the host lines before the kernel's region leave in its tables, as functions of the group sizes. -/
module

public import proofs.«01_k».proof.Proof.KernelTab
public import Idealize.ShloMosaic.Lib.StableHlo.RunRead

@[expose] public section

set_option maxRecDepth 16384

noncomputable section

namespace Cert.Kernel.Run

open Idealize.ShloMosaic Idealize.ShloMosaic.TcCoe Idealize.ShloMosaic.Tactic
open Idealize.SL.Sem
open Cert.Kernel Cert.Kernel.Gen

variable {F : FTy → Type} [FloatOps F]

abbrev I16 := S16.Idx → BitVec 32
abbrev I79 := S79.Idx → BitVec 32

/-- Running sums. -/
def cumOf (x : I16) : I16 := Host.reduceWindow IntOp.addi ![16] ![1] ![15] ![0] x (broadcastInDim S_ ![] bcast_S_S_ (constantI S_ 32 0#32)) reduceWindows_S16_S16_w16s1p15_0 h_S_
/-- Quotients by 512, rounded down. -/
def fdivOf (x : I16) : I16 :=
  let d : I16 := broadcastInDim S16 ![] bcast_S_S16 (constantI S_ 32 512#32)
  let q : I16 := Host.divsi x d
  select (andi (cmpi .ne (signi x) (broadcastInDim S16 ![] bcast_S_S16 (signi (constantI S_ 32 512#32))))
    (cmpi .ne (Host.remsi x d) (broadcastInDim S16 ![] bcast_S_S16 (constantI S_ 32 0#32))))
    (subi q (broadcastInDim S16 ![] bcast_S_S16 (constantI S_ 32 1#32))) q

/-- Pairs by number: the last one repeated past the end. -/
def pairOf (c : S1.Idx → BitVec 32) : I79 :=
  minsi (iotaInDim S79 32 0) (broadcastInDim S79 ![] bcast_S_S79 (subi (shapeCast S_ c shapeCasts_S1_S_) (constantI S_ 32 1#32)))
/-- A pair's expert: how many experts' pairs end at or before it. -/
def pexpOf (vend : I16) (p : I79) : I79 :=
  Host.reduce IntOp.addi (extui 32 (cmpi .sge (broadcastInDim S79x16 ![0, 1] bcast_S79x1_S79x16_0_1 (broadcastInDim S79x1 ![0] bcast_S79_S79x1_0 p))
    (broadcastInDim S79x16 ![0, 1] bcast_S1x16_S79x16_0_1 (broadcastInDim S1x16 ![1] bcast_S16_S1x16_1 vend))) natLt_1_32) (constantI S_ 32 0#32) reducesTo_S79x16_S79_d1 h_S_
/-- The entries of a table of sixteen at the experts' numbers. -/
def takeOf (x : I16) (e : I79) : I79 :=
  Host.gather gather_S16_S79x1_S79_n_0_n_n_0_1_1 x (broadcastInDim S79x1 ![0] bcast_S79_S79x1_0
    (select (cmpi .slt e (broadcastInDim S79 ![] bcast_S_S79 (constantI S_ 32 0#32))) (addi e (broadcastInDim S79 ![] bcast_S_S79 (constantI S_ 32 16#32))) e))
def lastOf (x : I16) : S1.Idx → BitVec 32 := extractStridedSlice S1 ![15] x slices_S16_S1_15

variable (M : Valuation τ sig (Elt F))

theorem seg0 : (StableHlo.after hostOps0 M (Proc.devRef .tc main_v0) : I16) = cumOf (M (Proc.devRef .tc main_arg1) : I16) := by
  after_reads_simp; simp -implicitDefEqProofs only [StableHlo.TRef.toBuf, StableHlo.TRef.ofBuf, cast_cast, cast_eq]; unfold cumOf; with_reducible rfl
theorem seg1 : (StableHlo.after hostOps0_1 M (Proc.devRef .tc main_v1) : I16) = subi (M (Proc.devRef .tc main_v0) : I16) (M (Proc.devRef .tc main_arg1) : I16) := by
  after_reads_simp
theorem seg1c : (StableHlo.after hostOps0_1 M (Proc.devRef .tc main_c) : S_.Idx → BitVec 32) = constantI S_ 32 512#32 := by
  after_reads_simp
theorem seg2 (h : (M (Proc.devRef .tc main_c) : S_.Idx → BitVec 32) = constantI S_ 32 512#32) : (StableHlo.after hostOps0_2 M (Proc.devRef .tc main_v2) : I16) = fdivOf (M (Proc.devRef .tc main_v1) : I16) := by
  after_reads_simp; simp -implicitDefEqProofs only [StableHlo.TRef.toBuf, StableHlo.TRef.ofBuf, cast_cast, cast_eq]; unfold fdivOf; simp only [id, h]
theorem seg3a : (StableHlo.after hostOps0_3 M (Proc.devRef .tc main_v4) : S16.Idx → BitVec 1) = cmpi .sgt (M (Proc.devRef .tc main_arg1) : I16) (broadcastInDim S16 ![] bcast_S_S16 (constantI S_ 32 0#32)) := by
  after_reads_simp
theorem seg3b : (StableHlo.after hostOps0_3 M (Proc.devRef .tc main_v8) : I16) = subi (addi (M (Proc.devRef .tc main_v0) : I16) (broadcastInDim S16 ![] bcast_S_S16 (constantI S_ 32 512#32))) (broadcastInDim S16 ![] bcast_S_S16 (constantI S_ 32 1#32)) := by
  after_reads_simp
theorem seg3c : (StableHlo.after hostOps0_3 M (Proc.devRef .tc main_c_3) : S_.Idx → BitVec 32) = constantI S_ 32 512#32 := by
  after_reads_simp
theorem seg4 (h : (M (Proc.devRef .tc main_c_3) : S_.Idx → BitVec 32) = constantI S_ 32 512#32) : (StableHlo.after hostOps0_4 M (Proc.devRef .tc main_v9) : I16) = fdivOf (M (Proc.devRef .tc main_v8) : I16) := by
  after_reads_simp; simp -implicitDefEqProofs only [StableHlo.TRef.toBuf, StableHlo.TRef.ofBuf, cast_cast, cast_eq]; unfold fdivOf; simp only [id, h]
theorem seg5 : (StableHlo.after hostOps0_5 M (Proc.devRef .tc main_v10) : I16) = subi (M (Proc.devRef .tc main_v9) : I16) (M (Proc.devRef .tc main_v2) : I16) := by
  after_reads_simp
theorem seg5c : (StableHlo.after hostOps0_5 M (Proc.devRef .tc main_c_4) : S_.Idx → BitVec 32) = constantI S_ 32 0#32 := by
  after_reads_simp
theorem seg6 : (StableHlo.after hostOps0_6 M (Proc.devRef .tc main_v11) : I16) = select (M (Proc.devRef .tc main_v4) : S16.Idx → BitVec 1) (M (Proc.devRef .tc main_v10) : I16) (broadcastInDim S16 ![] bcast_S_S16 (M (Proc.devRef .tc main_c_4) : S_.Idx → BitVec 32)) := by
  after_reads_simp; simp -implicitDefEqProofs only [StableHlo.TRef.toBuf, StableHlo.TRef.ofBuf, cast_cast, cast_eq]; simp only [id]
theorem seg7 : (StableHlo.after hostOps0_7 M (Proc.devRef .tc main_v12) : I16) = cumOf (M (Proc.devRef .tc main_v11) : I16) := by
  after_reads_simp; simp -implicitDefEqProofs only [StableHlo.TRef.toBuf, StableHlo.TRef.ofBuf, cast_cast, cast_eq]; unfold cumOf; with_reducible rfl
theorem seg8a : (StableHlo.after hostOps0_8 M (Proc.devRef .tc main_v13) : S1.Idx → BitVec 32) = lastOf (M (Proc.devRef .tc main_v12) : I16) := by
  after_reads_simp; unfold lastOf; rfl
theorem seg8b : (StableHlo.after hostOps0_8 M (Proc.devRef .tc main_v25) : I79) = pexpOf (M (Proc.devRef .tc main_v12) : I16) (pairOf (lastOf (M (Proc.devRef .tc main_v12) : I16))) := by
  after_reads_simp; unfold lastOf pexpOf pairOf; rfl
theorem seg8c : (StableHlo.after hostOps0_8 M (Proc.devRef .tc main_v42) : I79) = subi (addi (takeOf (M (Proc.devRef .tc main_v2) : I16) (pexpOf (M (Proc.devRef .tc main_v12) : I16) (pairOf (lastOf (M (Proc.devRef .tc main_v12) : I16))))) (pairOf (lastOf (M (Proc.devRef .tc main_v12) : I16)))) (takeOf (subi (M (Proc.devRef .tc main_v12) : I16) (M (Proc.devRef .tc main_v11) : I16)) (pexpOf (M (Proc.devRef .tc main_v12) : I16) (pairOf (lastOf (M (Proc.devRef .tc main_v12) : I16))))) := by
  after_reads_simp; unfold takeOf lastOf pexpOf pairOf; rfl
theorem keep0_arg1 : StableHlo.after hostOps0 M (Proc.devRef .tc main_arg1) = M (Proc.devRef .tc main_arg1) := by after_reads_simp
theorem keep1_arg1 : StableHlo.after hostOps0_1 M (Proc.devRef .tc main_arg1) = M (Proc.devRef .tc main_arg1) := by after_reads_simp
theorem keep2_arg1 : StableHlo.after hostOps0_2 M (Proc.devRef .tc main_arg1) = M (Proc.devRef .tc main_arg1) := by after_reads_simp
theorem keep1_v0 : StableHlo.after hostOps0_1 M (Proc.devRef .tc main_v0) = M (Proc.devRef .tc main_v0) := by after_reads_simp
theorem keep2_v0 : StableHlo.after hostOps0_2 M (Proc.devRef .tc main_v0) = M (Proc.devRef .tc main_v0) := by after_reads_simp
theorem keep3_v0 : StableHlo.after hostOps0_3 M (Proc.devRef .tc main_v0) = M (Proc.devRef .tc main_v0) := by after_reads_simp
theorem keep4_v0 : StableHlo.after hostOps0_4 M (Proc.devRef .tc main_v0) = M (Proc.devRef .tc main_v0) := by after_reads_simp
theorem keep5_v0 : StableHlo.after hostOps0_5 M (Proc.devRef .tc main_v0) = M (Proc.devRef .tc main_v0) := by after_reads_simp
theorem keep6_v0 : StableHlo.after hostOps0_6 M (Proc.devRef .tc main_v0) = M (Proc.devRef .tc main_v0) := by after_reads_simp
theorem keep7_v0 : StableHlo.after hostOps0_7 M (Proc.devRef .tc main_v0) = M (Proc.devRef .tc main_v0) := by after_reads_simp
theorem keep8_v0 : StableHlo.after hostOps0_8 M (Proc.devRef .tc main_v0) = M (Proc.devRef .tc main_v0) := by after_reads_simp
theorem keep2_v1 : StableHlo.after hostOps0_2 M (Proc.devRef .tc main_v1) = M (Proc.devRef .tc main_v1) := by after_reads_simp
theorem keep3_v1 : StableHlo.after hostOps0_3 M (Proc.devRef .tc main_v1) = M (Proc.devRef .tc main_v1) := by after_reads_simp
theorem keep4_v1 : StableHlo.after hostOps0_4 M (Proc.devRef .tc main_v1) = M (Proc.devRef .tc main_v1) := by after_reads_simp
theorem keep5_v1 : StableHlo.after hostOps0_5 M (Proc.devRef .tc main_v1) = M (Proc.devRef .tc main_v1) := by after_reads_simp
theorem keep6_v1 : StableHlo.after hostOps0_6 M (Proc.devRef .tc main_v1) = M (Proc.devRef .tc main_v1) := by after_reads_simp
theorem keep7_v1 : StableHlo.after hostOps0_7 M (Proc.devRef .tc main_v1) = M (Proc.devRef .tc main_v1) := by after_reads_simp
theorem keep8_v1 : StableHlo.after hostOps0_8 M (Proc.devRef .tc main_v1) = M (Proc.devRef .tc main_v1) := by after_reads_simp
theorem keep3_v2 : StableHlo.after hostOps0_3 M (Proc.devRef .tc main_v2) = M (Proc.devRef .tc main_v2) := by after_reads_simp
theorem keep4_v2 : StableHlo.after hostOps0_4 M (Proc.devRef .tc main_v2) = M (Proc.devRef .tc main_v2) := by after_reads_simp
theorem keep5_v2 : StableHlo.after hostOps0_5 M (Proc.devRef .tc main_v2) = M (Proc.devRef .tc main_v2) := by after_reads_simp
theorem keep6_v2 : StableHlo.after hostOps0_6 M (Proc.devRef .tc main_v2) = M (Proc.devRef .tc main_v2) := by after_reads_simp
theorem keep7_v2 : StableHlo.after hostOps0_7 M (Proc.devRef .tc main_v2) = M (Proc.devRef .tc main_v2) := by after_reads_simp
theorem keep4_v4 : StableHlo.after hostOps0_4 M (Proc.devRef .tc main_v4) = M (Proc.devRef .tc main_v4) := by after_reads_simp
theorem keep5_v4 : StableHlo.after hostOps0_5 M (Proc.devRef .tc main_v4) = M (Proc.devRef .tc main_v4) := by after_reads_simp
theorem keep7_v11 : StableHlo.after hostOps0_7 M (Proc.devRef .tc main_v11) = M (Proc.devRef .tc main_v11) := by after_reads_simp

theorem after_append (l₁ l₂ : List (HloOp τ sig (Elt F))) : StableHlo.after (l₁ ++ l₂) M = StableHlo.after l₂ (StableHlo.after l₁ M) := by
  induction l₁ generalizing M with
  | nil => rfl
  | cons o l₁ ih => exact ih _

/-- The tables as functions of the group sizes: where each expert's rows end and start, its first tile, how many tiles it visits,
    where its pairs end, and each pair's number and expert. -/
def endsOf (g : I16) : I16 := cumOf g
def startsOf (g : I16) : I16 := subi (endsOf g) g
def firstOf (g : I16) : I16 := fdivOf (startsOf g)
def visitsOf (g : I16) : I16 :=
  select (cmpi .sgt g (broadcastInDim S16 ![] bcast_S_S16 (constantI S_ 32 0#32)))
    (subi (fdivOf (subi (addi (endsOf g) (broadcastInDim S16 ![] bcast_S_S16 (constantI S_ 32 512#32))) (broadcastInDim S16 ![] bcast_S_S16 (constantI S_ 32 1#32)))) (firstOf g))
    (broadcastInDim S16 ![] bcast_S_S16 (constantI S_ 32 0#32))
def vendOf (g : I16) : I16 := cumOf (visitsOf g)
def numOf (g : I16) : I79 := pairOf (lastOf (vendOf g))
def exOf (g : I16) : I79 := pexpOf (vendOf g) (numOf g)
def tileOf (g : I16) : I79 := subi (addi (takeOf (firstOf g) (exOf g)) (numOf g)) (takeOf (subi (vendOf g) (visitsOf g)) (exOf g))

variable (m : (ℓ : Loc nD τ sig) → Buf (Elt F) ℓ)

/-- The group sizes at launch. -/
def gs : I16 := m ((0 : Dev nD), main_arg1)

def Mem0 : Valuation τ sig (Elt F) := fun b => m ((0 : Dev nD), b)
def Mem1 : Valuation τ sig (Elt F) := StableHlo.after hostOps0 (Mem0 m)
def Mem2 : Valuation τ sig (Elt F) := StableHlo.after hostOps0_1 (Mem1 m)
def Mem3 : Valuation τ sig (Elt F) := StableHlo.after hostOps0_2 (Mem2 m)
def Mem4 : Valuation τ sig (Elt F) := StableHlo.after hostOps0_3 (Mem3 m)
def Mem5 : Valuation τ sig (Elt F) := StableHlo.after hostOps0_4 (Mem4 m)
def Mem6 : Valuation τ sig (Elt F) := StableHlo.after hostOps0_5 (Mem5 m)
def Mem7 : Valuation τ sig (Elt F) := StableHlo.after hostOps0_6 (Mem6 m)
def Mem8 : Valuation τ sig (Elt F) := StableHlo.after hostOps0_7 (Mem7 m)

theorem V_eq (b : Ref sig .tc) : V m 0 b = StableHlo.after hostOps0_8 (Mem8 m) (Proc.devRef .tc b) := by
  unfold V Mem8 Mem7 Mem6 Mem5 Mem4 Mem3 Mem2 Mem1 Mem0
  rw [List.flatten_cons, List.flatten_cons, List.flatten_cons, List.flatten_cons, List.flatten_cons, List.flatten_cons, List.flatten_cons,
    List.flatten_cons, List.flatten_cons, List.flatten_nil, List.append_nil,
    after_append, after_append, after_append, after_append, after_append, after_append, after_append, after_append]

theorem at0_arg1 : (Mem0 m (Proc.devRef .tc main_arg1) : I16) = gs m := rfl
theorem at1_arg1 : (Mem1 m (Proc.devRef .tc main_arg1) : I16) = gs m := (keep0_arg1 (Mem0 m)).trans (at0_arg1 m)
theorem at2_arg1 : (Mem2 m (Proc.devRef .tc main_arg1) : I16) = gs m := (keep1_arg1 (Mem1 m)).trans (at1_arg1 m)
theorem at3_arg1 : (Mem3 m (Proc.devRef .tc main_arg1) : I16) = gs m := (keep2_arg1 (Mem2 m)).trans (at2_arg1 m)
theorem at1_v0 : (Mem1 m (Proc.devRef .tc main_v0) : I16) = endsOf (gs m) := (seg0 (Mem0 m)).trans (congrArg cumOf (at0_arg1 m))
theorem at2_v0 : (Mem2 m (Proc.devRef .tc main_v0) : I16) = endsOf (gs m) := (keep1_v0 (Mem1 m)).trans (at1_v0 m)
theorem at3_v0 : (Mem3 m (Proc.devRef .tc main_v0) : I16) = endsOf (gs m) := (keep2_v0 (Mem2 m)).trans (at2_v0 m)
theorem at4_v0 : (Mem4 m (Proc.devRef .tc main_v0) : I16) = endsOf (gs m) := (keep3_v0 (Mem3 m)).trans (at3_v0 m)
theorem at5_v0 : (Mem5 m (Proc.devRef .tc main_v0) : I16) = endsOf (gs m) := (keep4_v0 (Mem4 m)).trans (at4_v0 m)
theorem at6_v0 : (Mem6 m (Proc.devRef .tc main_v0) : I16) = endsOf (gs m) := (keep5_v0 (Mem5 m)).trans (at5_v0 m)
theorem at7_v0 : (Mem7 m (Proc.devRef .tc main_v0) : I16) = endsOf (gs m) := (keep6_v0 (Mem6 m)).trans (at6_v0 m)
theorem at8_v0 : (Mem8 m (Proc.devRef .tc main_v0) : I16) = endsOf (gs m) := (keep7_v0 (Mem7 m)).trans (at7_v0 m)
theorem at2_v1 : (Mem2 m (Proc.devRef .tc main_v1) : I16) = startsOf (gs m) := (seg1 (Mem1 m)).trans (congrArg₂ subi (at1_v0 m) (at1_arg1 m))
theorem at3_v1 : (Mem3 m (Proc.devRef .tc main_v1) : I16) = startsOf (gs m) := (keep2_v1 (Mem2 m)).trans (at2_v1 m)
theorem at4_v1 : (Mem4 m (Proc.devRef .tc main_v1) : I16) = startsOf (gs m) := (keep3_v1 (Mem3 m)).trans (at3_v1 m)
theorem at5_v1 : (Mem5 m (Proc.devRef .tc main_v1) : I16) = startsOf (gs m) := (keep4_v1 (Mem4 m)).trans (at4_v1 m)
theorem at6_v1 : (Mem6 m (Proc.devRef .tc main_v1) : I16) = startsOf (gs m) := (keep5_v1 (Mem5 m)).trans (at5_v1 m)
theorem at7_v1 : (Mem7 m (Proc.devRef .tc main_v1) : I16) = startsOf (gs m) := (keep6_v1 (Mem6 m)).trans (at6_v1 m)
theorem at8_v1 : (Mem8 m (Proc.devRef .tc main_v1) : I16) = startsOf (gs m) := (keep7_v1 (Mem7 m)).trans (at7_v1 m)
theorem at3_v2 : (Mem3 m (Proc.devRef .tc main_v2) : I16) = firstOf (gs m) := (seg2 (Mem2 m) (seg1c (Mem1 m))).trans (congrArg fdivOf (at2_v1 m))
theorem at4_v2 : (Mem4 m (Proc.devRef .tc main_v2) : I16) = firstOf (gs m) := (keep3_v2 (Mem3 m)).trans (at3_v2 m)
theorem at5_v2 : (Mem5 m (Proc.devRef .tc main_v2) : I16) = firstOf (gs m) := (keep4_v2 (Mem4 m)).trans (at4_v2 m)
theorem at6_v2 : (Mem6 m (Proc.devRef .tc main_v2) : I16) = firstOf (gs m) := (keep5_v2 (Mem5 m)).trans (at5_v2 m)
theorem at7_v2 : (Mem7 m (Proc.devRef .tc main_v2) : I16) = firstOf (gs m) := (keep6_v2 (Mem6 m)).trans (at6_v2 m)
theorem at8_v2 : (Mem8 m (Proc.devRef .tc main_v2) : I16) = firstOf (gs m) := (keep7_v2 (Mem7 m)).trans (at7_v2 m)
theorem at4_v4 : (Mem4 m (Proc.devRef .tc main_v4) : S16.Idx → BitVec 1) = cmpi .sgt (gs m) (broadcastInDim S16 ![] bcast_S_S16 (constantI S_ 32 0#32)) := (seg3a (Mem3 m)).trans (by rw [at3_arg1])
theorem at5_v4 : (Mem5 m (Proc.devRef .tc main_v4) : S16.Idx → BitVec 1) = cmpi .sgt (gs m) (broadcastInDim S16 ![] bcast_S_S16 (constantI S_ 32 0#32)) := (keep4_v4 (Mem4 m)).trans (at4_v4 m)
theorem at6_v4 : (Mem6 m (Proc.devRef .tc main_v4) : S16.Idx → BitVec 1) = cmpi .sgt (gs m) (broadcastInDim S16 ![] bcast_S_S16 (constantI S_ 32 0#32)) := (keep5_v4 (Mem5 m)).trans (at5_v4 m)
theorem at4_v8 : (Mem4 m (Proc.devRef .tc main_v8) : I16) = subi (addi (endsOf (gs m)) (broadcastInDim S16 ![] bcast_S_S16 (constantI S_ 32 512#32))) (broadcastInDim S16 ![] bcast_S_S16 (constantI S_ 32 1#32)) := (seg3b (Mem3 m)).trans (by rw [at3_v0])
theorem at5_v9 : (Mem5 m (Proc.devRef .tc main_v9) : I16) = fdivOf (subi (addi (endsOf (gs m)) (broadcastInDim S16 ![] bcast_S_S16 (constantI S_ 32 512#32))) (broadcastInDim S16 ![] bcast_S_S16 (constantI S_ 32 1#32))) := (seg4 (Mem4 m) (seg3c (Mem3 m))).trans (congrArg fdivOf (at4_v8 m))
theorem at6_v10 : (Mem6 m (Proc.devRef .tc main_v10) : I16) = subi (fdivOf (subi (addi (endsOf (gs m)) (broadcastInDim S16 ![] bcast_S_S16 (constantI S_ 32 512#32))) (broadcastInDim S16 ![] bcast_S_S16 (constantI S_ 32 1#32)))) (firstOf (gs m)) := (seg5 (Mem5 m)).trans (congrArg₂ subi (at5_v9 m) (at5_v2 m))
theorem at7_v11 : (Mem7 m (Proc.devRef .tc main_v11) : I16) = visitsOf (gs m) := (seg6 (Mem6 m)).trans (by rw [at6_v4, at6_v10, show (Mem6 m (Proc.devRef .tc main_c_4) : S_.Idx → BitVec 32) = constantI S_ 32 0#32 from seg5c (Mem5 m)]; rfl)
theorem at8_v11 : (Mem8 m (Proc.devRef .tc main_v11) : I16) = visitsOf (gs m) := (keep7_v11 (Mem7 m)).trans (at7_v11 m)
theorem at8_v12 : (Mem8 m (Proc.devRef .tc main_v12) : I16) = vendOf (gs m) := (seg7 (Mem7 m)).trans (congrArg cumOf (at7_v11 m))

theorem V_ends : (V m 0 main_v0 : I16) = endsOf (gs m) := (V_eq m main_v0).trans ((keep8_v0 (Mem8 m)).trans (at8_v0 m))
theorem V_starts : (V m 0 main_v1 : I16) = startsOf (gs m) := (V_eq m main_v1).trans ((keep8_v1 (Mem8 m)).trans (at8_v1 m))
theorem V_count : (V m 0 main_v13 : S1.Idx → BitVec 32) = lastOf (vendOf (gs m)) := (V_eq m main_v13).trans ((seg8a (Mem8 m)).trans (by rw [at8_v12]))
theorem V_ex : (V m 0 main_v25 : I79) = exOf (gs m) := (V_eq m main_v25).trans ((seg8b (Mem8 m)).trans (by rw [at8_v12]; rfl))
theorem V_tile : (V m 0 main_v42 : I79) = tileOf (gs m) := (V_eq m main_v42).trans ((seg8c (Mem8 m)).trans (by rw [at8_v12, at8_v11, at8_v2]; rfl))

end Cert.Kernel.Run

end
-- ==== Proof.Tiles.lean ====
/- The arithmetic of the kernel's pairs of a tile and a group, in natural numbers: sixteen groups of rows laid end to end over 32768
   rows, tiles of 512 rows, a pair for each tile that a group meets, in order. Nothing here depends on a program. -/
module

public import Idealize.ShloMosaic.Lib.Routing.OpsSet

@[expose] public section

namespace Cert.Tiles

/-- Running sums. -/
def cum (f : Nat → Nat) (e : Nat) : Nat := ((List.range (e + 1)).map f).sum

theorem cum_zero (f : Nat → Nat) : cum f 0 = f 0 := by simp [cum]
theorem cum_succ (f : Nat → Nat) (e : Nat) : cum f (e + 1) = cum f e + f (e + 1) := by
  unfold cum; rw [List.range_succ (n := e + 1)]; simp
theorem cum_mono (f : Nat → Nat) {a b : Nat} (h : a ≤ b) : cum f a ≤ cum f b := by
  induction h with
  | refl => exact le_rfl
  | step h ih => rw [cum_succ]; omega
theorem le_cum (f : Nat → Nat) (e : Nat) : f e ≤ cum f e := by
  cases e with
  | zero => rw [cum_zero]
  | succ e => rw [cum_succ]; omega
/-- The sum before `e` is at least every running sum before `e`. -/
theorem cum_le_before (f : Nat → Nat) {a b : Nat} (h : a < b) : cum f a ≤ cum f b - f b := by
  obtain ⟨b, rfl⟩ : ∃ b', b = b' + 1 := ⟨b - 1, by omega⟩
  have := cum_mono f (show a ≤ b by omega)
  rw [cum_succ]; omega
theorem before_le (f : Nat → Nat) (e x : Nat) (h : ∀ k, k < e → cum f k ≤ x) : cum f e - f e ≤ x := by
  cases e with
  | zero => rw [cum_zero]; omega
  | succ e => have := h e (by omega); rw [cum_succ]; omega

/-- Counting a property that holds up to a point: all hold, or the count is the first where it fails. -/
theorem count_spec (p : Nat → Prop) [DecidablePred p] (hp : ∀ k, p (k + 1) → p k) (n : Nat) :
    (Nat.count p n = n ∧ ∀ k, k < n → p k) ∨ (Nat.count p n < n ∧ (∀ k, k < Nat.count p n → p k) ∧ ¬ p (Nat.count p n)) := by
  induction n with
  | zero => left; exact ⟨Nat.count_zero p, fun k h => by omega⟩
  | succ n ih =>
    rw [Nat.count_succ]
    rcases ih with ⟨h1, h2⟩ | ⟨h1, h2, h3⟩
    · by_cases hn : p n
      · left; rw [if_pos hn, h1]; refine ⟨rfl, fun k hk => ?_⟩
        rcases Nat.lt_succ_iff_lt_or_eq.mp hk with h | h
        · exact h2 k h
        · exact h ▸ hn
      · right; rw [if_neg hn, Nat.add_zero, h1]; exact ⟨by omega, h2, hn⟩
    · have hdown : ∀ d, p (Nat.count p n + d) → p (Nat.count p n) := by
        intro d; induction d with
        | zero => exact id
        | succ d ihd => intro h; exact ihd (hp _ h)
      have hn : ¬ p n := fun h => h3 (hdown (n - Nat.count p n) (by rwa [Nat.add_sub_cancel' (by omega)]))
      right; rw [if_neg hn, Nat.add_zero]; exact ⟨by omega, h2, h3⟩

/-- How many of the sixteen running sums are at most `x`. -/
def below (f : Nat → Nat) (x : Nat) : Nat := Nat.count (fun k => cum f k ≤ x) 16

theorem below_spec (f : Nat → Nat) (x : Nat) (hx : x < cum f 15) :
    below f x < 16 ∧ cum f (below f x) - f (below f x) ≤ x ∧ x < cum f (below f x) := by
  rcases count_spec (fun k => cum f k ≤ x) (fun k h => le_trans (cum_mono f (by omega)) h) 16 with ⟨_, h⟩ | ⟨h1, h2, h3⟩
  · have := h 15 (by omega); omega
  · exact ⟨h1, before_le f _ x h2, Nat.lt_of_not_le h3⟩
theorem below_iff (f : Nat → Nat) (x : Nat) (hx : x < cum f 15) (e : Nat) :
    (cum f e - f e ≤ x ∧ x < cum f e) ↔ below f x = e := by
  obtain ⟨h1, h2, h3⟩ := below_spec f x hx
  constructor
  · rintro ⟨a, b⟩
    rcases Nat.lt_trichotomy (below f x) e with h | h | h
    · have := cum_le_before f h; omega
    · exact h
    · have := cum_le_before f h; omega
  · intro h; rw [← h]; exact ⟨h2, h3⟩

variable (g : Nat → Nat)

/-- A group's first tile, the number of tiles it meets, the number of pairs; a pair's group and tile. -/
def first (e : Nat) : Nat := (cum g e - g e) / 512
def visits (e : Nat) : Nat := if 0 < g e then (cum g e + 511) / 512 - first g e else 0
def pairs : Nat := cum (visits g) 15
def pair (n : Nat) : Nat := min n (pairs g - 1)
def pairEx (n : Nat) : Nat := below (visits g) (pair g n)
def pairTile (n : Nat) : Nat := first g (pairEx g n) + pair g n - (cum (visits g) (pairEx g n) - visits g (pairEx g n))

theorem vend_le (e : Nat) : cum (visits g) e ≤ (cum g e + 511) / 512 + e := by
  induction e with
  | zero => rw [cum_zero, visits, cum_zero]; split <;> omega
  | succ e ih =>
    rw [cum_succ]
    have h := cum_succ g e
    have hv : visits g (e + 1) = if 0 < g (e + 1) then (cum g (e + 1) + 511) / 512 - (cum g (e + 1) - g (e + 1)) / 512 else 0 := rfl
    split at hv <;> omega
theorem visits_zero (e : Nat) (h : visits g e = 0) : g e = 0 := by
  have := le_cum g e
  unfold visits first at h
  split at h <;> omega
theorem cum_zero_of (e : Nat) (h : cum (visits g) e = 0) : cum g e = 0 := by
  induction e with
  | zero => rw [cum_zero] at h ⊢; exact visits_zero g 0 h
  | succ e ih => rw [cum_succ] at h ⊢; have := visits_zero g (e + 1) (by omega); have := ih (by omega); omega

variable {g}

theorem pairs_pos (hg : cum g 15 = 32768) : 0 < pairs g := by
  rcases Nat.eq_zero_or_pos (pairs g) with h | h
  · have := cum_zero_of g 15 h; omega
  · exact h
theorem pairs_le (hg : cum g 15 = 32768) : pairs g ≤ 79 := by
  have := vend_le g 15; unfold pairs; omega
theorem pair_lt (hg : cum g 15 = 32768) (n : Nat) : pair g n < cum (visits g) 15 := by
  have := pairs_pos hg; show pair g n < pairs g; unfold pair; omega
theorem pairEx_lt (hg : cum g 15 = 32768) (n : Nat) : pairEx g n < 16 := (below_spec _ _ (pair_lt hg n)).1
theorem cum_le_all (hg : cum g 15 = 32768) (e : Nat) (he : e < 16) : cum g e ≤ 32768 := hg ▸ cum_mono g (by omega)

/-- A pair's tile is one its group meets. -/
theorem pairTile_mem (hg : cum g 15 = 32768) (n : Nat) :
    first g (pairEx g n) ≤ pairTile g n ∧ pairTile g n < (cum g (pairEx g n) + 511) / 512 ∧ 0 < g (pairEx g n) := by
  obtain ⟨h1, h2, h3⟩ := below_spec _ _ (pair_lt hg n)
  have h4 := le_cum (visits g) (pairEx g n)
  change cum (visits g) (pairEx g n) - visits g (pairEx g n) ≤ pair g n at h2
  change pair g n < cum (visits g) (pairEx g n) at h3
  have h5 : visits g (pairEx g n) = if 0 < g (pairEx g n) then (cum g (pairEx g n) + 511) / 512 - first g (pairEx g n) else 0 := rfl
  unfold pairTile
  split at h5 <;> omega
theorem pairTile_lt (hg : cum g 15 = 32768) (n : Nat) : pairTile g n < 64 := by
  have h := pairTile_mem hg n
  have := cum_le_all hg _ (pairEx_lt hg n)
  omega

/-- The tiles do not decrease. -/
theorem pairTile_mono (hg : cum g 15 = 32768) (n : Nat) : pairTile g n ≤ pairTile g (n + 1) := by
  obtain ⟨a1, a2, a3⟩ := below_spec _ _ (pair_lt hg n)
  obtain ⟨b1, b2, b3⟩ := below_spec _ _ (pair_lt hg (n + 1))
  change cum (visits g) (pairEx g n) - visits g (pairEx g n) ≤ pair g n at a2
  change pair g n < cum (visits g) (pairEx g n) at a3
  change cum (visits g) (pairEx g (n + 1)) - visits g (pairEx g (n + 1)) ≤ pair g (n + 1) at b2
  change pair g (n + 1) < cum (visits g) (pairEx g (n + 1)) at b3
  have hp : pair g n ≤ pair g (n + 1) := by unfold pair; omega
  rcases Nat.lt_trichotomy (pairEx g n) (pairEx g (n + 1)) with h | h | h
  · obtain ⟨c1, c2, c3⟩ := pairTile_mem hg n
    obtain ⟨d1, d2, d3⟩ := pairTile_mem hg (n + 1)
    have e1 : cum g (pairEx g n) ≤ cum g (pairEx g (n + 1)) - g (pairEx g (n + 1)) := cum_le_before g h
    have e2 : first g (pairEx g (n + 1)) = (cum g (pairEx g (n + 1)) - g (pairEx g (n + 1))) / 512 := rfl
    omega
  · unfold pairTile; rw [← h]; omega
  · have := cum_le_before (visits g) h; omega

/-- Every row's tile is paired with the row's group. -/
theorem pair_cover (hg : cum g 15 = 32768) (r : Nat) (hr : r < 32768) :
    ∃ n, n < pairs g ∧ pairTile g n = r / 512 ∧ pairEx g n = below g r := by
  obtain ⟨h1, h2, h3⟩ := below_spec g r (by omega)
  have h4 := le_cum g (below g r)
  have hv : visits g (below g r) = (cum g (below g r) + 511) / 512 - first g (below g r) := if_pos (by omega)
  have hf : first g (below g r) = (cum g (below g r) - g (below g r)) / 512 := rfl
  have h5 := le_cum (visits g) (below g r)
  have h6 : cum (visits g) (below g r) ≤ pairs g := cum_mono _ (by omega)
  refine ⟨cum (visits g) (below g r) - visits g (below g r) + (r / 512 - first g (below g r)), by omega, ?_⟩
  generalize hn : cum (visits g) (below g r) - visits g (below g r) + (r / 512 - first g (below g r)) = n
  have hpn : pair g n = n := by unfold pair; omega
  have he : pairEx g n = below g r := by
    unfold pairEx; rw [hpn]
    refine (below_iff _ _ (show n < pairs g by omega) _).mp ⟨by omega, by omega⟩
  refine ⟨?_, he⟩
  unfold pairTile
  rw [he, hpn]; omega

end Cert.Tiles
-- ==== Proof.Cond.lean ====
/- What the preconditions say of the group sizes: as numbers, they sum to the number of rows. -/
module

public import proofs.«01_k».proof.Pre_groups_cover
public import proofs.«01_k».proof.Pre_groups_cover_finite
public import proofs.«01_k».proof.Proof.Tiles
public import Idealize.ShloMosaic.Lib.Routing.Words
public import Idealize.ShloMosaic.Lib.ReduceAll
public import Idealize.ShloMosaic.Lib.Affine

@[expose] public section

noncomputable section

namespace Cert.Tiles

open Idealize.ShloMosaic Idealize.ShloMosaic.Routing

/-- A vector of sixteen words as numbers. -/
def nat16 (x : (shape1 16).Idx → BitVec 32) (e : Nat) : Nat := if h : e < 16 then (x (ValueIdx.ix1 ⟨e, h⟩)).toNat else 0

theorem nat16_eq (x : (shape1 16).Idx → BitVec 32) (e : Fin 16) : nat16 x e.val = (x (ValueIdx.ix1 e)).toNat := by
  unfold nat16; rw [dif_pos e.isLt]

theorem andi_one {a b : BitVec 1} (h : IntOp.andi a b = 1#1) : a = 1#1 ∧ b = 1#1 := by
  rcases BitVec.eq_zero_or_eq_one a with rfl | rfl <;> rcases BitVec.eq_zero_or_eq_one b with rfl | rfl <;> revert h <;> decide

theorem cum_le_mul (f : Nat → Nat) (b : Nat) (h : ∀ e, f e ≤ b) (e : Nat) : cum f e ≤ (e + 1) * b := by
  induction e with
  | zero => rw [cum_zero]; have := h 0; omega
  | succ e ih => rw [cum_succ]; have := h (e + 1); rw [Nat.add_mul]; omega

/-- Sizes between zero and the number of rows whose words sum to the number of rows. -/
theorem cum_of_words (g : (shape1 16).Idx → BitVec 32) (hr : (shape1 16).ReducesTo [0] shape0) (hu : 0 < shape0.numel)
    (hb : ∀ i, IntOp.andi (IntOp.cmpi .sge (g i) 0#32) (IntOp.cmpi .sle (g i) 32768#32) = 1#1)
    (hs : Host.reduce IntOp.addi g (constantI shape0 32 0#32) hr hu ValueIdx.ix0 = 32768#32) : cum (nat16 g) 15 = 32768 := by
  have hle : ∀ e, nat16 g e ≤ 32768 := fun e => by
    unfold nat16
    split
    · rename_i he
      obtain ⟨h1, h2⟩ := andi_one (hb (ValueIdx.ix1 ⟨e, he⟩))
      have h0 : (0 : Int) ≤ (g (ValueIdx.ix1 ⟨e, he⟩)).toInt := by
        have := (StableHlo.Predicate.ofBool_eq_one_iff _).mp h1
        simpa [BitVec.sle] using this
      have h3 := toNat_lt_of_toInt_nonneg _ h0
      exact (StableHlo.Predicate.sle_iff_toNat h3 (by decide)).mp h2
    · omega
  rw [reduce_sum (N := 16) g (nat16 g) (fun e => by rw [nat16_eq]; simp) hr hu] at hs
  have h := cum_le_mul (nat16 g) 32768 hle 15
  have hs' : BitVec.ofNat 32 (cum (nat16 g) 15) = BitVec.ofNat 32 32768 := hs
  exact (WordCmp.ofNat_eq_ofNat_iff (w := 32) (by omega) (by decide)).mp hs'

theorem cum_of_pre {F : FTy → Type} [FloatOps F] [Cert.Pre_groups_cover.Facts] (x0) (g : (shape1 16).Idx → BitVec 32) (x2) (x3)
    (h : Cert.Pre_groups_cover.fn (F := F) x0 g x2 x3 = fun _ => 1#1) : cum (nat16 g) 15 = 32768 := by
  have h0 := congrFun h ValueIdx.ix0
  unfold Cert.Pre_groups_cover.fn at h0
  obtain ⟨h1, h2⟩ := andi_one h0
  exact cum_of_words g _ _ (Host.reduce_andi_all _ _ _ _ _ h1) (StableHlo.Predicate.cmpi_eq_iff.mp h2)

theorem cum_of_pre_finite {F : FTy → Type} [FloatOps F] [Cert.Pre_groups_cover_finite.Facts] (x0) (g : (shape1 16).Idx → BitVec 32) (x2) (x3)
    (h : Cert.Pre_groups_cover_finite.fn (F := F) x0 g x2 x3 = fun _ => 1#1) : cum (nat16 g) 15 = 32768 := by
  have h0 := congrFun h ValueIdx.ix0
  unfold Cert.Pre_groups_cover_finite.fn at h0
  obtain ⟨h1, h2⟩ := andi_one (andi_one h0).1
  exact cum_of_words g _ _ (Host.reduce_andi_all _ _ _ _ _ h1) (StableHlo.Predicate.cmpi_eq_iff.mp h2)

/-- Under the second precondition every float of the input is finite. -/
theorem finite_of_pre {F : FTy → Type} [FloatOps F] [Cert.Pre_groups_cover_finite.Facts] (x0 : FVec F Cert.Pre_groups_cover_finite.S32768x2816 .bf16) (g) (x2) (x3)
    (h : Cert.Pre_groups_cover_finite.fn (F := F) x0 g x2 x3 = fun _ => 1#1) (i : Cert.Pre_groups_cover_finite.S32768x2816.Idx) :
    cmpf .ole (Host.absf (extf .f32 x0 Cert.Pre_groups_cover_finite.Facts.bitsLt_bf16_f32))
      (broadcastInDim Cert.Pre_groups_cover_finite.S32768x2816 ![] Cert.Pre_groups_cover_finite.Facts.bcast_S_S32768x2816 (constant Cert.Pre_groups_cover_finite.S_ .f32 0x7F7F0000#32)) i = 1#1 := by
  have h0 := congrFun h ValueIdx.ix0
  unfold Cert.Pre_groups_cover_finite.fn at h0
  exact Host.reduce_andi_all _ _ _ _ _ (andi_one h0).2 i

end Cert.Tiles

end
-- ==== Proof.KernelWords.lean ====
/- The kernel's tables as numbers: under group sizes that are not negative and fill the rows, every word of them is the natural
   number that `Tiles` gives it, so the facts the certificate uses of them hold. -/
module

public import proofs.«01_k».proof.Proof.KernelHost
public import proofs.«01_k».proof.Proof.Cond
public import Idealize.ShloMosaic.Lib.Routing.Words
public import Idealize.ShloMosaic.Lib.Routing.OpsSet

@[expose] public section

set_option maxRecDepth 16384

noncomputable section

namespace Cert.Kernel.Run

open Idealize.ShloMosaic Idealize.ShloMosaic.Routing
open Cert.Kernel Cert.Kernel.Gen Cert.Tiles

variable {F : FTy → Type} [FloatOps F]

/-- The words of a vector are those of a function on naturals. -/
def Holds (x : I16) (f : Nat → Nat) : Prop := ∀ e : Fin 16, x (ValueIdx.ix1 e) = BitVec.ofNat 32 (f e.val)

theorem holds_nat16 (x : I16) : Holds x (nat16 x) := fun e => by
  unfold nat16; rw [dif_pos e.isLt]; simp

theorem cumOf_holds {x : I16} {f : Nat → Nat} (hx : Holds x f) : Holds (cumOf x) (cum f) := fun e =>
  cumsum1 (N := 16) (Nm1 := 15) rfl x f hx _ rfl _ _ e

theorem fdivOf_holds {x : I16} {f : Nat → Nat} (hx : Holds x f) (hf : ∀ e, e < 16 → f e < 2 ^ 31) : Holds (fdivOf x) (fun e => f e / 512) := fun e =>
  pyDiv_ap (s := S16) bcast_S_S16 x (constantI S_ 32 512#32) (ValueIdx.ix1 e) (b := 512) (hx e) rfl (hf e.val e.isLt) (by decide) (by decide)

theorem subi_holds {x y : I16} {f g : Nat → Nat} (hx : Holds x f) (hy : Holds y g) (h : ∀ e, e < 16 → g e ≤ f e) : Holds (subi x y) (fun e => f e - g e) := fun e => by
  rw [subi_ap, hx, hy, ofNat32_sub (h e.val e.isLt)]

section
variable {g : I16} {n : Nat → Nat} (hg : Holds g n) (h : cum n 15 = 32768)

theorem ends_holds (hg : Holds g n) : Holds (endsOf g) (cum n) := cumOf_holds hg
theorem starts_holds (hg : Holds g n) : Holds (startsOf g) (fun e => cum n e - n e) := subi_holds (cumOf_holds hg) hg fun e _ => le_cum n e
include h in
theorem first_holds (hg : Holds g n) : Holds (firstOf g) (first n) :=
  fdivOf_holds (starts_holds hg) fun e he => by have := cum_le_all h e he; omega
include h in
theorem visits_holds (hg : Holds g n) : Holds (visitsOf g) (visits n) := fun e => by
  have h1 := cum_le_all h e.val e.isLt
  have h2 := le_cum n e.val
  have a : Holds (subi (addi (endsOf g) (broadcastInDim S16 ![] bcast_S_S16 (constantI S_ 32 512#32))) (broadcastInDim S16 ![] bcast_S_S16 (constantI S_ 32 1#32))) (fun e => cum n e + 512 - 1) := fun e => by
    rw [subi_ap, addi_ap, ends_holds hg e]
    show BitVec.ofNat 32 _ + BitVec.ofNat 32 512 - BitVec.ofNat 32 1 = _
    rw [BitVec.ofNat_add_ofNat, ofNat32_sub (by omega)]
  have b := fdivOf_holds a fun e he => by have := cum_le_all h e he; omega
  have c : Holds _ _ := subi_holds b (first_holds h hg) fun e he => by unfold first; omega
  unfold visitsOf
  show Scalar.select (IntOp.cmpi .sgt (g (ValueIdx.ix1 e)) (BitVec.ofNat 32 0)) (subi _ _ (ValueIdx.ix1 e)) (BitVec.ofNat 32 0) = _
  rw [c e, hg e]
  have hs : IntOp.cmpi .sgt (BitVec.ofNat 32 (n e.val)) (BitVec.ofNat 32 0) = BitVec.ofBool (decide (0 < n e.val)) := by
    show BitVec.ofBool (BitVec.slt _ _) = _
    rw [slt_ofNat32 (by decide) (by omega)]
  rw [hs]
  unfold visits
  by_cases hp : 0 < n e.val
  · rw [if_pos hp, decide_eq_true hp]; rfl
  · rw [if_neg hp, decide_eq_false hp]; rfl
include h in
theorem vend_holds (hg : Holds g n) : Holds (vendOf g) (cum (visits n)) := cumOf_holds (visits_holds h hg)

theorem lastOf_eq {x : I16} {f : Nat → Nat} (hx : Holds x f) (i : S1.Idx) : lastOf x i = BitVec.ofNat 32 (f 15) := by
  obtain rfl : i = ValueIdx.ix1 (0 : Fin 1) := by
    funext a; match a with | ⟨0, _⟩ => exact Subsingleton.elim (α := Fin 1) _ _
  exact (slice1 (m := 16) (n := 1) 15 x slices_S16_S1_15 (0 : Fin 1) (by decide)).trans (hx ⟨15, by decide⟩)

theorem minsi_ofNat {a b : Nat} (ha : a < 2 ^ 31) (hb : b < 2 ^ 31) : IntOp.minsi (BitVec.ofNat 32 a) (BitVec.ofNat 32 b) = BitVec.ofNat 32 (min a b) := by
  unfold IntOp.minsi
  rw [slt_ofNat32 ha hb]
  by_cases h : a < b
  · simp only [h, decide_true, if_true]; rw [min_eq_left (by omega)]
  · simp only [h, decide_false]; rw [min_eq_right (by omega)]; rfl

include h in
theorem num_eq (hg : Holds g n) (k : Fin 79) : numOf g (ValueIdx.ix1 k) = BitVec.ofNat 32 (pair n k.val) := by
  have h1 := pairs_pos h
  have h2 := pairs_le h
  have hk := k.isLt
  unfold numOf pairOf
  show IntOp.minsi (BitVec.ofNat 32 k.val) (lastOf (vendOf g) _ - BitVec.ofNat 32 1) = _
  rw [lastOf_eq (vend_holds h hg), ofNat32_sub (show 1 ≤ cum (visits n) 15 from h1), minsi_ofNat (by omega) (show cum (visits n) 15 - 1 < 2 ^ 31 from (show pairs n - 1 < 2 ^ 31 by omega))]
  rfl

theorem pexpOf_eq {v : I16} {f : Nat → Nat} (hv : Holds v f) (hf : ∀ e, e < 16 → f e < 2 ^ 31) (p : I79) (k : Fin 79) (x : Nat) (hx : x < 2 ^ 31)
    (hp : p (ValueIdx.ix1 k) = BitVec.ofNat 32 x) : pexpOf v p (ValueIdx.ix1 k) = BitVec.ofNat 32 (Nat.count (fun e => f e ≤ x) 16) := by
  unfold pexpOf
  rw [reduce_count (n := 79) (m := 16) (by decide) _ natLt_1_32 reducesTo_S79x16_S79_d1 h_S_ k (fun e => f e ≤ x)]
  intro q
  have e1 := bcRows (n := 79) (m := 16) bcast_S79_S79x1_0 bcast_S79x1_S79x16_0_1 p k q
  have e2 := bcCols (n := 79) (m := 16) bcast_S16_S1x16_1 bcast_S1x16_S79x16_0_1 v k q
  unfold cmpi
  rw [e1, e2, hp, hv]
  exact StableHlo.Predicate.sle_ofNat_iff _ _ (hf q.val q.isLt) hx

include h in
theorem ex_eq (hg : Holds g n) (k : Fin 79) : exOf g (ValueIdx.ix1 k) = BitVec.ofNat 32 (pairEx n k.val) := by
  have h2 := pairs_le h
  have hp : pair n k.val < pairs n := pair_lt h k.val
  exact pexpOf_eq (vend_holds h hg) (fun e he => lt_of_le_of_lt (show cum (visits n) e ≤ pairs n from cum_mono _ (by omega)) (by omega)) _ k _ (by omega) (num_eq h hg k)

include h in
theorem take_eq (hg : Holds g n) {x : I16} {f : Nat → Nat} (hx : Holds x f) (k : Fin 79) : takeOf x (exOf g) (ValueIdx.ix1 k) = BitVec.ofNat 32 (f (pairEx n k.val)) := by
  have hl := pairEx_lt h k.val
  refine (gather_take1 (N := 16) (n := 79) gather_S16_S79x1_S79_n_0_n_n_0_1_1 rfl rfl rfl rfl x _ k ⟨pairEx n k.val, hl⟩ ?_ (by decide)).trans (hx _)
  refine (bcCol (n := 79) bcast_S79_S79x1_0 _ k).trans ?_
  show Scalar.select (IntOp.cmpi .slt (exOf g (ValueIdx.ix1 k)) (BitVec.ofNat 32 0)) _ (exOf g (ValueIdx.ix1 k)) = _
  rw [ex_eq h hg k]
  have hs : IntOp.cmpi .slt (BitVec.ofNat 32 (pairEx n k.val)) (BitVec.ofNat 32 0) = BitVec.ofBool false := by
    show BitVec.ofBool (BitVec.slt _ _) = _
    rw [slt_ofNat32 (by omega) (by decide)]; simp
  rw [hs]; rfl

include h in
theorem tile_eq (hg : Holds g n) (k : Fin 79) : tileOf g (ValueIdx.ix1 k) = BitVec.ofNat 32 (pairTile n k.val) := by
  have h1 := pairTile_mem h k.val
  obtain ⟨h2, h3, h4⟩ := below_spec _ _ (pair_lt h k.val)
  change cum (visits n) (pairEx n k.val) - visits n (pairEx n k.val) ≤ pair n k.val at h3
  unfold tileOf
  rw [subi_ap, addi_ap, take_eq h hg (first_holds h hg), num_eq h hg,
    take_eq h hg (subi_holds (vend_holds h hg) (visits_holds h hg) fun e _ => le_cum (visits n) e), BitVec.ofNat_add_ofNat, ofNat32_sub (by omega)]
  rfl
end

variable (m : (ℓ : Loc nD τ sig) → Buf (Elt F) ℓ)

theorem ix79_eq (k : Fin 79) : ix79 k = ValueIdx.ix1 k := by funext a; match a with | ⟨0, _⟩ => rfl
theorem ix16_eq (k : Fin 16) : ix16 k = ValueIdx.ix1 k := by funext a; match a with | ⟨0, _⟩ => rfl

/-- The facts of the tables, from group sizes that fill the rows. -/
def tab (h : cum (nat16 (gs m)) 15 = 32768) : Tab m where
  tile := pairTile (nat16 (gs m))
  ex := pairEx (nat16 (gs m))
  st := fun e => cum (nat16 (gs m)) e - nat16 (gs m) e
  en := cum (nat16 (gs m))
  cnt := pairs (nat16 (gs m))
  rowEx := below (nat16 (gs m))
  hT := fun k => by unfold wTile; rw [V_tile, ix79_eq, tile_eq h (holds_nat16 _)]
  hE := fun k => by unfold wEx; rw [V_ex, ix79_eq, ex_eq h (holds_nat16 _)]
  hS := fun e => by unfold wStart; rw [V_starts, ix16_eq, starts_holds (holds_nat16 _)]
  hD := fun e => by unfold wEnd; rw [V_ends, ix16_eq, ends_holds (holds_nat16 _)]
  hC := by unfold wCount; rw [V_count, lastOf_eq (vend_holds h (holds_nat16 _))]; rfl
  tile_lt := fun k _ => pairTile_lt h k
  ex_lt := fun k _ => pairEx_lt h k
  tile_mono := fun k _ => pairTile_mono h k
  cnt_le := pairs_le h
  st_le := fun e he => le_trans (Nat.sub_le _ _) (cum_le_all h e he)
  en_le := fun e he => cum_le_all h e he
  mine := fun e _ r hr => below_iff _ r (by omega) e
  cover := fun r hr => pair_cover h r hr

end Cert.Kernel.Run

end
-- ==== Proof.KernelFrame.lean ====
/- The kernel terminates without fault and leaves its arguments unchanged, under group sizes that fill the rows. -/
module

public import proofs.«01_k».proof.Proof.KernelLaunch
public import proofs.«01_k».proof.Proof.KernelWords
public import Idealize.ShloMosaic.Lib.StableHlo.RunHlo

@[expose] public section

noncomputable section

namespace Cert.Kernel.Run

open Idealize.ShloMosaic Idealize.ShloMosaic.TcCoe Idealize.SL.Sem
open Cert.Kernel Cert.Kernel.Gen

variable {F : FTy → Type} [FloatOps F]

theorem frame (m : (ℓ : Loc nD τ sig) → Buf (Elt F) ℓ) (g : Dev nD → PrngReg) (h : Tiles.cum (Tiles.nat16 (gs m)) 15 = 32768) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_mono (run (tab m h) g) fun r hr => ⟨fun c => args_of (tab m h) r hr.1 c, hr.2⟩

end Cert.Kernel.Run

end
-- ==== Proof.KernelIdealBody.lean ====
/- What the kernel's body leaves in the output block and in its two scratch buffers at a grid point, in the three ways its two
   conditions can fall: live and to be quantised anew, live with the codes of the point before, and not live. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.ValueKit.Basic
public import Idealize.ShloMosaic.Lib.Pipeline.Frame
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

abbrev tb0 : Memref sig .tc .smem S79 .i32 := Memref.whole main_v42
abbrev tb1 : Memref sig .tc .smem S79 .i32 := Memref.whole main_v25
abbrev tb2 : Memref sig .tc .smem S16 .i32 := Memref.whole main_v1
abbrev tb3 : Memref sig .tc .smem S16 .i32 := Memref.whole main_v0
abbrev tb4 : Memref sig .tc .smem S1 .i32 := Memref.whole main_v13
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp (MT nD τ sig Unit (Elt F) ℕ (UR sig nD τ) ℕ) :=
  M.view.loc (c : Thread nD τ) ↦{fullShare.right} f

/-- The word of a 79-word table at the offsets `off`. -/
abbrev wd79 (c : Dev nD) (M : Memref sig .tc .smem S79 .i32) (t : TbBuf (F := F) c M) (off : Fin 1 → Nat) (h : ∀ a, off a + S1.size a ≤ S79.size a) : Elt F .i32 :=
  M.view.readAt (Elt F) (Rect.unit (s := S79) off S1.size h).toLoadRect t (Shape.Idx.first (numel1_S1.symm ▸ Nat.one_pos))
/-- The word of a 16-word table at the offsets `off`. -/
abbrev wd16 (c : Dev nD) (M : Memref sig .tc .smem S16 .i32) (t : TbBuf (F := F) c M) (off : Fin 1 → Nat) (h : ∀ a, off a + S1.size a ≤ S16.size a) : Elt F .i32 :=
  M.view.readAt (Elt F) (Rect.unit (s := S16) off S1.size h).toLoadRect t (Shape.Idx.first (numel1_S1.symm ▸ Nat.one_pos))
/-- The word of the one-word table. -/
abbrev wd1 (c : Dev nD) (M : Memref sig .tc .smem S1 .i32) (t : TbBuf (F := F) c M) : Elt F .i32 :=
  M.view.readAt (Elt F) (Rect.unit (s := S1) ![0] S1.size inb_S1_S1_0).toLoadRect t (Shape.Idx.first (numel1_S1.symm ▸ Nat.one_pos))

/-- Whether a point is to quantise its tile: it is live, and the first or at a tile its predecessor did not have. -/
def isNew (i : grid0.Coords) (v1 v5 v9 : BitVec 32) : BitVec 1 :=
  let arg0 : BitVec 32 := BitVec.ofNat 32 (i 0).val
  Scalar.cmpi .ne (Scalar.extui (Scalar.andi (Scalar.cmpi .slt arg0 v9) (Scalar.ori (Scalar.cmpi .eq arg0 0#32) (Scalar.cmpi .ne v1 v5))) : BitVec 32) 0#32

/-- The codes of a block of rows: each row scaled by the inverse of its power of two, clipped and rounded. -/
def codesOf (x0 : Vec F S512x2816 .bf16) : Vec F S512x2816 .fp8e5m2 :=
  k0_pay1 (k0_pay10 (k0_pay4 x0) (k0_pay5 x0) (k0_pay6 x0) k0_pay7)
/-- The rows' powers of two, each repeated along 128 lanes. -/
def scalesOf (x0 : Vec F S512x2816 .bf16) : Vec F S512x128 .f32 := k0_pay2 (k0_pay9 (k0_pay5 x0) (k0_pay6 x0) k0_pay7)
/-- The first lane of the scales. -/
abbrev scaleCol (s : Vec F S512x128 .f32) : Vec F S512x1 .f32 :=
  View.ld s (Rect.unit (s := S512x128) ![0, 0] S512x1.size inb_S512x128_S512x1_0_0)

/-- Equal operands give an equal output block. -/
theorem pay3_congr {w : BitVec 32} {a a' : Vec F S512x2816 .fp8e5m2} {b b' : Vec F S1x3072x2816 .fp8e4m3} {s s' : Vec F S512x1 .f32}
    {u : Vec F S1x3072 .f32} {l h : BitVec 32} {y y' : Vec F S512x3072 .bf16} (ha : a = a') (hb : b = b') (hs : s = s') (hy : y = y') :
    k0_pay3 w a b s u l h y = k0_pay3 w a' b' s' u l h y' := by subst ha hb hs hy; rfl

/-- A live point at a new tile. -/
theorem run_new (c : Dev nD) (E : Set ℕ) (i : grid0.Coords)
    (arg6 : Memref sig .tc .vmem S512x2816 .bf16) (harg6 : arg6.IsWhole)
    (arg7 : Memref sig .tc .vmem S1x3072x2816 .fp8e4m3) (harg7 : arg7.IsWhole)
    (arg8 : Memref sig .tc .vmem S16x3072 .f32) (harg8 : arg8.IsWhole)
    (arg9 : Memref sig .tc .vmem S512x3072 .bf16) (harg9 : arg9.IsWhole)
    (arg10 : Memref sig .tc .vmem S512x2816 .fp8e5m2) (harg10 : arg10.IsWhole)
    (arg11 : Memref sig .tc .vmem S512x128 .f32) (harg11 : arg11.IsWhole)
    (t0 : TbBuf (F := F) c tb0) (t1 : TbBuf (F := F) c tb1) (t2 : TbBuf (F := F) c tb2) (t3 : TbBuf (F := F) c tb3) (t4 : TbBuf (F := F) c tb4)
    (x0 : Vec F S512x2816 .bf16) (x1 : Vec F S1x3072x2816 .fp8e4m3) (x2 : Vec F S16x3072 .f32) (x3 : Vec F S512x3072 .bf16)
    (x4 : Vec F S512x2816 .fp8e5m2) (x5 : Vec F S512x128 .f32)
    (K : PUnit → sProp (MT nD τ sig Unit (Elt F) ℕ (UR sig nD τ) ℕ))
    (hnew : isNew i (wd79 c tb0 t0 (k0_off1 i) (k0_off1_inb i)) (wd79 c tb0 t0 (k0_off2 i) (k0_off2_inb i)) (wd1 c tb4 t4) = 1#1)
    (hlive : k0_cond2 i (wd1 c tb4 t4) = 1#1)
    (hc1 : k0_chk1 i (wd1 c tb4 t4) (wd79 c tb1 t1 (k0_off3 i) (k0_off3_inb i)))
    (hc2 : k0_chk2 i (wd1 c tb4 t4) (wd79 c tb1 t1 (k0_off5 i) (k0_off5_inb i)))
    (hc3 : k0_chk3 i (wd1 c tb4 t4) (wd79 c tb1 t1 (k0_off7 i) (k0_off7_inb i))) :
    iprop(owns (c : Thread nD τ) arg6 fullShare x0 ∗ owns (c : Thread nD τ) arg7 fullShare x1
        ∗ owns (c : Thread nD τ) arg8 fullShare x2 ∗ owns (c : Thread nD τ) arg9 fullShare x3
        ∗ owns (c : Thread nD τ) arg10 fullShare x4 ∗ owns (c : Thread nD τ) arg11 fullShare x5
        ∗ tbPt c tb0 t0 ∗ tbPt c tb1 t1 ∗ tbPt c tb2 t2 ∗ tbPt c tb3 t3 ∗ tbPt c tb4 t4
        ∗ (iprop(owns (c : Thread nD τ) arg6 fullShare x0 ∗ owns (c : Thread nD τ) arg7 fullShare x1
        ∗ owns (c : Thread nD τ) arg8 fullShare x2 ∗ owns (c : Thread nD τ) arg9 fullShare (k0_pay3 (wd79 c tb0 t0 (k0_off1 i) (k0_off1_inb i)) (codesOf x0) x1 (scaleCol (scalesOf x0))
          (View.ld x2 (Rect.unit (s := S16x3072) (k0_off4 (wd79 c tb1 t1 (k0_off3 i) (k0_off3_inb i))) S1x3072.size (k0_off4_inb i _ _ hc1 hlive)))
          (wd16 c tb2 t2 (k0_off6 (wd79 c tb1 t1 (k0_off5 i) (k0_off5_inb i))) (k0_off6_inb i _ _ hc2 hlive))
          (wd16 c tb3 t3 (k0_off8 (wd79 c tb1 t1 (k0_off7 i) (k0_off7_inb i))) (k0_off8_inb i _ _ hc3 hlive)) x3)
        ∗ owns (c : Thread nD τ) arg10 fullShare (codesOf x0) ∗ owns (c : Thread nD τ) arg11 fullShare (scalesOf x0)
        ∗ tbPt c tb0 t0 ∗ tbPt c tb1 t1 ∗ tbPt c tb2 t2 ∗ tbPt c tb3 t3 ∗ tbPt c tb4 t4) -∗ K ⟨⟩))
      ⊢ wp frame (wpE (defs₀ (F := F)) Variants.none c none) E
          (cc0_moe_dgrad i tb0 (Memref.isWhole_whole _) tb1 (Memref.isWhole_whole _) tb2 (Memref.isWhole_whole _) tb3 (Memref.isWhole_whole _) tb4 (Memref.isWhole_whole _)
            arg6 harg6 arg7 harg7 arg8 harg8 arg9 harg9 arg10 harg10 arg11 harg11) K := by
  simp only [cc0_moe_dgrad_eq_skeleton]; unfold cc0_moe_dgrad_skel
  simp only [k0_part1_eq_skeleton, k0_part2_eq_skeleton]
  unfold isNew at hnew
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, HT0, HT1, HT2, HT3, HT4, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (fun y => View.cover_of_tiled _ S512x3072.size (by rfl) y)).trans ?_
    refine (View.canon_cons_unit_lit inb_S512x3072_S512x3072_0_0 _ _ (by decide)).trans ?_
    exact pay3_congr ((View.readCov_unit_lit arg10.view inb_S512x2816_S512x2816_0_0 _ (by decide)).trans (congrArg codesOf (View.ld_unit_lit inb_S512x2816_S512x2816_0_0 _ (by decide)))) (View.ld_unit_lit inb_S1x3072x2816_S1x3072x2816_0_0_0 _ (by decide)) ((View.readCov_eq_canon_ld _ _ _ (fun y => View.cover_of_tiled _ S512x128.size (by rfl) y)).trans (congrArg scaleCol ((View.canon_cons_unit_lit inb_S512x128_S512x128_0_0 _ _ (by decide)).trans (congrArg scalesOf (View.ld_unit_lit inb_S512x2816_S512x2816_0_0 _ (by decide)))))) (View.ld_unit_lit inb_S512x3072_S512x3072_0_0 _ (by decide))
  isplitl [H4]
  · iexists _; isplitr
    swap; · iexact H4
    ipureintro
    refine (View.read_writes_eq_canon _ _ _ (fun y => View.cover_of_tiled _ S512x2816.size (by rfl) y)).trans ?_
    refine (View.canon_cons_unit_lit inb_S512x2816_S512x2816_0_0 _ _ (by decide)).trans ?_
    exact congrArg codesOf (View.ld_unit_lit inb_S512x2816_S512x2816_0_0 _ (by decide))
  isplitl [H5]
  · iexists _; isplitr
    swap; · iexact H5
    ipureintro
    refine (View.read_writes_eq_canon _ _ _ (fun y => View.cover_of_tiled _ S512x128.size (by rfl) y)).trans ?_
    refine (View.canon_cons_unit_lit inb_S512x128_S512x128_0_0 _ _ (by decide)).trans ?_
    exact congrArg scalesOf (View.ld_unit_lit inb_S512x2816_S512x2816_0_0 _ (by decide))
  isplitl [HT0]; · iexact HT0
  isplitl [HT1]; · iexact HT1
  isplitl [HT2]; · iexact HT2
  isplitl [HT3]; · iexact HT3
  iexact HT4

/-- A live point at the tile of the point before. -/
theorem run_kept (c : Dev nD) (E : Set ℕ) (i : grid0.Coords)
    (arg6 : Memref sig .tc .vmem S512x2816 .bf16) (harg6 : arg6.IsWhole)
    (arg7 : Memref sig .tc .vmem S1x3072x2816 .fp8e4m3) (harg7 : arg7.IsWhole)
    (arg8 : Memref sig .tc .vmem S16x3072 .f32) (harg8 : arg8.IsWhole)
    (arg9 : Memref sig .tc .vmem S512x3072 .bf16) (harg9 : arg9.IsWhole)
    (arg10 : Memref sig .tc .vmem S512x2816 .fp8e5m2) (harg10 : arg10.IsWhole)
    (arg11 : Memref sig .tc .vmem S512x128 .f32) (harg11 : arg11.IsWhole)
    (t0 : TbBuf (F := F) c tb0) (t1 : TbBuf (F := F) c tb1) (t2 : TbBuf (F := F) c tb2) (t3 : TbBuf (F := F) c tb3) (t4 : TbBuf (F := F) c tb4)
    (x0 : Vec F S512x2816 .bf16) (x1 : Vec F S1x3072x2816 .fp8e4m3) (x2 : Vec F S16x3072 .f32) (x3 : Vec F S512x3072 .bf16)
    (x4 : Vec F S512x2816 .fp8e5m2) (x5 : Vec F S512x128 .f32)
    (K : PUnit → sProp (MT nD τ sig Unit (Elt F) ℕ (UR sig nD τ) ℕ))
    (hnew : ¬isNew i (wd79 c tb0 t0 (k0_off1 i) (k0_off1_inb i)) (wd79 c tb0 t0 (k0_off2 i) (k0_off2_inb i)) (wd1 c tb4 t4) = 1#1)
    (hlive : k0_cond2 i (wd1 c tb4 t4) = 1#1)
    (hc1 : k0_chk1 i (wd1 c tb4 t4) (wd79 c tb1 t1 (k0_off3 i) (k0_off3_inb i)))
    (hc2 : k0_chk2 i (wd1 c tb4 t4) (wd79 c tb1 t1 (k0_off5 i) (k0_off5_inb i)))
    (hc3 : k0_chk3 i (wd1 c tb4 t4) (wd79 c tb1 t1 (k0_off7 i) (k0_off7_inb i))) :
    iprop(owns (c : Thread nD τ) arg6 fullShare x0 ∗ owns (c : Thread nD τ) arg7 fullShare x1
        ∗ owns (c : Thread nD τ) arg8 fullShare x2 ∗ owns (c : Thread nD τ) arg9 fullShare x3
        ∗ owns (c : Thread nD τ) arg10 fullShare x4 ∗ owns (c : Thread nD τ) arg11 fullShare x5
        ∗ tbPt c tb0 t0 ∗ tbPt c tb1 t1 ∗ tbPt c tb2 t2 ∗ tbPt c tb3 t3 ∗ tbPt c tb4 t4
        ∗ (iprop(owns (c : Thread nD τ) arg6 fullShare x0 ∗ owns (c : Thread nD τ) arg7 fullShare x1
        ∗ owns (c : Thread nD τ) arg8 fullShare x2 ∗ owns (c : Thread nD τ) arg9 fullShare (k0_pay3 (wd79 c tb0 t0 (k0_off1 i) (k0_off1_inb i)) x4 x1 (scaleCol x5)
          (View.ld x2 (Rect.unit (s := S16x3072) (k0_off4 (wd79 c tb1 t1 (k0_off3 i) (k0_off3_inb i))) S1x3072.size (k0_off4_inb i _ _ hc1 hlive)))
          (wd16 c tb2 t2 (k0_off6 (wd79 c tb1 t1 (k0_off5 i) (k0_off5_inb i))) (k0_off6_inb i _ _ hc2 hlive))
          (wd16 c tb3 t3 (k0_off8 (wd79 c tb1 t1 (k0_off7 i) (k0_off7_inb i))) (k0_off8_inb i _ _ hc3 hlive)) x3)
        ∗ owns (c : Thread nD τ) arg10 fullShare x4 ∗ owns (c : Thread nD τ) arg11 fullShare x5
        ∗ tbPt c tb0 t0 ∗ tbPt c tb1 t1 ∗ tbPt c tb2 t2 ∗ tbPt c tb3 t3 ∗ tbPt c tb4 t4) -∗ K ⟨⟩))
      ⊢ wp frame (wpE (defs₀ (F := F)) Variants.none c none) E
          (cc0_moe_dgrad i tb0 (Memref.isWhole_whole _) tb1 (Memref.isWhole_whole _) tb2 (Memref.isWhole_whole _) tb3 (Memref.isWhole_whole _) tb4 (Memref.isWhole_whole _)
            arg6 harg6 arg7 harg7 arg8 harg8 arg9 harg9 arg10 harg10 arg11 harg11) K := by
  simp only [cc0_moe_dgrad_eq_skeleton]; unfold cc0_moe_dgrad_skel
  simp only [k0_part1_eq_skeleton, k0_part2_eq_skeleton]
  unfold isNew at hnew
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, HT0, HT1, HT2, HT3, HT4, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (fun y => View.cover_of_tiled _ S512x3072.size (by rfl) y)).trans ?_
    refine (View.canon_cons_unit_lit inb_S512x3072_S512x3072_0_0 _ _ (by decide)).trans ?_
    exact pay3_congr (View.ld_unit_lit inb_S512x2816_S512x2816_0_0 _ (by decide)) (View.ld_unit_lit inb_S1x3072x2816_S1x3072x2816_0_0_0 _ (by decide)) rfl (View.ld_unit_lit inb_S512x3072_S512x3072_0_0 _ (by decide))
  isplitl [H4]
  · iexists f4; isplitr; · ipureintro; rfl
    iexact H4
  isplitl [H5]
  · iexists f5; isplitr; · ipureintro; rfl
    iexact H5
  isplitl [HT0]; · iexact HT0
  isplitl [HT1]; · iexact HT1
  isplitl [HT2]; · iexact HT2
  isplitl [HT3]; · iexact HT3
  iexact HT4

/-- A point that is not live. -/
theorem run_idle (c : Dev nD) (E : Set ℕ) (i : grid0.Coords)
    (arg6 : Memref sig .tc .vmem S512x2816 .bf16) (harg6 : arg6.IsWhole)
    (arg7 : Memref sig .tc .vmem S1x3072x2816 .fp8e4m3) (harg7 : arg7.IsWhole)
    (arg8 : Memref sig .tc .vmem S16x3072 .f32) (harg8 : arg8.IsWhole)
    (arg9 : Memref sig .tc .vmem S512x3072 .bf16) (harg9 : arg9.IsWhole)
    (arg10 : Memref sig .tc .vmem S512x2816 .fp8e5m2) (harg10 : arg10.IsWhole)
    (arg11 : Memref sig .tc .vmem S512x128 .f32) (harg11 : arg11.IsWhole)
    (t0 : TbBuf (F := F) c tb0) (t1 : TbBuf (F := F) c tb1) (t2 : TbBuf (F := F) c tb2) (t3 : TbBuf (F := F) c tb3) (t4 : TbBuf (F := F) c tb4)
    (x0 : Vec F S512x2816 .bf16) (x1 : Vec F S1x3072x2816 .fp8e4m3) (x2 : Vec F S16x3072 .f32) (x3 : Vec F S512x3072 .bf16)
    (x4 : Vec F S512x2816 .fp8e5m2) (x5 : Vec F S512x128 .f32)
    (K : PUnit → sProp (MT nD τ sig Unit (Elt F) ℕ (UR sig nD τ) ℕ))
    (hnew : ¬isNew i (wd79 c tb0 t0 (k0_off1 i) (k0_off1_inb i)) (wd79 c tb0 t0 (k0_off2 i) (k0_off2_inb i)) (wd1 c tb4 t4) = 1#1)
    (hlive : ¬k0_cond2 i (wd1 c tb4 t4) = 1#1) :
    iprop(owns (c : Thread nD τ) arg6 fullShare x0 ∗ owns (c : Thread nD τ) arg7 fullShare x1
        ∗ owns (c : Thread nD τ) arg8 fullShare x2 ∗ owns (c : Thread nD τ) arg9 fullShare x3
        ∗ owns (c : Thread nD τ) arg10 fullShare x4 ∗ owns (c : Thread nD τ) arg11 fullShare x5
        ∗ tbPt c tb0 t0 ∗ tbPt c tb1 t1 ∗ tbPt c tb2 t2 ∗ tbPt c tb3 t3 ∗ tbPt c tb4 t4
        ∗ (iprop(owns (c : Thread nD τ) arg6 fullShare x0 ∗ owns (c : Thread nD τ) arg7 fullShare x1
        ∗ owns (c : Thread nD τ) arg8 fullShare x2 ∗ owns (c : Thread nD τ) arg9 fullShare x3
        ∗ owns (c : Thread nD τ) arg10 fullShare x4 ∗ owns (c : Thread nD τ) arg11 fullShare x5
        ∗ tbPt c tb0 t0 ∗ tbPt c tb1 t1 ∗ tbPt c tb2 t2 ∗ tbPt c tb3 t3 ∗ tbPt c tb4 t4) -∗ K ⟨⟩))
      ⊢ wp frame (wpE (defs₀ (F := F)) Variants.none c none) E
          (cc0_moe_dgrad i tb0 (Memref.isWhole_whole _) tb1 (Memref.isWhole_whole _) tb2 (Memref.isWhole_whole _) tb3 (Memref.isWhole_whole _) tb4 (Memref.isWhole_whole _)
            arg6 harg6 arg7 harg7 arg8 harg8 arg9 harg9 arg10 harg10 arg11 harg11) K := by
  simp only [cc0_moe_dgrad_eq_skeleton]; unfold cc0_moe_dgrad_skel
  simp only [k0_part1_eq_skeleton, k0_part2_eq_skeleton]
  unfold isNew at hnew
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, HT0, HT1, HT2, HT3, HT4, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [HT0]; · iexact HT0
  isplitl [HT1]; · iexact HT1
  isplitl [HT2]; · iexact HT2
  isplitl [HT3]; · iexact HT3
  iexact HT4

end Cert.KernelIdeal.Run

end
-- ==== Proof.KernelIdealTab.lean ====
/- The kernel's prefetched tables as the region finds them, the facts of them its certificate uses (`Tab`), and the pipeline at them. -/
module

public import proofs.«01_k».proof.Proof.KernelIdealBody
public import Idealize.ShloMosaic.Lib.Affine

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
variable (m : (ℓ : Loc nD τ sig) → Buf (Elt F) ℓ)

/-- What every buffer holds when the region is entered: the launch contents after the lines before it. -/
def V (c : Dev nD) (b : Ref sig .tc) : Buf (Elt F) ((c.tc : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 800000 in
/-- The program up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No line before the region writes an argument. -/
theorem V_arg (b : Ref sig .tc) (hb : b = main_arg0 ∨ b = main_arg1 ∨ b = main_arg2 ∨ b = main_arg3) (c : Dev nD) :
    V m c b = m ((c : Thread nD τ).loc b) :=
  StableHlo.after_of_forall_not_mem (b := Proc.devRef .tc b) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    rcases hb with rfl | rfl | rfl | rfl
    all_goals
      repeat' apply And.intro
      all_goals exact StableHlo.devRef_ne_of_ne (by decide)))

/-- The tables' contents (there is one device). -/
def tbl : pre0.Contents (Elt F) := fun j => V m (0 : Dev nD) (pre0.ref j)
theorem V_pre (c : Dev nD) (j : Fin 5) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The index of word `n` of a table. -/
def ix79 (n : Fin 79) : S79.Idx := fun a => ⟨n.val, by obtain rfl : a = 0 := Subsingleton.elim _ _; exact n.isLt⟩
def ix16 (e : Fin 16) : S16.Idx := fun a => ⟨e.val, by obtain rfl : a = 0 := Subsingleton.elim _ _; exact e.isLt⟩
def ix1 : S1.Idx := fun a => ⟨0, by obtain rfl : a = 0 := Subsingleton.elim _ _; exact Nat.one_pos⟩

/-- The words of the tables: a pair's tile and expert, an expert's first row and the row after its last, the number of pairs. -/
def wTile (n : Fin 79) : BitVec 32 := (V m 0 main_v42 : S79.Idx → BitVec 32) (ix79 n)
def wEx (n : Fin 79) : BitVec 32 := (V m 0 main_v25 : S79.Idx → BitVec 32) (ix79 n)
def wStart (e : Fin 16) : BitVec 32 := (V m 0 main_v1 : S16.Idx → BitVec 32) (ix16 e)
def wEnd (e : Fin 16) : BitVec 32 := (V m 0 main_v0 : S16.Idx → BitVec 32) (ix16 e)
def wCount : BitVec 32 := (V m 0 main_v13 : S1.Idx → BitVec 32) ix1

/-- What the certificate uses of the tables: they hold small numbers, the tiles do not decrease, an expert's rows are those
    the kernel's two bounds admit, and each row's tile is paired with the row's expert at some live point. -/
structure Tab where
  tile : Nat → Nat
  ex : Nat → Nat
  st : Nat → Nat
  en : Nat → Nat
  cnt : Nat
  rowEx : Nat → Nat
  hT : ∀ n : Fin 79, wTile m n = BitVec.ofNat 32 (tile n)
  hE : ∀ n : Fin 79, wEx m n = BitVec.ofNat 32 (ex n)
  hS : ∀ e : Fin 16, wStart m e = BitVec.ofNat 32 (st e)
  hD : ∀ e : Fin 16, wEnd m e = BitVec.ofNat 32 (en e)
  hC : wCount m = BitVec.ofNat 32 cnt
  tile_lt : ∀ n, n < 79 → tile n < 64
  ex_lt : ∀ n, n < 79 → ex n < 16
  tile_mono : ∀ n, n + 1 < 79 → tile n ≤ tile (n + 1)
  cnt_le : cnt ≤ 79
  st_le : ∀ e, e < 16 → st e ≤ 32768
  en_le : ∀ e, e < 16 → en e ≤ 32768
  mine : ∀ e, e < 16 → ∀ r, r < 32768 → ((st e ≤ r ∧ r < en e) ↔ rowEx r = e)
  cover : ∀ r, r < 32768 → ∃ n, n < cnt ∧ tile n = r / 512 ∧ ex n = rowEx r

variable {m}

theorem rect_first_79 (n : Nat) (hn : n < 79) (off : Fin 1 → Nat) (h : ∀ a, off a + S1.size a ≤ S79.size a) (ho : off 0 = n) :
    (Rect.unit (s := S79) off S1.size h).emb (Shape.Idx.first (numel1_S1.symm ▸ Nat.one_pos)) = ix79 ⟨n, hn⟩ := by
  funext a; obtain rfl : a = 0 := Subsingleton.elim _ _
  apply Fin.ext
  show off 0 + 1 * 0 = n
  omega
theorem rect_first_16 (n : Nat) (hn : n < 16) (off : Fin 1 → Nat) (h : ∀ a, off a + S1.size a ≤ S16.size a) (ho : off 0 = n) :
    (Rect.unit (s := S16) off S1.size h).emb (Shape.Idx.first (numel1_S1.symm ▸ Nat.one_pos)) = ix16 ⟨n, hn⟩ := by
  funext a; obtain rfl : a = 0 := Subsingleton.elim _ _
  apply Fin.ext
  show off 0 + 1 * 0 = n
  omega

/-- The point's number. -/
abbrev pt (i : grid0.Coords) : Fin 79 := i 0

theorem ofNat_pt (i : grid0.Coords) : (BitVec.ofNat 32 (i 0).val).toNat = (pt i).val := by
  have h : (i 0).val < 79 := (pt i).isLt
  show (i 0).val % 2 ^ 32 = (i 0).val
  exact Nat.mod_eq_of_lt (by omega)
theorem off1_eq (i : grid0.Coords) : k0_off1 i 0 = (pt i).val := ofNat_pt i

theorem tr0_eq (T : Tab m) (i : grid0.Coords) : cc0_transform_0 k0_off1_inb numel1_S1 (tbl m) i = ![T.tile (pt i), 0] := by
  have h := T.tile_lt (pt i) (pt i).isLt
  have e : (tbl m).at 0 (Rect.unit (s := S79) ![(Scalar.indexCast (BitVec.ofNat 32 (i 0).val)).toNat] S1.size (k0_off1_inb i)) numel1_S1
      = BitVec.ofNat 32 (T.tile (pt i)) := by
    rw [← T.hT (pt i)]
    exact congrArg (V m 0 main_v42 : S79.Idx → BitVec 32) (rect_first_79 _ (pt i).isLt _ _ (ofNat_pt i))
  have e2 : (BitVec.ofNat 32 (T.tile (pt i))).toNat = T.tile (pt i) := Nat.mod_eq_of_lt (by omega)
  unfold cc0_transform_0
  dsimp only
  rw [e, e2]; rfl
theorem tr3_eq (T : Tab m) (i : grid0.Coords) : cc0_transform_3 k0_off1_inb numel1_S1 (tbl m) i = ![T.tile (pt i), 0] := tr0_eq T i
theorem tr1_eq (T : Tab m) (i : grid0.Coords) : cc0_transform_1 k0_off1_inb numel1_S1 (tbl m) i = ![T.ex (pt i), 0, 0] := by
  have h := T.ex_lt (pt i) (pt i).isLt
  have e : (tbl m).at 1 (Rect.unit (s := S79) ![(Scalar.indexCast (BitVec.ofNat 32 (i 0).val)).toNat] S1.size (k0_off1_inb i)) numel1_S1
      = BitVec.ofNat 32 (T.ex (pt i)) := by
    rw [← T.hE (pt i)]
    exact congrArg (V m 0 main_v25 : S79.Idx → BitVec 32) (rect_first_79 _ (pt i).isLt _ _ (ofNat_pt i))
  have e2 : (BitVec.ofNat 32 (T.ex (pt i))).toNat = T.ex (pt i) := Nat.mod_eq_of_lt (by omega)
  unfold cc0_transform_1
  dsimp only
  rw [e, e2]; rfl

/-- Every block lies in its array and moves whole words. -/
theorem okM (T : Tab m) : Ok m := by
  refine ⟨fun i => ?_, fun i => ?_, fun i => ?_⟩
  · have h := T.tile_lt (pt i) (pt i).isLt
    refine ⟨?_, .inr (Affine.block_words_dvd (by decide) (by decide))⟩
    rw [tr0_eq T i]; intro a
    match a with
    | 0 => show (T.tile (pt i) + 1) * 512 ≤ 32768; omega
    | 1 => exact Nat.le_of_eq (Nat.one_mul _)
  · have h := T.ex_lt (pt i) (pt i).isLt
    refine ⟨?_, .inr (Affine.block_words_dvd (by decide) (by decide))⟩
    rw [tr1_eq T i]; intro a
    match a with
    | 0 => show (T.ex (pt i) + 1) * 1 ≤ 16; omega
    | 1 => exact Nat.le_of_eq (Nat.one_mul _)
    | 2 => exact Nat.le_of_eq (Nat.one_mul _)
  · have h := T.tile_lt (pt i) (pt i).isLt
    refine ⟨?_, .inr (Affine.block_words_dvd (by decide) (by decide))⟩
    rw [tr3_eq T i]; intro a
    match a with
    | 0 => show (T.tile (pt i) + 1) * 512 ≤ 32768; omega
    | 1 => exact Nat.le_of_eq (Nat.one_mul _)

theorem s1_idx (j : S1.Idx) : j = ix1 := funext fun a => match a with | 0 => Subsingleton.elim (α := Fin 1) _ _

/-- The body's words: the tile's at a point, its expert's, and the bounds at an expert's number. -/
theorem wd_tile (T : Tab m) (i : grid0.Coords) (off : Fin 1 → Nat) (h : ∀ a, off a + S1.size a ≤ S79.size a) (n : Nat) (hn : n < 79) (ho : off 0 = n) :
    wd79 0 tb0 (tbl m 0) off h = BitVec.ofNat 32 (T.tile n) :=
  (congrArg (V m 0 main_v42 : S79.Idx → BitVec 32) (rect_first_79 n hn _ _ ho)).trans (T.hT ⟨n, hn⟩)
theorem wd_ex (T : Tab m) (i : grid0.Coords) (off : Fin 1 → Nat) (h : ∀ a, off a + S1.size a ≤ S79.size a) (n : Nat) (hn : n < 79) (ho : off 0 = n) :
    wd79 0 tb1 (tbl m 1) off h = BitVec.ofNat 32 (T.ex n) :=
  (congrArg (V m 0 main_v25 : S79.Idx → BitVec 32) (rect_first_79 n hn _ _ ho)).trans (T.hE ⟨n, hn⟩)
theorem wd_start (T : Tab m) (off : Fin 1 → Nat) (h : ∀ a, off a + S1.size a ≤ S16.size a) (n : Nat) (hn : n < 16) (ho : off 0 = n) :
    wd16 0 tb2 (tbl m 2) off h = BitVec.ofNat 32 (T.st n) :=
  (congrArg (V m 0 main_v1 : S16.Idx → BitVec 32) (rect_first_16 n hn _ _ ho)).trans (T.hS ⟨n, hn⟩)
theorem wd_end (T : Tab m) (off : Fin 1 → Nat) (h : ∀ a, off a + S1.size a ≤ S16.size a) (n : Nat) (hn : n < 16) (ho : off 0 = n) :
    wd16 0 tb3 (tbl m 3) off h = BitVec.ofNat 32 (T.en n) :=
  (congrArg (V m 0 main_v0 : S16.Idx → BitVec 32) (rect_first_16 n hn _ _ ho)).trans (T.hD ⟨n, hn⟩)
theorem wd_count (T : Tab m) : wd1 0 tb4 (tbl m 4) = BitVec.ofNat 32 T.cnt :=
  (congrArg (V m 0 main_v13 : S1.Idx → BitVec 32) (s1_idx _)).trans T.hC

theorem slt_bit : ∀ n : Fin 79, ∀ k : Fin 80, Scalar.cmpi .slt (BitVec.ofNat 32 n.val) (BitVec.ofNat 32 k.val) = BitVec.ofBool (decide (n.val < k.val)) := by
  decide +kernel
theorem ofBool_eq_one (p : Prop) [Decidable p] : BitVec.ofBool (decide p) = 1#1 ↔ p := by by_cases h : p <;> simp [h]
theorem wide_bit : ∀ x : BitVec 1, Scalar.cmpi .ne (Scalar.extui x : BitVec 32) 0#32 = x := by decide
theorem and_bit : ∀ x y : BitVec 1, Scalar.andi x y = 1#1 ↔ x = 1#1 ∧ y = 1#1 := by decide
theorem or_bit : ∀ x y : BitVec 1, Scalar.ori x y = 1#1 ↔ x = 1#1 ∨ y = 1#1 := by decide
theorem eq_bit (a b : BitVec 32) : Scalar.cmpi .eq a b = 1#1 ↔ a = b := by
  show BitVec.ofBool (decide (a = b)) = 1#1 ↔ _
  exact ofBool_eq_one _
theorem ne_bit (a b : BitVec 32) : Scalar.cmpi .ne a b = 1#1 ↔ a ≠ b := by
  show BitVec.ofBool (a != b) = 1#1 ↔ _
  by_cases h : a = b
  · subst h; simp
  · have e : (a != b) = true := by simpa using h
    rw [e]; simp [h]

/-- The body's second condition: the point is one of the pairs. -/
theorem cond2_iff (T : Tab m) (i : grid0.Coords) : k0_cond2 i (BitVec.ofNat 32 T.cnt) = 1#1 ↔ (pt i).val < T.cnt := by
  have hc := T.cnt_le
  have e := slt_bit (pt i) ⟨T.cnt, by omega⟩
  show Scalar.cmpi .ne (Scalar.extui (Scalar.cmpi .slt (BitVec.ofNat 32 (pt i).val) (BitVec.ofNat 32 T.cnt)) : BitVec 32) 0#32 = 1#1 ↔ _
  rw [wide_bit, e, ofBool_eq_one]

/-- Its first condition: besides, the point is the first or its tile is not its predecessor's. -/
theorem isNew_iff (T : Tab m) (i : grid0.Coords) (a b : Nat) (ha : a < 64) (hb : b < 64) :
    isNew i (BitVec.ofNat 32 a) (BitVec.ofNat 32 b) (BitVec.ofNat 32 T.cnt) = 1#1 ↔ (pt i).val < T.cnt ∧ ((pt i).val = 0 ∨ a ≠ b) := by
  have hc := T.cnt_le
  have h0 := (pt i).isLt
  have e := slt_bit (pt i) ⟨T.cnt, by omega⟩
  show Scalar.cmpi .ne (Scalar.extui (Scalar.andi (Scalar.cmpi .slt (BitVec.ofNat 32 (pt i).val) (BitVec.ofNat 32 T.cnt))
    (Scalar.ori (Scalar.cmpi .eq (BitVec.ofNat 32 (pt i).val) (BitVec.ofNat 32 0)) (Scalar.cmpi .ne (BitVec.ofNat 32 a) (BitVec.ofNat 32 b)))) : BitVec 32) 0#32 = 1#1 ↔ _
  rw [wide_bit, and_bit, or_bit, e, ofBool_eq_one, eq_bit, ne_bit]
  generalize (pt i).val = n at *
  rw [WordCmp.ofNat_eq_ofNat_iff (by omega) (by omega), Ne, WordCmp.ofNat_eq_ofNat_iff (by omega) (by omega)]

/-- The predecessor's number, as the body computes it. -/
theorem off2_eq (i : grid0.Coords) : k0_off2 i 0 = (pt i).val - 1 := by
  have e : ∀ n : Fin 79, (Scalar.indexCast (Scalar.maxsi (Scalar.subi (BitVec.ofNat 32 n.val) 1#32) 0#32)).toNat = n.val - 1 := by decide +kernel
  exact e (pt i)

end Cert.KernelIdeal.Run

end
-- ==== Proof.KernelIdealRun.lean ====
/- The kernel's run: its proof data over the tables (what each point leaves in the output block, what the scratch buffers hold between
   points), the body obligation, and the launch. -/
module

public import proofs.«01_k».proof.Proof.KernelIdealTab

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.KernelIdeal Cert.KernelIdeal.Gen

variable {F : FTy → Type} [FloatOps F]
variable (m : (ℓ : Loc nD τ sig) → Buf (Elt F) ℓ)

/-- Rows `512 t …` of the first operand. -/
def dyAt (t : Nat) : Vec F S512x2816 .bf16 := fun x =>
  (V m 0 main_arg0 : S32768x2816.Idx → F .bf16) fun | 0 => ⟨(t * 512 + (x 0).val) % 32768, Nat.mod_lt _ (by decide)⟩ | 1 => ⟨(x 1).val, (x 1).isLt⟩
/-- Expert `e`'s weights. -/
def wAt (e : Nat) : Vec F S1x3072x2816 .fp8e4m3 := fun x =>
  (V m 0 main_arg2 : S16x3072x2816.Idx → F .fp8e4m3) fun | 0 => ⟨e % 16, Nat.mod_lt _ (by decide)⟩ | 1 => ⟨(x 1).val, (x 1).isLt⟩ | 2 => ⟨(x 2).val, (x 2).isLt⟩
/-- Expert `e`'s weight scales. -/
def wsAt (e : Nat) : Vec F S1x3072 .f32 := fun x =>
  (V m 0 main_arg3 : S16x3072.Idx → F .f32) fun | 0 => ⟨e % 16, Nat.mod_lt _ (by decide)⟩ | 1 => ⟨(x 1).val, (x 1).isLt⟩

/-- The block of products of tile `t`'s rows with expert `e`'s weights, scaled. -/
def valAt (t e : Nat) : Vec F S512x3072 .bf16 :=
  truncf .bf16 (mulf (mulf (matmul dot_S512x2816_S3072x2816_S512x3072_1_1_0_0_n_n none (codesOf (dyAt m t))
    (shapeCast S3072x2816 (wAt m e) shapeCasts_S1x3072x2816_S3072x2816) (constant S512x3072 .f32 0x00000000#32))
    (broadcastTo S512x3072 (scaleCol (scalesOf (dyAt m t))) broadcasts_S512x1_S512x3072))
    (broadcastTo S512x3072 (wsAt m e) broadcasts_S1x3072_S512x3072)) bitsLt_bf16_f32

variable {m}

/-- What point `n` leaves in the output block it found at `Y`. -/
def outAt (T : Tab m) (n : Nat) (Y : Vec F S512x3072 .bf16) : Vec F S512x3072 .bf16 :=
  if n < T.cnt then
    k0_pay3 (BitVec.ofNat 32 (T.tile n)) (codesOf (dyAt m (T.tile n))) (wAt m (T.ex n)) (scaleCol (scalesOf (dyAt m (T.tile n)))) (wsAt m (T.ex n))
      (BitVec.ofNat 32 (T.st (T.ex n))) (BitVec.ofNat 32 (T.en (T.ex n))) Y
  else Y

/-- What the scratch buffers hold before point `n`: after a live point, the codes and the scales of its tile. -/
def ScrOk (T : Tab m) (n : Nat) (x4 : Vec F S512x2816 .fp8e5m2) (x5 : Vec F S512x128 .f32) : Prop :=
  ∀ k, n = k + 1 → k < T.cnt → x4 = codesOf (dyAt m (T.tile k)) ∧ x5 = scalesOf (dyAt m (T.tile k))

abbrev scr0 : Memref sig .tc .vmem S512x2816 .fp8e5m2 := Memref.whole cc0_scratch0
abbrev scr1 : Memref sig .tc .vmem S512x128 .f32 := Memref.whole cc0_scratch1

/-- The tables' halves and the generator's register, which the body leaves as they are. -/
def PhiR (m : (ℓ : Loc nD τ sig) → Buf (Elt F) ℓ) (c : Dev nD) : sProp (MT nD τ sig Unit (Elt F) ℕ (UR sig nD τ) ℕ) :=
  iprop((∃ r, prngReg c r) ∗ Pipeline.ΦT pre0 (tbl m) c)

/-- The proof data. -/
def rdat (T : Tab m) (c : Dev nD) : RDat τ (Elt F) Unit ℕ (UR sig nD τ) ℕ (cfgM m (okM T)) c where
  A w := V m c (Pipeline.arrRef spec0 w)
  after := fun
    | 0 => fun t Y X => X = Y
    | 1 => fun t Y X => X = Y
    | 2 => fun t Y X => X = Y
    | 3 => fun t Y X => X = outAt T t.val Y
    | ⟨_ + 4, h⟩ => absurd h (Nat.not_lt.2 (Nat.le_add_left _ _))
  Φ n := iprop((∃ x4 x5, ⌜ScrOk T n.val x4 x5⌝ ∗ owns (c : Thread nD τ) scr0 fullShare x4 ∗ owns (c : Thread nD τ) scr1 fullShare x5) ∗ PhiR m c)
  q := fun _ => fullShare
  owed := fun _ => 0

theorem coords_val : ∀ t : Fin grid0.N, (grid0.coords t 0).val = t.val := by decide +kernel

theorem bound_val (T : Tab m) (t : Fin (cfgM m (okM T)).N) : t.val < 79 := Nat.lt_of_lt_of_eq t.isLt N_0

/-- A fetch fills the whole block, no block being cut. -/
theorem fetched_blk (T : Tab m) (w : Fin 4) (t : Fin (cfgM m (okM T)).N) (d) (x) :
    (rdat T 0).fetched w t d x = (rdat T 0).blockOf w t fun a => ⟨(x a).val, (x a).isLt⟩ := by
  have hm : ((cfgM m (okM T)).win w).moved ((cfgM m (okM T)).grid.coords t) x = true :=
    (((cfgM m (okM T)).win w).moved_iff _ x).mpr fun a => (x a).isLt
  unfold RDat.fetched Pipeline.Window.fill
  rw [dif_pos hm]

/-- Window 0's block number at a point. -/
def ixs0 (T : Tab m) (t : Fin (cfgM m (okM T)).N) : Fin 2 → Nat := ((cfgM m (okM T)).win 0).index t
theorem index0 (T : Tab m) (t : Fin (cfgM m (okM T)).N) : ixs0 T t = ![T.tile t.val, 0] := by
  show cc0_transform_0 k0_off1_inb numel1_S1 (tbl m) (grid0.coords t) = _
  rw [tr0_eq T, coords_val]
/-- Window 1's block number at a point. -/
def ixs1 (T : Tab m) (t : Fin (cfgM m (okM T)).N) : Fin 3 → Nat := ((cfgM m (okM T)).win 1).index t
theorem index1 (T : Tab m) (t : Fin (cfgM m (okM T)).N) : ixs1 T t = ![T.ex t.val, 0, 0] := by
  show cc0_transform_1 k0_off1_inb numel1_S1 (tbl m) (grid0.coords t) = _
  rw [tr1_eq T, coords_val]
/-- Window 3's block number at a point. -/
def ixs3 (T : Tab m) (t : Fin (cfgM m (okM T)).N) : Fin 2 → Nat := ((cfgM m (okM T)).win 3).index t
theorem index3 (T : Tab m) (t : Fin (cfgM m (okM T)).N) : ixs3 T t = ![T.tile t.val, 0] := by
  show cc0_transform_3 k0_off1_inb numel1_S1 (tbl m) (grid0.coords t) = _
  rw [tr3_eq T, coords_val]

/-- The block of an input at a point is the rows its tile or expert names. -/
theorem blk0 (T : Tab m) (t : Fin (cfgM m (okM T)).N) (d) : (rdat T 0).fetched 0 t d = dyAt m (T.tile t.val) := by
  have hl := T.tile_lt _ (bound_val T t)
  have hix := index0 T t
  funext (x : S512x2816.Idx)
  refine (fetched_blk T 0 t d x).trans ?_
  refine congrArg (V m 0 main_arg0 : S32768x2816.Idx → F .bf16) (funext fun a : Fin 2 => Fin.ext ?_)
  have hx0 : (x 0).val < 512 := (x 0).isLt
  match a with
  | 0 =>
    have h0 : ixs0 T t 0 = T.tile t.val := congrFun hix 0
    refine Eq.trans (b := ixs0 T t 0 * 512 + 1 * (x 0).val) rfl ?_
    show _ = (T.tile t.val * 512 + (x 0).val) % 32768
    rw [h0]; omega
  | 1 =>
    have h1 : ixs0 T t 1 = 0 := congrFun hix 1
    refine Eq.trans (b := ixs0 T t 1 * 2816 + 1 * (x 1).val) rfl ?_
    show _ = (x 1).val
    rw [h1]; omega

theorem blk1 (T : Tab m) (t : Fin (cfgM m (okM T)).N) (d) : (rdat T 0).fetched 1 t d = wAt m (T.ex t.val) := by
  have hl := T.ex_lt _ (bound_val T t)
  have hix := index1 T t
  funext (x : S1x3072x2816.Idx)
  refine (fetched_blk T 1 t d x).trans ?_
  refine congrArg (V m 0 main_arg2 : S16x3072x2816.Idx → F .fp8e4m3) (funext fun a : Fin 3 => Fin.ext ?_)
  have hx0 : (x 0).val < 1 := (x 0).isLt
  match a with
  | 0 =>
    have h0 : ixs1 T t 0 = T.ex t.val := congrFun hix 0
    refine Eq.trans (b := ixs1 T t 0 * 1 + 1 * (x 0).val) rfl ?_
    show _ = T.ex t.val % 16
    rw [h0]; omega
  | 1 =>
    have h1 : ixs1 T t 1 = 0 := congrFun hix 1
    refine Eq.trans (b := ixs1 T t 1 * 3072 + 1 * (x 1).val) rfl ?_
    show _ = (x 1).val
    rw [h1]; omega
  | 2 =>
    have h2 : ixs1 T t 2 = 0 := congrFun hix 2
    refine Eq.trans (b := ixs1 T t 2 * 2816 + 1 * (x 2).val) rfl ?_
    show _ = (x 2).val
    rw [h2]; omega

theorem blk2 (T : Tab m) (t : Fin (cfgM m (okM T)).N) (d) : (rdat T 0).fetched 2 t d = (V m 0 main_arg3 : S16x3072.Idx → F .f32) := by
  funext (x : S16x3072.Idx)
  refine (fetched_blk T 2 t d x).trans ?_
  refine congrArg (V m 0 main_arg3 : S16x3072.Idx → F .f32) (funext fun a : Fin 2 => Fin.ext ?_)
  match a with
  | 0 =>
    refine Eq.trans (b := 0 * 16 + 1 * (x 0).val) rfl ?_
    show _ = (x 0).val
    omega
  | 1 =>
    refine Eq.trans (b := 0 * 3072 + 1 * (x 1).val) rfl ?_
    show _ = (x 1).val
    omega

/-- So it is what the body finds in the input's buffer. -/
theorem found0 (T : Tab m) (t : Fin (cfgM m (okM T)).N) (Y) (h : (rdat T 0).Finds 0 t Y) : Y = dyAt m (T.tile t.val) := by
  obtain ⟨d, hd⟩ := RDat.finds_in_eq_fetched (rdat T 0) 0 rfl (fun _ _ _ => rfl) (fun _ _ _ h => h) t Y h
  rw [hd]; exact blk0 T t d
theorem found1 (T : Tab m) (t : Fin (cfgM m (okM T)).N) (Y) (h : (rdat T 0).Finds 1 t Y) : Y = wAt m (T.ex t.val) := by
  obtain ⟨d, hd⟩ := RDat.finds_in_eq_fetched (rdat T 0) 1 rfl (fun _ _ _ => rfl) (fun _ _ _ h => h) t Y h
  rw [hd]; exact blk1 T t d
theorem found2 (T : Tab m) (t : Fin (cfgM m (okM T)).N) (Y) (h : (rdat T 0).Finds 2 t Y) : Y = (V m 0 main_arg3 : S16x3072.Idx → F .f32) := by
  obtain ⟨d, hd⟩ := RDat.finds_in_eq_fetched (rdat T 0) 2 rfl (fun _ _ _ => rfl) (fun _ _ _ h => h) t Y h
  rw [hd]; exact blk2 T t d

/-- A row of the weight scales, as the body loads it. -/
theorem ws_row (e : Nat) (he : e < 16) (off : Fin 2 → Nat) (h) (h0 : off 0 = e) (h1 : off 1 = 0) :
    View.ld (V m 0 main_arg3 : S16x3072.Idx → F .f32) (Rect.unit (s := S16x3072) off S1x3072.size h) = wsAt m e := by
  funext x
  refine congrArg (V m 0 main_arg3 : S16x3072.Idx → F .f32) (funext fun a : Fin 2 => Fin.ext ?_)
  have hx0 : (x 0).val < 1 := (x 0).isLt
  match a with
  | 0 =>
    show off 0 + 1 * (x 0).val = e % 16
    omega
  | 1 =>
    show off 1 + 1 * (x 1).val = (x 1).val
    omega

end Cert.KernelIdeal.Run

end
-- ==== Proof.KernelIdealStep.lean ====
/- One point of the kernel's grid over the tables' facts: the three cases of its body in one statement. -/
module

public import proofs.«01_k».proof.Proof.KernelIdealRun

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.KernelIdeal Cert.KernelIdeal.Gen

variable {F : FTy → Type} [FloatOps F]
variable {m : (ℓ : Loc nD τ sig) → Buf (Elt F) ℓ}

/-- An expert's number admits the body's three reads by it. -/
theorem chk1_of (i : grid0.Coords) (a : BitVec 32) (e : Nat) (he : e < 16) : k0_chk1 i a (BitVec.ofNat 32 e) := fun _ ax => by
  have h : (BitVec.ofNat 32 e).toNat = e := Nat.mod_eq_of_lt (by omega)
  match ax with
  | 0 => show (BitVec.ofNat 32 e).toNat + 1 ≤ 16; omega
  | 1 => show 0 + 3072 ≤ 3072; omega
theorem chk2_of (i : grid0.Coords) (a : BitVec 32) (e : Nat) (he : e < 16) : k0_chk2 i a (BitVec.ofNat 32 e) := fun _ ax => by
  have h : (BitVec.ofNat 32 e).toNat = e := Nat.mod_eq_of_lt (by omega)
  match ax with
  | 0 => show (BitVec.ofNat 32 e).toNat + 1 ≤ 16; omega
theorem chk3_of (i : grid0.Coords) (a : BitVec 32) (e : Nat) (he : e < 16) : k0_chk3 i a (BitVec.ofNat 32 e) := fun _ ax => by
  have h : (BitVec.ofNat 32 e).toNat = e := Nat.mod_eq_of_lt (by omega)
  match ax with
  | 0 => show (BitVec.ofNat 32 e).toNat + 1 ≤ 16; omega

/-- The body's block of products, its words read off the tables. -/
theorem pay3_words (T : Tab m) (i : grid0.Coords) (a b c d : BitVec 32) (h1 h2 h3) (n : Nat)
    (ht : a = BitVec.ofNat 32 (T.tile n)) (he : T.ex n < 16)
    (hb : b = BitVec.ofNat 32 (T.ex n)) (hc : c = BitVec.ofNat 32 (T.ex n)) (hd : d = BitVec.ofNat 32 (T.ex n))
    (x0 : Vec F S512x2816 .fp8e5m2) (x1 : Vec F S1x3072x2816 .fp8e4m3) (x5 : Vec F S512x1 .f32) (x3 : Vec F S512x3072 .bf16) :
    k0_pay3 a x0 x1 x5
        (View.ld (V m 0 main_arg3 : S16x3072.Idx → F .f32) (Rect.unit (s := S16x3072) (k0_off4 b) S1x3072.size h1))
        (wd16 0 tb2 (tbl m 2) (k0_off6 c) h2) (wd16 0 tb3 (tbl m 3) (k0_off8 d) h3) x3
      = k0_pay3 (BitVec.ofNat 32 (T.tile n)) x0 x1 x5 (wsAt m (T.ex n))
        (BitVec.ofNat 32 (T.st (T.ex n))) (BitVec.ofNat 32 (T.en (T.ex n))) x3 := by
  subst ht hb hc hd
  have h : (BitVec.ofNat 32 (T.ex n)).toNat = T.ex n := Nat.mod_eq_of_lt (by omega)
  rw [ws_row (T.ex n) he _ h1 h rfl, wd_start T _ h2 (T.ex n) he h, wd_end T _ h3 (T.ex n) he h]

/-- The scratch buffers before point `n`. -/
def Scr (T : Tab m) (n : Nat) : sProp (MT nD τ sig Unit (Elt F) ℕ (UR sig nD τ) ℕ) :=
  iprop(∃ x4 x5, ⌜ScrOk T n x4 x5⌝ ∗ owns ((0 : Dev nD) : Thread nD τ) scr0 fullShare x4 ∗ owns ((0 : Dev nD) : Thread nD τ) scr1 fullShare x5)
/-- The tables' halves. -/
def Tbs (m : (ℓ : Loc nD τ sig) → Buf (Elt F) ℓ) : sProp (MT nD τ sig Unit (Elt F) ℕ (UR sig nD τ) ℕ) :=
  iprop(tbPt 0 tb0 (tbl m 0) ∗ tbPt 0 tb1 (tbl m 1) ∗ tbPt 0 tb2 (tbl m 2) ∗ tbPt 0 tb3 (tbl m 3) ∗ tbPt 0 tb4 (tbl m 4))

/-- What a point leaves in the scratch buffers it may leave as its codes and scales, -/
theorem scrOk_new (T : Tab m) (n : Nat) : ScrOk T (n + 1) (codesOf (dyAt m (T.tile n))) (scalesOf (dyAt m (T.tile n))) := by
  intro k hk _
  obtain rfl : n = k := Nat.succ.inj hk
  exact ⟨rfl, rfl⟩
/-- and a point past the pairs, as anything. -/
theorem scrOk_idle (T : Tab m) (n : Nat) (hn : ¬n < T.cnt) (x4 x5) : ScrOk T (n + 1) x4 x5 := by
  intro k hk h
  obtain rfl : n = k := Nat.succ.inj hk
  exact absurd h hn

theorem step (T : Tab m) (E : Set ℕ) (i : grid0.Coords)
    (arg6 : Memref sig .tc .vmem S512x2816 .bf16) (harg6 : arg6.IsWhole)
    (arg7 : Memref sig .tc .vmem S1x3072x2816 .fp8e4m3) (harg7 : arg7.IsWhole)
    (arg8 : Memref sig .tc .vmem S16x3072 .f32) (harg8 : arg8.IsWhole)
    (arg9 : Memref sig .tc .vmem S512x3072 .bf16) (harg9 : arg9.IsWhole)
    (x3 : Vec F S512x3072 .bf16) (K : PUnit → sProp (MT nD τ sig Unit (Elt F) ℕ (UR sig nD τ) ℕ)) :
    iprop(owns ((0 : Dev nD) : Thread nD τ) arg6 fullShare (dyAt m (T.tile (pt i))) ∗ owns ((0 : Dev nD) : Thread nD τ) arg7 fullShare (wAt m (T.ex (pt i)))
        ∗ owns ((0 : Dev nD) : Thread nD τ) arg8 fullShare (V m 0 main_arg3 : S16x3072.Idx → F .f32) ∗ owns ((0 : Dev nD) : Thread nD τ) arg9 fullShare x3
        ∗ Scr T (pt i) ∗ Tbs m
        ∗ (iprop(owns ((0 : Dev nD) : Thread nD τ) arg6 fullShare (dyAt m (T.tile (pt i))) ∗ owns ((0 : Dev nD) : Thread nD τ) arg7 fullShare (wAt m (T.ex (pt i)))
        ∗ owns ((0 : Dev nD) : Thread nD τ) arg8 fullShare (V m 0 main_arg3 : S16x3072.Idx → F .f32) ∗ owns ((0 : Dev nD) : Thread nD τ) arg9 fullShare (outAt T (pt i) x3)
        ∗ Scr T ((pt i).val + 1) ∗ Tbs m) -∗ K ⟨⟩))
      ⊢ wp frame (wpE (defs₀ (F := F)) Variants.none ((0 : Dev nD)) none) E
          (cc0_moe_dgrad i tb0 (Memref.isWhole_whole _) tb1 (Memref.isWhole_whole _) tb2 (Memref.isWhole_whole _) tb3 (Memref.isWhole_whole _) tb4 (Memref.isWhole_whole _)
            arg6 harg6 arg7 harg7 arg8 harg8 arg9 harg9 scr0 (Memref.isWhole_whole _) scr1 (Memref.isWhole_whole _)) K := by
  have hn : (pt i).val < 79 := (pt i).isLt
  have he := T.ex_lt _ hn
  have ht := T.tile_lt _ hn
  have e1 := wd_tile T i (k0_off1 i) (k0_off1_inb i) _ hn (off1_eq i)
  have e2 := wd_tile T i (k0_off2 i) (k0_off2_inb i) ((pt i).val - 1) (by omega) (off2_eq i)
  have e3 := wd_ex T i (k0_off3 i) (k0_off3_inb i) _ hn (off1_eq i)
  have e5 := wd_ex T i (k0_off5 i) (k0_off5_inb i) _ hn (off1_eq i)
  have e7 := wd_ex T i (k0_off7 i) (k0_off7_inb i) _ hn (off1_eq i)
  have e4 := wd_count T
  have hnew := isNew_iff T i (T.tile (pt i)) (T.tile ((pt i).val - 1)) ht (T.tile_lt _ (by omega))
  have hlive := cond2_iff T i
  rw [← e1, ← e2, ← e4] at hnew
  rw [← e4] at hlive
  have hc1 : k0_chk1 i (wd1 0 tb4 (tbl m 4)) (wd79 0 tb1 (tbl m 1) (k0_off3 i) (k0_off3_inb i)) := by rw [e3]; exact chk1_of i _ _ he
  have hc2 : k0_chk2 i (wd1 0 tb4 (tbl m 4)) (wd79 0 tb1 (tbl m 1) (k0_off5 i) (k0_off5_inb i)) := by rw [e5]; exact chk2_of i _ _ he
  have hc3 : k0_chk3 i (wd1 0 tb4 (tbl m 4)) (wd79 0 tb1 (tbl m 1) (k0_off7 i) (k0_off7_inb i)) := by rw [e7]; exact chk3_of i _ _ he
  unfold Scr Tbs
  iintro ⟨H0, H1, H2, H3, ⟨%x4, %x5, %hscr, H4, H5⟩, ⟨HA, HB, HC, HD, HE⟩, HK⟩
  by_cases hl : (pt i).val < T.cnt
  · have ho : outAt T (pt i) x3 = k0_pay3 (BitVec.ofNat 32 (T.tile (pt i))) (codesOf (dyAt m (T.tile (pt i)))) (wAt m (T.ex (pt i))) (scaleCol (scalesOf (dyAt m (T.tile (pt i))))) (wsAt m (T.ex (pt i)))
      (BitVec.ofNat 32 (T.st (T.ex (pt i)))) (BitVec.ofNat 32 (T.en (T.ex (pt i)))) x3 := if_pos hl
    have hp := pay3_words T i _ _ _ _ (k0_off4_inb i _ _ hc1 (hlive.mpr hl)) (k0_off6_inb i _ _ hc2 (hlive.mpr hl)) (k0_off8_inb i _ _ hc3 (hlive.mpr hl)) (pt i).val e1 he e3 e5 e7
      (codesOf (dyAt m (T.tile (pt i)))) (wAt m (T.ex (pt i))) (scaleCol (scalesOf (dyAt m (T.tile (pt i))))) x3
    by_cases hw : (pt i).val = 0 ∨ T.tile (pt i) ≠ T.tile ((pt i).val - 1)
    · iapply (run_new 0 E i arg6 harg6 arg7 harg7 arg8 harg8 arg9 harg9 scr0 (Memref.isWhole_whole _) scr1 (Memref.isWhole_whole _)
        (tbl m 0) (tbl m 1) (tbl m 2) (tbl m 3) (tbl m 4) (dyAt m (T.tile (pt i))) (wAt m (T.ex (pt i))) (V m 0 main_arg3 : S16x3072.Idx → F .f32) x3 x4 x5 K
        (hnew.mpr ⟨hl, hw⟩) (hlive.mpr hl) hc1 hc2 hc3)
      rw [ho, ← hp]
      isplitl [H0]; · iexact H0
      isplitl [H1]; · iexact H1
      isplitl [H2]; · iexact H2
      isplitl [H3]; · iexact H3
      isplitl [H4]; · iexact H4
      isplitl [H5]; · iexact H5
      isplitl [HA]; · iexact HA
      isplitl [HB]; · iexact HB
      isplitl [HC]; · iexact HC
      isplitl [HD]; · iexact HD
      isplitl [HE]; · iexact HE
      iintro ⟨H0, H1, H2, H3, H4, H5, HA, HB, HC, HD, HE⟩
      iapply HK
      isplitl [H0]; · iexact H0
      isplitl [H1]; · iexact H1
      isplitl [H2]; · iexact H2
      isplitl [H3]; · iexact H3
      isplitl [H4 H5]
      · iexists _; iexists _
        isplitr; · ipureintro; exact scrOk_new T _
        isplitl [H4]; · iexact H4
        iexact H5
      isplitl [HA]; · iexact HA
      isplitl [HB]; · iexact HB
      isplitl [HC]; · iexact HC
      isplitl [HD]; · iexact HD
      iexact HE
    · have hz : (pt i).val ≠ 0 := fun h => hw (.inl h)
      have hs : T.tile (pt i) = T.tile ((pt i).val - 1) := by by_contra h; exact hw (.inr h)
      obtain ⟨hx4, hx5⟩ := hscr ((pt i).val - 1) (by omega) (by omega)
      rw [← hs] at hx4 hx5
      subst hx4 hx5
      iapply (run_kept 0 E i arg6 harg6 arg7 harg7 arg8 harg8 arg9 harg9 scr0 (Memref.isWhole_whole _) scr1 (Memref.isWhole_whole _)
        (tbl m 0) (tbl m 1) (tbl m 2) (tbl m 3) (tbl m 4) (dyAt m (T.tile (pt i))) (wAt m (T.ex (pt i))) (V m 0 main_arg3 : S16x3072.Idx → F .f32) x3 _ _ K
        (fun h => hw (hnew.mp h).2) (hlive.mpr hl) hc1 hc2 hc3)
      rw [ho, ← hp]
      isplitl [H0]; · iexact H0
      isplitl [H1]; · iexact H1
      isplitl [H2]; · iexact H2
      isplitl [H3]; · iexact H3
      isplitl [H4]; · iexact H4
      isplitl [H5]; · iexact H5
      isplitl [HA]; · iexact HA
      isplitl [HB]; · iexact HB
      isplitl [HC]; · iexact HC
      isplitl [HD]; · iexact HD
      isplitl [HE]; · iexact HE
      iintro ⟨H0, H1, H2, H3, H4, H5, HA, HB, HC, HD, HE⟩
      iapply HK
      isplitl [H0]; · iexact H0
      isplitl [H1]; · iexact H1
      isplitl [H2]; · iexact H2
      isplitl [H3]; · iexact H3
      isplitl [H4 H5]
      · iexists _; iexists _
        isplitr; · ipureintro; exact scrOk_new T _
        isplitl [H4]; · iexact H4
        iexact H5
      isplitl [HA]; · iexact HA
      isplitl [HB]; · iexact HB
      isplitl [HC]; · iexact HC
      isplitl [HD]; · iexact HD
      iexact HE
  · have ho : outAt T (pt i) x3 = x3 := if_neg hl
    iapply (run_idle 0 E i arg6 harg6 arg7 harg7 arg8 harg8 arg9 harg9 scr0 (Memref.isWhole_whole _) scr1 (Memref.isWhole_whole _)
      (tbl m 0) (tbl m 1) (tbl m 2) (tbl m 3) (tbl m 4) (dyAt m (T.tile (pt i))) (wAt m (T.ex (pt i))) (V m 0 main_arg3 : S16x3072.Idx → F .f32) x3 x4 x5 K
      (fun h => hl (hnew.mp h).1) (fun h => hl (hlive.mp h)))
    rw [ho]
    isplitl [H0]; · iexact H0
    isplitl [H1]; · iexact H1
    isplitl [H2]; · iexact H2
    isplitl [H3]; · iexact H3
    isplitl [H4]; · iexact H4
    isplitl [H5]; · iexact H5
    isplitl [HA]; · iexact HA
    isplitl [HB]; · iexact HB
    isplitl [HC]; · iexact HC
    isplitl [HD]; · iexact HD
    isplitl [HE]; · iexact HE
    iintro ⟨H0, H1, H2, H3, H4, H5, HA, HB, HC, HD, HE⟩
    iapply HK
    isplitl [H0]; · iexact H0
    isplitl [H1]; · iexact H1
    isplitl [H2]; · iexact H2
    isplitl [H3]; · iexact H3
    isplitl [H4 H5]
    · iexists x4; iexists x5
      isplitr; · ipureintro; exact scrOk_idle T _ hl _ _
      isplitl [H4]; · iexact H4
      iexact H5
    isplitl [HA]; · iexact HA
    isplitl [HB]; · iexact HB
    isplitl [HC]; · iexact HC
    isplitl [HD]; · iexact HD
    iexact HE

end Cert.KernelIdeal.Run

end
-- ==== Proof.KernelIdealLaunch.lean ====
/- The kernel's body obligation over its proof data, and its launch: from any launch memory whose tables are as `Tab` states, the
   program runs to its end with its arguments unchanged and its output array as the proof data relates it. -/
module

public import proofs.«01_k».proof.Proof.KernelIdealStep

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.KernelIdeal Cert.KernelIdeal.Gen

variable {F : FTy → Type} [FloatOps F]
variable {m : (ℓ : Loc nD τ sig) → Buf (Elt F) ℓ}

/-- The tables' halves, one by one. -/
theorem PhiT0_eq (m : (ℓ : Loc nD τ sig) → Buf (Elt F) ℓ) :
    (Pipeline.ΦT pre0 (tbl m) (0 : Dev nD) : sProp (MT nD τ sig Unit (Elt F) ℕ (UR sig nD τ) ℕ)) = Tbs m := by
  unfold Pipeline.ΦT Pipeline.prefHeld Tbs
  rw [show (Finset.univ : Finset (Fin 5)) = insert 0 (insert 1 (insert 2 (insert 3 {4}))) from by decide,
    bigSep_insert (by decide), bigSep_insert (by decide), bigSep_insert (by decide), bigSep_insert (by decide), bigSep_singleton]
  rfl

theorem phi_eq (T : Tab m) (n) : (rdat T 0).Φ n = iprop(Scr T n.val ∗ ((∃ r, prngReg (0 : Dev nD) r) ∗ Tbs m)) := by
  rw [← PhiT0_eq]; rfl

/-- The body at a point, as the pipeline calls it. -/
def bodyAt (T : Tab m) (t : Fin (cfgM m (okM T)).N) :=
  cc0_moe_dgrad (F := F) (grid0.coords t) tb0 (Memref.isWhole_whole _) tb1 (Memref.isWhole_whole _) tb2 (Memref.isWhole_whole _) tb3 (Memref.isWhole_whole _) tb4 (Memref.isWhole_whole _)
    (spec0_0.stage ((cfgM m (okM T)).slots t 0)) (hstage0_0 (((cfgM m (okM T)).slots t 0).cast nbuf0_0))
    (spec0_1.stage ((cfgM m (okM T)).slots t 1)) (hstage0_1 (((cfgM m (okM T)).slots t 1).cast nbuf0_1))
    (spec0_2.stage ((cfgM m (okM T)).slots t 2)) (hstage0_2 (((cfgM m (okM T)).slots t 2).cast nbuf0_2))
    (spec0_3.stage ((cfgM m (okM T)).slots t 3)) (hstage0_3 (((cfgM m (okM T)).slots t 3).cast nbuf0_3))
    scr0 (Memref.isWhole_whole _) scr1 (Memref.isWhole_whole _)
theorem defs₀_row (T : Tab m) (t : Fin (cfgM m (okM T)).N) :
    defs₀ (F := F) .tc (cfgM m (okM T)).body ((cfgM m (okM T)).bodyArgs t ((cfgM m (okM T)).slots t)) = bodyAt T t := by
  unfold defs₀; rw [Defs.onTc_tc]; rfl

def bodyPre (T : Tab m) (t : Fin (cfgM m (okM T)).N) (x3 : Vec F S512x3072 .bf16) : sProp (MT nD τ sig Unit (Elt F) ℕ (UR sig nD τ) ℕ) :=
  iprop((rdat T 0).Φ t.castSucc ∗ (rdat T 0).owesAt () t.castSucc
    ∗ owns ((0 : Dev nD) : Thread nD τ) (spec0_0.stage ((cfgM m (okM T)).slots t 0)) fullShare (dyAt m (T.tile t.val))
    ∗ owns ((0 : Dev nD) : Thread nD τ) (spec0_1.stage ((cfgM m (okM T)).slots t 1)) fullShare (wAt m (T.ex t.val))
    ∗ owns ((0 : Dev nD) : Thread nD τ) (spec0_2.stage ((cfgM m (okM T)).slots t 2)) fullShare (V m 0 main_arg3 : S16x3072.Idx → F .f32)
    ∗ owns ((0 : Dev nD) : Thread nD τ) (spec0_3.stage ((cfgM m (okM T)).slots t 3)) fullShare x3)
def bodyPost (T : Tab m) (t : Fin (cfgM m (okM T)).N) (x3 : Vec F S512x3072 .bf16) : sProp (MT nD τ sig Unit (Elt F) ℕ (UR sig nD τ) ℕ) :=
  iprop((rdat T 0).Φ t.succ ∗ (rdat T 0).owesAt () t.succ
    ∗ owns ((0 : Dev nD) : Thread nD τ) (spec0_0.stage ((cfgM m (okM T)).slots t 0)) fullShare (dyAt m (T.tile t.val))
    ∗ owns ((0 : Dev nD) : Thread nD τ) (spec0_1.stage ((cfgM m (okM T)).slots t 1)) fullShare (wAt m (T.ex t.val))
    ∗ owns ((0 : Dev nD) : Thread nD τ) (spec0_2.stage ((cfgM m (okM T)).slots t 2)) fullShare (V m 0 main_arg3 : S16x3072.Idx → F .f32)
    ∗ owns ((0 : Dev nD) : Thread nD τ) (spec0_3.stage ((cfgM m (okM T)).slots t 3)) fullShare (outAt T t.val x3))

theorem sound_body (T : Tab m) (t : Fin (cfgM m (okM T)).N) (x3 : Vec F S512x3072 .bf16) :
    bodyPre T t x3 ⊢ wp frame (wpE (defs₀ (F := F)) Variants.none ((0 : Dev nD)) none) Set.univ (bodyAt T t) (fun _ => bodyPost T t x3) := by
  have hc : (pt (grid0.coords t)).val = t.val := coords_val t
  unfold bodyPre bodyPost bodyAt
  rw [phi_eq, phi_eq, show (rdat T 0).owesAt () t.succ = (rdat T 0).owesAt () t.castSucc from rfl,
    show t.castSucc.val = t.val from rfl, show t.succ.val = t.val + 1 from rfl]
  generalize hO : (rdat T 0).owesAt () t.castSucc = O
  rw [← hc]
  iintro ⟨⟨HS, HP, HT⟩, Ho, H0, H1, H2, H3⟩
  iapply (step T Set.univ (grid0.coords t) _ _ _ _ _ _ _ _ x3 _)
  isplitl [H0]; · iexact H0
  isplitl [H1]; · iexact H1
  isplitl [H2]; · iexact H2
  isplitl [H3]; · iexact H3
  isplitl [HS]; · iexact HS
  isplitl [HT]; · iexact HT
  iintro ⟨H0, H1, H2, H3, HS, HT⟩
  isplitl [HS HP HT]
  · isplitl [HS]; · iexact HS
    isplitl [HP]; · iexact HP
    iexact HT
  isplitl [Ho]; · iexact Ho
  isplitl [H0]; · iexact H0
  isplitl [H1]; · iexact H1
  isplitl [H2]; · iexact H2
  iexact H3

theorem body_obligation (T : Tab m) : (rdat T 0).BodyObligation (defs₀ (F := F)) Variants.none () Set.univ := fun t Y hY => by
  have y0 : Y 0 = dyAt m (T.tile t.val) := found0 T t _ (hY 0)
  have y1 : Y 1 = wAt m (T.ex t.val) := found1 T t _ (hY 1)
  have y2 : Y 2 = (V m 0 main_arg3 : S16x3072.Idx → F .f32) := found2 T t _ (hY 2)
  rw [bigSep_W0, bigSep_W0, defs₀_row]
  refine triple_restated (sound_body T t (Y 3)) rfl ?_ fun _ => ?_
  · unfold bodyPre
    rw [← y0, ← y1, ← y2]
  · unfold bodyPost
    rw [← y0, ← y1, ← y2]
    iintro ⟨HΦ, Ho, H0, H1, H2, H3⟩
    isplitl [HΦ]; · iexact HΦ
    isplitl [Ho]; · iexact Ho
    isplitl [H0]
    · iexists Y 0; isplitr
      · ipureintro; exact rfl
      · iexact H0
    isplitl [H1]
    · iexists Y 1; isplitr
      · ipureintro; exact rfl
      · iexact H1
    isplitl [H2]
    · iexists Y 2; isplitr
      · ipureintro; exact rfl
      · iexact H2
    iexists outAt T t.val (Y 3); isplitr
    · ipureintro; exact rfl
    · iexact H3

/-- A scratch buffer's memref holds what the buffer holds. -/
theorem owns_scr0 (x : Vec F S512x2816 .fp8e5m2) : (owns ((0 : Dev nD) : Thread nD τ) scr0 fullShare x : sProp (MT nD τ sig Unit (Elt F) ℕ (UR sig nD τ) ℕ))
    = (((0 : Dev nD) : Thread nD τ).loc cc0_scratch0 ↦{fullShare} x) := owns_whole _ _ _ _
theorem owns_scr1 (x : Vec F S512x128 .f32) : (owns ((0 : Dev nD) : Thread nD τ) scr1 fullShare x : sProp (MT nD τ sig Unit (Elt F) ℕ (UR sig nD τ) ℕ))
    = (((0 : Dev nD) : Thread nD τ).loc cc0_scratch1 ↦{fullShare} x) := owns_whole _ _ _ _

/-- The launch hands the pipeline its invariant, -/
theorem hin (T : Tab m) : iprop(Pipeline.ΦA (cfgM m (okM T)).spec (0 : Dev nD) ∗ Pipeline.ΦT pre0 (tbl m) (0 : Dev nD)) ⊢ (rdat T 0).Φ 0 := by
  rw [phi_eq, PhiT0_eq]
  unfold Pipeline.ΦA Scr
  rw [show Pipeline.scopedRest (cfgM m (okM T)).spec (0 : Dev nD) = _ from scopedRest0_eq (0 : Dev nD)]
  simp only [owns_scr0, owns_scr1]
  iintro ⟨⟨⟨⟨%f, H4⟩, ⟨%g, H5⟩⟩, HP⟩, HT⟩
  isplitl [H4 H5]
  · iexists f; iexists g
    isplitr
    · ipureintro; intro k hk; exact absurd hk (by show ¬(0 = k + 1); omega)
    isplitl [H4]; · iexact H4
    iexact H5
  isplitl [HP]; · iexact HP
  iexact HT
/-- and takes back what it keeps. -/
theorem hout (T : Tab m) : (rdat T 0).Φ (Fin.last (cfgM m (okM T)).N) ⊢ Pipeline.ΦA (cfgM m (okM T)).spec (0 : Dev nD) := by
  rw [phi_eq]
  unfold Pipeline.ΦA Scr
  rw [show Pipeline.scopedRest (cfgM m (okM T)).spec (0 : Dev nD) = _ from scopedRest0_eq (0 : Dev nD)]
  simp only [owns_scr0, owns_scr1]
  iintro ⟨⟨%x4, %x5, -, H4, H5⟩, HP, HT⟩
  isplitr [HP]
  · isplitl [H4]
    · iexists x4; iexact H4
    · iexists x5; iexact H5
  iexact HP

set_option backward.isDefEq.respectTransparency.types false in
set_option maxHeartbeats 800000 in
/-- THE LAUNCH. -/
theorem run (T : Tab m) (g : Dev nD → PrngReg) : θ_run defs (onTc (τ := τ) (main (F := F))) (s₀ m g)
    (fun r => RDat.FramePost (cfgM m (okM T)) (rdat T) (V m) r ∧ r.2.sem = fun _ => 0) :=
  RDat.θ_run_frameP_track (Q' := _) pcfgs (fun _ => adm m (okM T)) 0 launch0 defs₀ Variants.none (rdat T) m g main
    (hbody := fun c => by obtain rfl : c = 0 := Subsingleton.elim _ _; exact body_obligation T)
    (hshare := fun c => (rdat T c).share_full fun _ => rfl) (howed := fun _ _ => rfl) (V := V m) (hmain := hmain m Variants.none)
    (hA := fun _ _ => rfl) (hpf := fun c k => V_pre m c k)
    (hin := fun c => by obtain rfl : c = 0 := Subsingleton.elim _ _; exact hin T)
    (hout := fun c => by obtain rfl : c = 0 := Subsingleton.elim _ _; exact hout T)
    (hQ' := fun _ h => h)

set_option backward.isDefEq.respectTransparency.types false in
set_option maxHeartbeats 800000 in
/-- The arguments end unchanged. -/
theorem args_of (T : Tab m) (r : PUnit × MemSt nD τ sig (Elt F)) (h : RDat.FramePost (cfgM m (okM T)) (rdat T) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(Pipeline.RDat.FramePost.arr_in h c 0 rfl).trans (V_arg m main_arg0 (.inl rfl) c),
    ((h c).2 main_arg1 (by decide : main_arg1 ∈ Pipeline.restRefs sig spec0)).trans (V_arg m main_arg1 (.inr (.inl rfl)) c),
    (Pipeline.RDat.FramePost.arr_in h c 1 rfl).trans (V_arg m main_arg2 (.inr (.inr (.inl rfl))) c),
    (Pipeline.RDat.FramePost.arr_in h c 2 rfl).trans (V_arg m main_arg3 (.inr (.inr (.inr rfl))) c)⟩

end Cert.KernelIdeal.Run

end
-- ==== Proof.KernelIdealHost.lean ====
/- What the host lines before the kernel's region leave in its tables, as functions of the group sizes. -/
module

public import proofs.«01_k».proof.Proof.KernelIdealTab
public import Idealize.ShloMosaic.Lib.StableHlo.RunRead

@[expose] public section

set_option maxRecDepth 16384

noncomputable section

namespace Cert.KernelIdeal.Run

open Idealize.ShloMosaic Idealize.ShloMosaic.TcCoe Idealize.ShloMosaic.Tactic
open Idealize.SL.Sem
open Cert.KernelIdeal Cert.KernelIdeal.Gen

variable {F : FTy → Type} [FloatOps F]

abbrev I16 := S16.Idx → BitVec 32
abbrev I79 := S79.Idx → BitVec 32

/-- Running sums. -/
def cumOf (x : I16) : I16 := Host.reduceWindow IntOp.addi ![16] ![1] ![15] ![0] x (broadcastInDim S_ ![] bcast_S_S_ (constantI S_ 32 0#32)) reduceWindows_S16_S16_w16s1p15_0 h_S_
/-- Quotients by 512, rounded down. -/
def fdivOf (x : I16) : I16 :=
  let d : I16 := broadcastInDim S16 ![] bcast_S_S16 (constantI S_ 32 512#32)
  let q : I16 := Host.divsi x d
  select (andi (cmpi .ne (signi x) (broadcastInDim S16 ![] bcast_S_S16 (signi (constantI S_ 32 512#32))))
    (cmpi .ne (Host.remsi x d) (broadcastInDim S16 ![] bcast_S_S16 (constantI S_ 32 0#32))))
    (subi q (broadcastInDim S16 ![] bcast_S_S16 (constantI S_ 32 1#32))) q

/-- Pairs by number: the last one repeated past the end. -/
def pairOf (c : S1.Idx → BitVec 32) : I79 :=
  minsi (iotaInDim S79 32 0) (broadcastInDim S79 ![] bcast_S_S79 (subi (shapeCast S_ c shapeCasts_S1_S_) (constantI S_ 32 1#32)))
/-- A pair's expert: how many experts' pairs end at or before it. -/
def pexpOf (vend : I16) (p : I79) : I79 :=
  Host.reduce IntOp.addi (extui 32 (cmpi .sge (broadcastInDim S79x16 ![0, 1] bcast_S79x1_S79x16_0_1 (broadcastInDim S79x1 ![0] bcast_S79_S79x1_0 p))
    (broadcastInDim S79x16 ![0, 1] bcast_S1x16_S79x16_0_1 (broadcastInDim S1x16 ![1] bcast_S16_S1x16_1 vend))) natLt_1_32) (constantI S_ 32 0#32) reducesTo_S79x16_S79_d1 h_S_
/-- The entries of a table of sixteen at the experts' numbers. -/
def takeOf (x : I16) (e : I79) : I79 :=
  Host.gather gather_S16_S79x1_S79_n_0_n_n_0_1_1 x (broadcastInDim S79x1 ![0] bcast_S79_S79x1_0
    (select (cmpi .slt e (broadcastInDim S79 ![] bcast_S_S79 (constantI S_ 32 0#32))) (addi e (broadcastInDim S79 ![] bcast_S_S79 (constantI S_ 32 16#32))) e))
def lastOf (x : I16) : S1.Idx → BitVec 32 := extractStridedSlice S1 ![15] x slices_S16_S1_15

variable (M : Valuation τ sig (Elt F))

theorem seg0 : (StableHlo.after hostOps0 M (Proc.devRef .tc main_v0) : I16) = cumOf (M (Proc.devRef .tc main_arg1) : I16) := by
  after_reads_simp; simp -implicitDefEqProofs only [StableHlo.TRef.toBuf, StableHlo.TRef.ofBuf, cast_cast, cast_eq]; unfold cumOf; with_reducible rfl
theorem seg1 : (StableHlo.after hostOps0_1 M (Proc.devRef .tc main_v1) : I16) = subi (M (Proc.devRef .tc main_v0) : I16) (M (Proc.devRef .tc main_arg1) : I16) := by
  after_reads_simp
theorem seg1c : (StableHlo.after hostOps0_1 M (Proc.devRef .tc main_c) : S_.Idx → BitVec 32) = constantI S_ 32 512#32 := by
  after_reads_simp
theorem seg2 (h : (M (Proc.devRef .tc main_c) : S_.Idx → BitVec 32) = constantI S_ 32 512#32) : (StableHlo.after hostOps0_2 M (Proc.devRef .tc main_v2) : I16) = fdivOf (M (Proc.devRef .tc main_v1) : I16) := by
  after_reads_simp; simp -implicitDefEqProofs only [StableHlo.TRef.toBuf, StableHlo.TRef.ofBuf, cast_cast, cast_eq]; unfold fdivOf; simp only [id, h]
theorem seg3a : (StableHlo.after hostOps0_3 M (Proc.devRef .tc main_v4) : S16.Idx → BitVec 1) = cmpi .sgt (M (Proc.devRef .tc main_arg1) : I16) (broadcastInDim S16 ![] bcast_S_S16 (constantI S_ 32 0#32)) := by
  after_reads_simp
theorem seg3b : (StableHlo.after hostOps0_3 M (Proc.devRef .tc main_v8) : I16) = subi (addi (M (Proc.devRef .tc main_v0) : I16) (broadcastInDim S16 ![] bcast_S_S16 (constantI S_ 32 512#32))) (broadcastInDim S16 ![] bcast_S_S16 (constantI S_ 32 1#32)) := by
  after_reads_simp
theorem seg3c : (StableHlo.after hostOps0_3 M (Proc.devRef .tc main_c_3) : S_.Idx → BitVec 32) = constantI S_ 32 512#32 := by
  after_reads_simp
theorem seg4 (h : (M (Proc.devRef .tc main_c_3) : S_.Idx → BitVec 32) = constantI S_ 32 512#32) : (StableHlo.after hostOps0_4 M (Proc.devRef .tc main_v9) : I16) = fdivOf (M (Proc.devRef .tc main_v8) : I16) := by
  after_reads_simp; simp -implicitDefEqProofs only [StableHlo.TRef.toBuf, StableHlo.TRef.ofBuf, cast_cast, cast_eq]; unfold fdivOf; simp only [id, h]
theorem seg5 : (StableHlo.after hostOps0_5 M (Proc.devRef .tc main_v10) : I16) = subi (M (Proc.devRef .tc main_v9) : I16) (M (Proc.devRef .tc main_v2) : I16) := by
  after_reads_simp
theorem seg5c : (StableHlo.after hostOps0_5 M (Proc.devRef .tc main_c_4) : S_.Idx → BitVec 32) = constantI S_ 32 0#32 := by
  after_reads_simp
theorem seg6 : (StableHlo.after hostOps0_6 M (Proc.devRef .tc main_v11) : I16) = select (M (Proc.devRef .tc main_v4) : S16.Idx → BitVec 1) (M (Proc.devRef .tc main_v10) : I16) (broadcastInDim S16 ![] bcast_S_S16 (M (Proc.devRef .tc main_c_4) : S_.Idx → BitVec 32)) := by
  after_reads_simp; simp -implicitDefEqProofs only [StableHlo.TRef.toBuf, StableHlo.TRef.ofBuf, cast_cast, cast_eq]; simp only [id]
theorem seg7 : (StableHlo.after hostOps0_7 M (Proc.devRef .tc main_v12) : I16) = cumOf (M (Proc.devRef .tc main_v11) : I16) := by
  after_reads_simp; simp -implicitDefEqProofs only [StableHlo.TRef.toBuf, StableHlo.TRef.ofBuf, cast_cast, cast_eq]; unfold cumOf; with_reducible rfl
theorem seg8a : (StableHlo.after hostOps0_8 M (Proc.devRef .tc main_v13) : S1.Idx → BitVec 32) = lastOf (M (Proc.devRef .tc main_v12) : I16) := by
  after_reads_simp; unfold lastOf; rfl
theorem seg8b : (StableHlo.after hostOps0_8 M (Proc.devRef .tc main_v25) : I79) = pexpOf (M (Proc.devRef .tc main_v12) : I16) (pairOf (lastOf (M (Proc.devRef .tc main_v12) : I16))) := by
  after_reads_simp; unfold lastOf pexpOf pairOf; rfl
theorem seg8c : (StableHlo.after hostOps0_8 M (Proc.devRef .tc main_v42) : I79) = subi (addi (takeOf (M (Proc.devRef .tc main_v2) : I16) (pexpOf (M (Proc.devRef .tc main_v12) : I16) (pairOf (lastOf (M (Proc.devRef .tc main_v12) : I16))))) (pairOf (lastOf (M (Proc.devRef .tc main_v12) : I16)))) (takeOf (subi (M (Proc.devRef .tc main_v12) : I16) (M (Proc.devRef .tc main_v11) : I16)) (pexpOf (M (Proc.devRef .tc main_v12) : I16) (pairOf (lastOf (M (Proc.devRef .tc main_v12) : I16))))) := by
  after_reads_simp; unfold takeOf lastOf pexpOf pairOf; rfl
theorem keep0_arg1 : StableHlo.after hostOps0 M (Proc.devRef .tc main_arg1) = M (Proc.devRef .tc main_arg1) := by after_reads_simp
theorem keep1_arg1 : StableHlo.after hostOps0_1 M (Proc.devRef .tc main_arg1) = M (Proc.devRef .tc main_arg1) := by after_reads_simp
theorem keep2_arg1 : StableHlo.after hostOps0_2 M (Proc.devRef .tc main_arg1) = M (Proc.devRef .tc main_arg1) := by after_reads_simp
theorem keep1_v0 : StableHlo.after hostOps0_1 M (Proc.devRef .tc main_v0) = M (Proc.devRef .tc main_v0) := by after_reads_simp
theorem keep2_v0 : StableHlo.after hostOps0_2 M (Proc.devRef .tc main_v0) = M (Proc.devRef .tc main_v0) := by after_reads_simp
theorem keep3_v0 : StableHlo.after hostOps0_3 M (Proc.devRef .tc main_v0) = M (Proc.devRef .tc main_v0) := by after_reads_simp
theorem keep4_v0 : StableHlo.after hostOps0_4 M (Proc.devRef .tc main_v0) = M (Proc.devRef .tc main_v0) := by after_reads_simp
theorem keep5_v0 : StableHlo.after hostOps0_5 M (Proc.devRef .tc main_v0) = M (Proc.devRef .tc main_v0) := by after_reads_simp
theorem keep6_v0 : StableHlo.after hostOps0_6 M (Proc.devRef .tc main_v0) = M (Proc.devRef .tc main_v0) := by after_reads_simp
theorem keep7_v0 : StableHlo.after hostOps0_7 M (Proc.devRef .tc main_v0) = M (Proc.devRef .tc main_v0) := by after_reads_simp
theorem keep8_v0 : StableHlo.after hostOps0_8 M (Proc.devRef .tc main_v0) = M (Proc.devRef .tc main_v0) := by after_reads_simp
theorem keep2_v1 : StableHlo.after hostOps0_2 M (Proc.devRef .tc main_v1) = M (Proc.devRef .tc main_v1) := by after_reads_simp
theorem keep3_v1 : StableHlo.after hostOps0_3 M (Proc.devRef .tc main_v1) = M (Proc.devRef .tc main_v1) := by after_reads_simp
theorem keep4_v1 : StableHlo.after hostOps0_4 M (Proc.devRef .tc main_v1) = M (Proc.devRef .tc main_v1) := by after_reads_simp
theorem keep5_v1 : StableHlo.after hostOps0_5 M (Proc.devRef .tc main_v1) = M (Proc.devRef .tc main_v1) := by after_reads_simp
theorem keep6_v1 : StableHlo.after hostOps0_6 M (Proc.devRef .tc main_v1) = M (Proc.devRef .tc main_v1) := by after_reads_simp
theorem keep7_v1 : StableHlo.after hostOps0_7 M (Proc.devRef .tc main_v1) = M (Proc.devRef .tc main_v1) := by after_reads_simp
theorem keep8_v1 : StableHlo.after hostOps0_8 M (Proc.devRef .tc main_v1) = M (Proc.devRef .tc main_v1) := by after_reads_simp
theorem keep3_v2 : StableHlo.after hostOps0_3 M (Proc.devRef .tc main_v2) = M (Proc.devRef .tc main_v2) := by after_reads_simp
theorem keep4_v2 : StableHlo.after hostOps0_4 M (Proc.devRef .tc main_v2) = M (Proc.devRef .tc main_v2) := by after_reads_simp
theorem keep5_v2 : StableHlo.after hostOps0_5 M (Proc.devRef .tc main_v2) = M (Proc.devRef .tc main_v2) := by after_reads_simp
theorem keep6_v2 : StableHlo.after hostOps0_6 M (Proc.devRef .tc main_v2) = M (Proc.devRef .tc main_v2) := by after_reads_simp
theorem keep7_v2 : StableHlo.after hostOps0_7 M (Proc.devRef .tc main_v2) = M (Proc.devRef .tc main_v2) := by after_reads_simp
theorem keep4_v4 : StableHlo.after hostOps0_4 M (Proc.devRef .tc main_v4) = M (Proc.devRef .tc main_v4) := by after_reads_simp
theorem keep5_v4 : StableHlo.after hostOps0_5 M (Proc.devRef .tc main_v4) = M (Proc.devRef .tc main_v4) := by after_reads_simp
theorem keep7_v11 : StableHlo.after hostOps0_7 M (Proc.devRef .tc main_v11) = M (Proc.devRef .tc main_v11) := by after_reads_simp

theorem after_append (l₁ l₂ : List (HloOp τ sig (Elt F))) : StableHlo.after (l₁ ++ l₂) M = StableHlo.after l₂ (StableHlo.after l₁ M) := by
  induction l₁ generalizing M with
  | nil => rfl
  | cons o l₁ ih => exact ih _

/-- The tables as functions of the group sizes: where each expert's rows end and start, its first tile, how many tiles it visits,
    where its pairs end, and each pair's number and expert. -/
def endsOf (g : I16) : I16 := cumOf g
def startsOf (g : I16) : I16 := subi (endsOf g) g
def firstOf (g : I16) : I16 := fdivOf (startsOf g)
def visitsOf (g : I16) : I16 :=
  select (cmpi .sgt g (broadcastInDim S16 ![] bcast_S_S16 (constantI S_ 32 0#32)))
    (subi (fdivOf (subi (addi (endsOf g) (broadcastInDim S16 ![] bcast_S_S16 (constantI S_ 32 512#32))) (broadcastInDim S16 ![] bcast_S_S16 (constantI S_ 32 1#32)))) (firstOf g))
    (broadcastInDim S16 ![] bcast_S_S16 (constantI S_ 32 0#32))
def vendOf (g : I16) : I16 := cumOf (visitsOf g)
def numOf (g : I16) : I79 := pairOf (lastOf (vendOf g))
def exOf (g : I16) : I79 := pexpOf (vendOf g) (numOf g)
def tileOf (g : I16) : I79 := subi (addi (takeOf (firstOf g) (exOf g)) (numOf g)) (takeOf (subi (vendOf g) (visitsOf g)) (exOf g))

variable (m : (ℓ : Loc nD τ sig) → Buf (Elt F) ℓ)

/-- The group sizes at launch. -/
def gs : I16 := m ((0 : Dev nD), main_arg1)

def Mem0 : Valuation τ sig (Elt F) := fun b => m ((0 : Dev nD), b)
def Mem1 : Valuation τ sig (Elt F) := StableHlo.after hostOps0 (Mem0 m)
def Mem2 : Valuation τ sig (Elt F) := StableHlo.after hostOps0_1 (Mem1 m)
def Mem3 : Valuation τ sig (Elt F) := StableHlo.after hostOps0_2 (Mem2 m)
def Mem4 : Valuation τ sig (Elt F) := StableHlo.after hostOps0_3 (Mem3 m)
def Mem5 : Valuation τ sig (Elt F) := StableHlo.after hostOps0_4 (Mem4 m)
def Mem6 : Valuation τ sig (Elt F) := StableHlo.after hostOps0_5 (Mem5 m)
def Mem7 : Valuation τ sig (Elt F) := StableHlo.after hostOps0_6 (Mem6 m)
def Mem8 : Valuation τ sig (Elt F) := StableHlo.after hostOps0_7 (Mem7 m)

theorem V_eq (b : Ref sig .tc) : V m 0 b = StableHlo.after hostOps0_8 (Mem8 m) (Proc.devRef .tc b) := by
  unfold V Mem8 Mem7 Mem6 Mem5 Mem4 Mem3 Mem2 Mem1 Mem0
  rw [List.flatten_cons, List.flatten_cons, List.flatten_cons, List.flatten_cons, List.flatten_cons, List.flatten_cons, List.flatten_cons,
    List.flatten_cons, List.flatten_cons, List.flatten_nil, List.append_nil,
    after_append, after_append, after_append, after_append, after_append, after_append, after_append, after_append]

theorem at0_arg1 : (Mem0 m (Proc.devRef .tc main_arg1) : I16) = gs m := rfl
theorem at1_arg1 : (Mem1 m (Proc.devRef .tc main_arg1) : I16) = gs m := (keep0_arg1 (Mem0 m)).trans (at0_arg1 m)
theorem at2_arg1 : (Mem2 m (Proc.devRef .tc main_arg1) : I16) = gs m := (keep1_arg1 (Mem1 m)).trans (at1_arg1 m)
theorem at3_arg1 : (Mem3 m (Proc.devRef .tc main_arg1) : I16) = gs m := (keep2_arg1 (Mem2 m)).trans (at2_arg1 m)
theorem at1_v0 : (Mem1 m (Proc.devRef .tc main_v0) : I16) = endsOf (gs m) := (seg0 (Mem0 m)).trans (congrArg cumOf (at0_arg1 m))
theorem at2_v0 : (Mem2 m (Proc.devRef .tc main_v0) : I16) = endsOf (gs m) := (keep1_v0 (Mem1 m)).trans (at1_v0 m)
theorem at3_v0 : (Mem3 m (Proc.devRef .tc main_v0) : I16) = endsOf (gs m) := (keep2_v0 (Mem2 m)).trans (at2_v0 m)
theorem at4_v0 : (Mem4 m (Proc.devRef .tc main_v0) : I16) = endsOf (gs m) := (keep3_v0 (Mem3 m)).trans (at3_v0 m)
theorem at5_v0 : (Mem5 m (Proc.devRef .tc main_v0) : I16) = endsOf (gs m) := (keep4_v0 (Mem4 m)).trans (at4_v0 m)
theorem at6_v0 : (Mem6 m (Proc.devRef .tc main_v0) : I16) = endsOf (gs m) := (keep5_v0 (Mem5 m)).trans (at5_v0 m)
theorem at7_v0 : (Mem7 m (Proc.devRef .tc main_v0) : I16) = endsOf (gs m) := (keep6_v0 (Mem6 m)).trans (at6_v0 m)
theorem at8_v0 : (Mem8 m (Proc.devRef .tc main_v0) : I16) = endsOf (gs m) := (keep7_v0 (Mem7 m)).trans (at7_v0 m)
theorem at2_v1 : (Mem2 m (Proc.devRef .tc main_v1) : I16) = startsOf (gs m) := (seg1 (Mem1 m)).trans (congrArg₂ subi (at1_v0 m) (at1_arg1 m))
theorem at3_v1 : (Mem3 m (Proc.devRef .tc main_v1) : I16) = startsOf (gs m) := (keep2_v1 (Mem2 m)).trans (at2_v1 m)
theorem at4_v1 : (Mem4 m (Proc.devRef .tc main_v1) : I16) = startsOf (gs m) := (keep3_v1 (Mem3 m)).trans (at3_v1 m)
theorem at5_v1 : (Mem5 m (Proc.devRef .tc main_v1) : I16) = startsOf (gs m) := (keep4_v1 (Mem4 m)).trans (at4_v1 m)
theorem at6_v1 : (Mem6 m (Proc.devRef .tc main_v1) : I16) = startsOf (gs m) := (keep5_v1 (Mem5 m)).trans (at5_v1 m)
theorem at7_v1 : (Mem7 m (Proc.devRef .tc main_v1) : I16) = startsOf (gs m) := (keep6_v1 (Mem6 m)).trans (at6_v1 m)
theorem at8_v1 : (Mem8 m (Proc.devRef .tc main_v1) : I16) = startsOf (gs m) := (keep7_v1 (Mem7 m)).trans (at7_v1 m)
theorem at3_v2 : (Mem3 m (Proc.devRef .tc main_v2) : I16) = firstOf (gs m) := (seg2 (Mem2 m) (seg1c (Mem1 m))).trans (congrArg fdivOf (at2_v1 m))
theorem at4_v2 : (Mem4 m (Proc.devRef .tc main_v2) : I16) = firstOf (gs m) := (keep3_v2 (Mem3 m)).trans (at3_v2 m)
theorem at5_v2 : (Mem5 m (Proc.devRef .tc main_v2) : I16) = firstOf (gs m) := (keep4_v2 (Mem4 m)).trans (at4_v2 m)
theorem at6_v2 : (Mem6 m (Proc.devRef .tc main_v2) : I16) = firstOf (gs m) := (keep5_v2 (Mem5 m)).trans (at5_v2 m)
theorem at7_v2 : (Mem7 m (Proc.devRef .tc main_v2) : I16) = firstOf (gs m) := (keep6_v2 (Mem6 m)).trans (at6_v2 m)
theorem at8_v2 : (Mem8 m (Proc.devRef .tc main_v2) : I16) = firstOf (gs m) := (keep7_v2 (Mem7 m)).trans (at7_v2 m)
theorem at4_v4 : (Mem4 m (Proc.devRef .tc main_v4) : S16.Idx → BitVec 1) = cmpi .sgt (gs m) (broadcastInDim S16 ![] bcast_S_S16 (constantI S_ 32 0#32)) := (seg3a (Mem3 m)).trans (by rw [at3_arg1])
theorem at5_v4 : (Mem5 m (Proc.devRef .tc main_v4) : S16.Idx → BitVec 1) = cmpi .sgt (gs m) (broadcastInDim S16 ![] bcast_S_S16 (constantI S_ 32 0#32)) := (keep4_v4 (Mem4 m)).trans (at4_v4 m)
theorem at6_v4 : (Mem6 m (Proc.devRef .tc main_v4) : S16.Idx → BitVec 1) = cmpi .sgt (gs m) (broadcastInDim S16 ![] bcast_S_S16 (constantI S_ 32 0#32)) := (keep5_v4 (Mem5 m)).trans (at5_v4 m)
theorem at4_v8 : (Mem4 m (Proc.devRef .tc main_v8) : I16) = subi (addi (endsOf (gs m)) (broadcastInDim S16 ![] bcast_S_S16 (constantI S_ 32 512#32))) (broadcastInDim S16 ![] bcast_S_S16 (constantI S_ 32 1#32)) := (seg3b (Mem3 m)).trans (by rw [at3_v0])
theorem at5_v9 : (Mem5 m (Proc.devRef .tc main_v9) : I16) = fdivOf (subi (addi (endsOf (gs m)) (broadcastInDim S16 ![] bcast_S_S16 (constantI S_ 32 512#32))) (broadcastInDim S16 ![] bcast_S_S16 (constantI S_ 32 1#32))) := (seg4 (Mem4 m) (seg3c (Mem3 m))).trans (congrArg fdivOf (at4_v8 m))
theorem at6_v10 : (Mem6 m (Proc.devRef .tc main_v10) : I16) = subi (fdivOf (subi (addi (endsOf (gs m)) (broadcastInDim S16 ![] bcast_S_S16 (constantI S_ 32 512#32))) (broadcastInDim S16 ![] bcast_S_S16 (constantI S_ 32 1#32)))) (firstOf (gs m)) := (seg5 (Mem5 m)).trans (congrArg₂ subi (at5_v9 m) (at5_v2 m))
theorem at7_v11 : (Mem7 m (Proc.devRef .tc main_v11) : I16) = visitsOf (gs m) := (seg6 (Mem6 m)).trans (by rw [at6_v4, at6_v10, show (Mem6 m (Proc.devRef .tc main_c_4) : S_.Idx → BitVec 32) = constantI S_ 32 0#32 from seg5c (Mem5 m)]; rfl)
theorem at8_v11 : (Mem8 m (Proc.devRef .tc main_v11) : I16) = visitsOf (gs m) := (keep7_v11 (Mem7 m)).trans (at7_v11 m)
theorem at8_v12 : (Mem8 m (Proc.devRef .tc main_v12) : I16) = vendOf (gs m) := (seg7 (Mem7 m)).trans (congrArg cumOf (at7_v11 m))

theorem V_ends : (V m 0 main_v0 : I16) = endsOf (gs m) := (V_eq m main_v0).trans ((keep8_v0 (Mem8 m)).trans (at8_v0 m))
theorem V_starts : (V m 0 main_v1 : I16) = startsOf (gs m) := (V_eq m main_v1).trans ((keep8_v1 (Mem8 m)).trans (at8_v1 m))
theorem V_count : (V m 0 main_v13 : S1.Idx → BitVec 32) = lastOf (vendOf (gs m)) := (V_eq m main_v13).trans ((seg8a (Mem8 m)).trans (by rw [at8_v12]))
theorem V_ex : (V m 0 main_v25 : I79) = exOf (gs m) := (V_eq m main_v25).trans ((seg8b (Mem8 m)).trans (by rw [at8_v12]; rfl))
theorem V_tile : (V m 0 main_v42 : I79) = tileOf (gs m) := (V_eq m main_v42).trans ((seg8c (Mem8 m)).trans (by rw [at8_v12, at8_v11, at8_v2]; rfl))

end Cert.KernelIdeal.Run

end
-- ==== Proof.KernelIdealWords.lean ====
/- The kernel's tables as numbers: under group sizes that are not negative and fill the rows, every word of them is the natural
   number that `Tiles` gives it, so the facts the certificate uses of them hold. -/
module

public import proofs.«01_k».proof.Proof.KernelIdealHost
public import proofs.«01_k».proof.Proof.Cond
public import Idealize.ShloMosaic.Lib.Routing.Words
public import Idealize.ShloMosaic.Lib.Routing.OpsSet

@[expose] public section

set_option maxRecDepth 16384

noncomputable section

namespace Cert.KernelIdeal.Run

open Idealize.ShloMosaic Idealize.ShloMosaic.Routing
open Cert.KernelIdeal Cert.KernelIdeal.Gen Cert.Tiles

variable {F : FTy → Type} [FloatOps F]

/-- The words of a vector are those of a function on naturals. -/
def Holds (x : I16) (f : Nat → Nat) : Prop := ∀ e : Fin 16, x (ValueIdx.ix1 e) = BitVec.ofNat 32 (f e.val)

theorem holds_nat16 (x : I16) : Holds x (nat16 x) := fun e => by
  unfold nat16; rw [dif_pos e.isLt]; simp

theorem cumOf_holds {x : I16} {f : Nat → Nat} (hx : Holds x f) : Holds (cumOf x) (cum f) := fun e =>
  cumsum1 (N := 16) (Nm1 := 15) rfl x f hx _ rfl _ _ e

theorem fdivOf_holds {x : I16} {f : Nat → Nat} (hx : Holds x f) (hf : ∀ e, e < 16 → f e < 2 ^ 31) : Holds (fdivOf x) (fun e => f e / 512) := fun e =>
  pyDiv_ap (s := S16) bcast_S_S16 x (constantI S_ 32 512#32) (ValueIdx.ix1 e) (b := 512) (hx e) rfl (hf e.val e.isLt) (by decide) (by decide)

theorem subi_holds {x y : I16} {f g : Nat → Nat} (hx : Holds x f) (hy : Holds y g) (h : ∀ e, e < 16 → g e ≤ f e) : Holds (subi x y) (fun e => f e - g e) := fun e => by
  rw [subi_ap, hx, hy, ofNat32_sub (h e.val e.isLt)]

section
variable {g : I16} {n : Nat → Nat} (hg : Holds g n) (h : cum n 15 = 32768)

theorem ends_holds (hg : Holds g n) : Holds (endsOf g) (cum n) := cumOf_holds hg
theorem starts_holds (hg : Holds g n) : Holds (startsOf g) (fun e => cum n e - n e) := subi_holds (cumOf_holds hg) hg fun e _ => le_cum n e
include h in
theorem first_holds (hg : Holds g n) : Holds (firstOf g) (first n) :=
  fdivOf_holds (starts_holds hg) fun e he => by have := cum_le_all h e he; omega
include h in
theorem visits_holds (hg : Holds g n) : Holds (visitsOf g) (visits n) := fun e => by
  have h1 := cum_le_all h e.val e.isLt
  have h2 := le_cum n e.val
  have a : Holds (subi (addi (endsOf g) (broadcastInDim S16 ![] bcast_S_S16 (constantI S_ 32 512#32))) (broadcastInDim S16 ![] bcast_S_S16 (constantI S_ 32 1#32))) (fun e => cum n e + 512 - 1) := fun e => by
    rw [subi_ap, addi_ap, ends_holds hg e]
    show BitVec.ofNat 32 _ + BitVec.ofNat 32 512 - BitVec.ofNat 32 1 = _
    rw [BitVec.ofNat_add_ofNat, ofNat32_sub (by omega)]
  have b := fdivOf_holds a fun e he => by have := cum_le_all h e he; omega
  have c : Holds _ _ := subi_holds b (first_holds h hg) fun e he => by unfold first; omega
  unfold visitsOf
  show Scalar.select (IntOp.cmpi .sgt (g (ValueIdx.ix1 e)) (BitVec.ofNat 32 0)) (subi _ _ (ValueIdx.ix1 e)) (BitVec.ofNat 32 0) = _
  rw [c e, hg e]
  have hs : IntOp.cmpi .sgt (BitVec.ofNat 32 (n e.val)) (BitVec.ofNat 32 0) = BitVec.ofBool (decide (0 < n e.val)) := by
    show BitVec.ofBool (BitVec.slt _ _) = _
    rw [slt_ofNat32 (by decide) (by omega)]
  rw [hs]
  unfold visits
  by_cases hp : 0 < n e.val
  · rw [if_pos hp, decide_eq_true hp]; rfl
  · rw [if_neg hp, decide_eq_false hp]; rfl
include h in
theorem vend_holds (hg : Holds g n) : Holds (vendOf g) (cum (visits n)) := cumOf_holds (visits_holds h hg)

theorem lastOf_eq {x : I16} {f : Nat → Nat} (hx : Holds x f) (i : S1.Idx) : lastOf x i = BitVec.ofNat 32 (f 15) := by
  obtain rfl : i = ValueIdx.ix1 (0 : Fin 1) := by
    funext a; match a with | ⟨0, _⟩ => exact Subsingleton.elim (α := Fin 1) _ _
  exact (slice1 (m := 16) (n := 1) 15 x slices_S16_S1_15 (0 : Fin 1) (by decide)).trans (hx ⟨15, by decide⟩)

theorem minsi_ofNat {a b : Nat} (ha : a < 2 ^ 31) (hb : b < 2 ^ 31) : IntOp.minsi (BitVec.ofNat 32 a) (BitVec.ofNat 32 b) = BitVec.ofNat 32 (min a b) := by
  unfold IntOp.minsi
  rw [slt_ofNat32 ha hb]
  by_cases h : a < b
  · simp only [h, decide_true, if_true]; rw [min_eq_left (by omega)]
  · simp only [h, decide_false]; rw [min_eq_right (by omega)]; rfl

include h in
theorem num_eq (hg : Holds g n) (k : Fin 79) : numOf g (ValueIdx.ix1 k) = BitVec.ofNat 32 (pair n k.val) := by
  have h1 := pairs_pos h
  have h2 := pairs_le h
  have hk := k.isLt
  unfold numOf pairOf
  show IntOp.minsi (BitVec.ofNat 32 k.val) (lastOf (vendOf g) _ - BitVec.ofNat 32 1) = _
  rw [lastOf_eq (vend_holds h hg), ofNat32_sub (show 1 ≤ cum (visits n) 15 from h1), minsi_ofNat (by omega) (show cum (visits n) 15 - 1 < 2 ^ 31 from (show pairs n - 1 < 2 ^ 31 by omega))]
  rfl

theorem pexpOf_eq {v : I16} {f : Nat → Nat} (hv : Holds v f) (hf : ∀ e, e < 16 → f e < 2 ^ 31) (p : I79) (k : Fin 79) (x : Nat) (hx : x < 2 ^ 31)
    (hp : p (ValueIdx.ix1 k) = BitVec.ofNat 32 x) : pexpOf v p (ValueIdx.ix1 k) = BitVec.ofNat 32 (Nat.count (fun e => f e ≤ x) 16) := by
  unfold pexpOf
  rw [reduce_count (n := 79) (m := 16) (by decide) _ natLt_1_32 reducesTo_S79x16_S79_d1 h_S_ k (fun e => f e ≤ x)]
  intro q
  have e1 := bcRows (n := 79) (m := 16) bcast_S79_S79x1_0 bcast_S79x1_S79x16_0_1 p k q
  have e2 := bcCols (n := 79) (m := 16) bcast_S16_S1x16_1 bcast_S1x16_S79x16_0_1 v k q
  unfold cmpi
  rw [e1, e2, hp, hv]
  exact StableHlo.Predicate.sle_ofNat_iff _ _ (hf q.val q.isLt) hx

include h in
theorem ex_eq (hg : Holds g n) (k : Fin 79) : exOf g (ValueIdx.ix1 k) = BitVec.ofNat 32 (pairEx n k.val) := by
  have h2 := pairs_le h
  have hp : pair n k.val < pairs n := pair_lt h k.val
  exact pexpOf_eq (vend_holds h hg) (fun e he => lt_of_le_of_lt (show cum (visits n) e ≤ pairs n from cum_mono _ (by omega)) (by omega)) _ k _ (by omega) (num_eq h hg k)

include h in
theorem take_eq (hg : Holds g n) {x : I16} {f : Nat → Nat} (hx : Holds x f) (k : Fin 79) : takeOf x (exOf g) (ValueIdx.ix1 k) = BitVec.ofNat 32 (f (pairEx n k.val)) := by
  have hl := pairEx_lt h k.val
  refine (gather_take1 (N := 16) (n := 79) gather_S16_S79x1_S79_n_0_n_n_0_1_1 rfl rfl rfl rfl x _ k ⟨pairEx n k.val, hl⟩ ?_ (by decide)).trans (hx _)
  refine (bcCol (n := 79) bcast_S79_S79x1_0 _ k).trans ?_
  show Scalar.select (IntOp.cmpi .slt (exOf g (ValueIdx.ix1 k)) (BitVec.ofNat 32 0)) _ (exOf g (ValueIdx.ix1 k)) = _
  rw [ex_eq h hg k]
  have hs : IntOp.cmpi .slt (BitVec.ofNat 32 (pairEx n k.val)) (BitVec.ofNat 32 0) = BitVec.ofBool false := by
    show BitVec.ofBool (BitVec.slt _ _) = _
    rw [slt_ofNat32 (by omega) (by decide)]; simp
  rw [hs]; rfl

include h in
theorem tile_eq (hg : Holds g n) (k : Fin 79) : tileOf g (ValueIdx.ix1 k) = BitVec.ofNat 32 (pairTile n k.val) := by
  have h1 := pairTile_mem h k.val
  obtain ⟨h2, h3, h4⟩ := below_spec _ _ (pair_lt h k.val)
  change cum (visits n) (pairEx n k.val) - visits n (pairEx n k.val) ≤ pair n k.val at h3
  unfold tileOf
  rw [subi_ap, addi_ap, take_eq h hg (first_holds h hg), num_eq h hg,
    take_eq h hg (subi_holds (vend_holds h hg) (visits_holds h hg) fun e _ => le_cum (visits n) e), BitVec.ofNat_add_ofNat, ofNat32_sub (by omega)]
  rfl
end

variable (m : (ℓ : Loc nD τ sig) → Buf (Elt F) ℓ)

theorem ix79_eq (k : Fin 79) : ix79 k = ValueIdx.ix1 k := by funext a; match a with | ⟨0, _⟩ => rfl
theorem ix16_eq (k : Fin 16) : ix16 k = ValueIdx.ix1 k := by funext a; match a with | ⟨0, _⟩ => rfl

/-- The facts of the tables, from group sizes that fill the rows. -/
def tab (h : cum (nat16 (gs m)) 15 = 32768) : Tab m where
  tile := pairTile (nat16 (gs m))
  ex := pairEx (nat16 (gs m))
  st := fun e => cum (nat16 (gs m)) e - nat16 (gs m) e
  en := cum (nat16 (gs m))
  cnt := pairs (nat16 (gs m))
  rowEx := below (nat16 (gs m))
  hT := fun k => by unfold wTile; rw [V_tile, ix79_eq, tile_eq h (holds_nat16 _)]
  hE := fun k => by unfold wEx; rw [V_ex, ix79_eq, ex_eq h (holds_nat16 _)]
  hS := fun e => by unfold wStart; rw [V_starts, ix16_eq, starts_holds (holds_nat16 _)]
  hD := fun e => by unfold wEnd; rw [V_ends, ix16_eq, ends_holds (holds_nat16 _)]
  hC := by unfold wCount; rw [V_count, lastOf_eq (vend_holds h (holds_nat16 _))]; rfl
  tile_lt := fun k _ => pairTile_lt h k
  ex_lt := fun k _ => pairEx_lt h k
  tile_mono := fun k _ => pairTile_mono h k
  cnt_le := pairs_le h
  st_le := fun e he => le_trans (Nat.sub_le _ _) (cum_le_all h e he)
  en_le := fun e he => cum_le_all h e he
  mine := fun e _ r hr => below_iff _ r (by omega) e
  cover := fun r hr => pair_cover h r hr

end Cert.KernelIdeal.Run

end
-- ==== Proof.KernelIdealFrame.lean ====
/- The kernel terminates without fault and leaves its arguments unchanged, under group sizes that fill the rows. -/
module

public import proofs.«01_k».proof.Proof.KernelIdealLaunch
public import proofs.«01_k».proof.Proof.KernelIdealWords
public import Idealize.ShloMosaic.Lib.StableHlo.RunHlo

@[expose] public section

noncomputable section

namespace Cert.KernelIdeal.Run

open Idealize.ShloMosaic Idealize.ShloMosaic.TcCoe Idealize.SL.Sem
open Cert.KernelIdeal Cert.KernelIdeal.Gen

variable {F : FTy → Type} [FloatOps F]

theorem frame (m : (ℓ : Loc nD τ sig) → Buf (Elt F) ℓ) (g : Dev nD → PrngReg) (h : Tiles.cum (Tiles.nat16 (gs m)) 15 = 32768) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_mono (run (tab m h) g) fun r hr => ⟨fun c => args_of (tab m h) r hr.1 c, hr.2⟩

end Cert.KernelIdeal.Run

end
-- ==== Proof.Scale.lean ====
/- A row's scale over the extended reals: the largest power of two found by bisection on the exponent field is the one
   found by counting the powers of two that do not exceed the row's bound. -/
module

public import Idealize.ShloMosaic.Lib.Pointwise
public import Idealize.ShloMosaic.Lib.ValueLayoutCasts
public import Idealize.ShloMosaic.PureOps.Ideal.Laws

@[expose] public section

noncomputable section

namespace Cert.Scale

open Idealize.ShloMosaic
open scoped BigOperators

/-! ## Powers of two as words -/

/-- The float whose exponent field is `t` and whose other bits are zero. -/
def thr (t : Nat) : EReal := Ideal.ofBits .f32 (IntOp.shli .vector (BitVec.ofNat 32 t) 23#32)

/-- The fields of such a word. -/
theorem fields : ∀ t : Fin 256,
    ((IntOp.shli .vector (BitVec.ofNat 32 t.val) 23#32 : BitVec 32).extractLsb' 31 1 == 1#1) = false
      ∧ ((IntOp.shli .vector (BitVec.ofNat 32 t.val) 23#32 : BitVec 32).extractLsb' 23 8).toNat = t.val
      ∧ ((IntOp.shli .vector (BitVec.ofNat 32 t.val) 23#32 : BitVec 32).extractLsb' 0 23).toNat = 0 := by
  decide +kernel

/-- What a word with those fields denotes. -/
theorem ofBits_fields (b : BitVec 32) (t : Nat) (h1 : (b.extractLsb' (8 + 23) 1 == 1#1) = false) (h2 : (b.extractLsb' 23 8).toNat = t)
    (h3 : (b.extractLsb' 0 23).toNat = 0) : Ideal.ofBits .f32 b
      = if t = 255 then ⊤ else if t = 0 then 0 else (((2 : ℝ) ^ 23 * (2 : ℝ) ^ ((t : ℤ) - 127 - 23) : ℝ) : EReal) := by
  have h : Ideal.ofBits .f32 b = Ideal.ieee 8 23 b := rfl
  rw [h]
  unfold Ideal.ieee
  simp only [h1, h2, h3]
  norm_num

theorem thr_zero : thr 0 = 0 := by
  obtain ⟨h1, h2, h3⟩ := fields 0
  exact (ofBits_fields _ 0 h1 h2 h3).trans ((if_neg (by omega)).trans (if_pos rfl))

theorem thr_pow (t : Nat) (h0 : 1 ≤ t) (h1 : t ≤ 254) : thr t = (((2 : ℝ) ^ ((t : ℤ) - 127) : ℝ) : EReal) := by
  obtain ⟨f1, f2, f3⟩ := fields ⟨t, by omega⟩
  refine (ofBits_fields _ t f1 f2 f3).trans ((if_neg (by omega)).trans ((if_neg (by omega)).trans ?_))
  refine congrArg _ ?_
  have h2 : ((t : ℤ) - 127) = 23 + ((t : ℤ) - 127 - 23) := by ring
  rw [h2, zpow_add₀ (by norm_num : (2 : ℝ) ≠ 0)]
  norm_num

theorem thr_top : thr 255 = ⊤ := by
  obtain ⟨h1, h2, h3⟩ := fields 255
  exact (ofBits_fields _ 255 h1 h2 h3).trans (if_pos rfl)

/-- Two to an integral real, as the ideal instance's power. -/
theorem exp2_int (k : ℤ) : Ideal.exp2 (((k : ℝ) : ℝ) : EReal) = (((2 : ℝ) ^ k : ℝ) : EReal) := by
  rw [Ideal.exp2_coe]
  exact congrArg _ (Real.rpow_intCast 2 k)

/-! ## Counting the powers -/

/-- How many of the powers `2 ^ (i - 126)`, `i < 254`, do not exceed `μ`. -/
def count (μ : ℝ) : Nat := ((Finset.range 254).filter fun i : Nat => (2 : ℝ) ^ ((i : ℤ) - 126) ≤ μ).card

theorem lt_count (μ : ℝ) (k : Nat) (hk : k < 254) : k < count μ ↔ (2 : ℝ) ^ ((k : ℤ) - 126) ≤ μ := by
  have mono : ∀ i j : Nat, i ≤ j → (2 : ℝ) ^ ((i : ℤ) - 126) ≤ (2 : ℝ) ^ ((j : ℤ) - 126) := fun i j h =>
    zpow_le_zpow_right₀ (by norm_num) (by omega)
  constructor
  · intro h
    by_contra hp
    have hs : ((Finset.range 254).filter fun i : Nat => (2 : ℝ) ^ ((i : ℤ) - 126) ≤ μ) ⊆ Finset.range k := by
      intro i hi
      rw [Finset.mem_filter] at hi
      rw [Finset.mem_range]
      by_contra hik
      exact hp ((mono k i (by omega)).trans hi.2)
    have := Finset.card_le_card hs
    rw [Finset.card_range] at this
    unfold count at h
    omega
  · intro h
    have hs : Finset.range (k + 1) ⊆ ((Finset.range 254).filter fun i : Nat => (2 : ℝ) ^ ((i : ℤ) - 126) ≤ μ) := by
      intro i hi
      rw [Finset.mem_range] at hi
      rw [Finset.mem_filter, Finset.mem_range]
      exact ⟨by omega, (mono i k (by omega)).trans h⟩
    have := Finset.card_le_card hs
    rw [Finset.card_range] at this
    unfold count
    omega

theorem count_le (μ : ℝ) : count μ ≤ 254 := by
  have := Finset.card_filter_le (Finset.range 254) fun i : Nat => (2 : ℝ) ^ ((i : ℤ) - 126) ≤ μ
  rw [Finset.card_range] at this
  exact this

theorem count_small (μ : ℝ) (h : μ < (2 : ℝ) ^ (126 : ℤ)) : count μ ≤ 252 := by
  by_contra hc
  have := (lt_count μ 252 (by omega)).mp (by omega)
  norm_num at this h
  linarith

/-- A power is at most `μ` just if its exponent field is at most the count. -/
theorem thr_le (μ : ℝ) (h0 : 0 ≤ μ) (t : Nat) (ht : t ≤ 255) : thr t ≤ (μ : EReal) ↔ t ≤ count μ := by
  have hc := count_le μ
  rcases Nat.eq_zero_or_pos t with rfl | hp
  · rw [thr_zero]
    exact ⟨fun _ => Nat.zero_le _, fun _ => by exact_mod_cast h0⟩
  rcases Nat.eq_or_lt_of_le ht with rfl | hl
  · rw [thr_top]
    refine ⟨fun h => absurd h (not_le.mpr (EReal.coe_lt_top μ)), fun h => by omega⟩
  · rw [thr_pow t hp (by omega), EReal.coe_le_coe_iff]
    have := lt_count μ (t - 1) (by omega)
    rw [show ((t - 1 : Nat) : ℤ) - 126 = (t : ℤ) - 127 by omega] at this
    rw [← this]
    omega

/-! ## The bisection -/

/-- One step: the candidate `lo + b` is taken if its power does not exceed `μ`. -/
def stepW (μ : EReal) (lo b : BitVec 32) : BitVec 32 :=
  Scalar.select (FloatOps.cmpf (F := Ideal) (φ := .f32) .oge μ (FloatOps.ofBits (F := Ideal) .f32 (IntOp.shli .vector (IntOp.addi lo b) 23#32)))
    (IntOp.addi lo b) lo

theorem stepW_eq (μ : ℝ) (h0 : 0 ≤ μ) (n b : Nat) (h : n + b ≤ 255) :
    stepW (μ : EReal) (BitVec.ofNat 32 n) (BitVec.ofNat 32 b) = BitVec.ofNat 32 (if n + b ≤ count μ then n + b else n) := by
  have ha : IntOp.addi (BitVec.ofNat 32 n) (BitVec.ofNat 32 b) = BitVec.ofNat 32 (n + b) := (BitVec.ofNat_add n b).symm
  unfold stepW
  rw [ha]
  have hl := thr_le μ h0 (n + b) h
  show (if BitVec.ofBool (decide (thr (n + b) ≤ (μ : EReal))) = 1 then _ else _) = _
  by_cases hc : n + b ≤ count μ
  · rw [if_pos hc, decide_eq_true (hl.mpr hc)]; rfl
  · rw [if_neg hc, decide_eq_false (fun h' => hc (hl.mp h'))]; rfl

/-- The whole bisection, in the eight steps `128, 64, …, 1`. -/
def bisect (μ : EReal) : BitVec 32 :=
  stepW μ (stepW μ (stepW μ (stepW μ (stepW μ (stepW μ (stepW μ (stepW μ 0#32 128#32) 64#32) 32#32) 16#32) 8#32) 4#32) 2#32) 1#32

/-- The bisection finds the count. -/
theorem bisect_eq (μ : ℝ) (h0 : 0 ≤ μ) : bisect (μ : EReal) = BitVec.ofNat 32 (count μ) := by
  have hc := count_le μ
  have st : ∀ (n b : Nat) (w : BitVec 32), w = BitVec.ofNat 32 n → n ≤ count μ → count μ < n + 2 * b → n + b ≤ 255 →
      ∃ n', stepW (μ : EReal) w (BitVec.ofNat 32 b) = BitVec.ofNat 32 n' ∧ n' ≤ count μ ∧ count μ < n' + b ∧ n' ≤ n + b := by
    rintro n b w rfl h1 h2 h3
    refine ⟨_, stepW_eq μ h0 n b h3, ?_⟩
    split_ifs with h <;> omega
  obtain ⟨n1, e1, a1, b1, c1⟩ := st 0 128 0#32 rfl (by omega) (by omega) (by omega)
  obtain ⟨n2, e2, a2, b2, c2⟩ := st n1 64 _ e1 a1 (by omega) (by omega)
  obtain ⟨n3, e3, a3, b3, c3⟩ := st n2 32 _ e2 a2 (by omega) (by omega)
  obtain ⟨n4, e4, a4, b4, c4⟩ := st n3 16 _ e3 a3 (by omega) (by omega)
  obtain ⟨n5, e5, a5, b5, c5⟩ := st n4 8 _ e4 a4 (by omega) (by omega)
  obtain ⟨n6, e6, a6, b6, c6⟩ := st n5 4 _ e5 a5 (by omega) (by omega)
  obtain ⟨n7, e7, a7, b7, c7⟩ := st n6 2 _ e6 a6 (by omega) (by omega)
  obtain ⟨n8, e8, a8, b8, c8⟩ := st n7 1 _ e7 a7 (by omega) (by omega)
  have h8 : n8 = count μ := by omega
  subst h8
  exact e8

/-! ## The exponent of a row, in both programs -/

/-- The exponent word: zero for a zero row, else the count less 126. -/
def expW (μ : EReal) : BitVec 32 :=
  Scalar.select (FloatOps.cmpf (F := Ideal) (φ := .f32) .oeq μ (FloatOps.ofBits (F := Ideal) .f32 0x00000000#32)) 0#32 (IntOp.subi (bisect μ) 126#32)

/-- The exponent as an integer. -/
def expZ (μ : ℝ) : ℤ := if μ = 0 then 0 else (count μ : ℤ) - 126

theorem cmp_zero (μ : ℝ) : FloatOps.cmpf (F := Ideal) (φ := .f32) .oeq (μ : EReal) (FloatOps.ofBits (F := Ideal) .f32 0x00000000#32)
    = BitVec.ofBool (decide (μ = 0)) := by
  show BitVec.ofBool (decide ((μ : EReal) = Ideal.ofBits .f32 0x00000000#32)) = _
  rw [Ideal.ofBits_zero_f32]
  exact congrArg BitVec.ofBool (decide_eq_decide.mpr (by norm_cast))

/-- The scale's word is two to the exponent, -/
theorem scale_up (μ : ℝ) (h0 : 0 ≤ μ) (h : μ < (2 : ℝ) ^ (126 : ℤ)) :
    Ideal.ofBits .f32 (IntOp.shli .vector (IntOp.addi (expW (μ : EReal)) 127#32) 23#32) = (((2 : ℝ) ^ expZ μ : ℝ) : EReal) := by
  have hc := count_small μ h
  unfold expW expZ
  rw [cmp_zero, bisect_eq μ h0]
  by_cases hz : μ = 0
  · rw [decide_eq_true hz, if_pos hz]
    refine Eq.trans (b := thr 127) rfl ((thr_pow 127 (by omega) (by omega)).trans ?_)
    norm_num
  · rw [decide_eq_false hz, if_neg hz]
    have hw : IntOp.addi (IntOp.subi (BitVec.ofNat 32 (count μ)) 126#32) 127#32 = BitVec.ofNat 32 (count μ + 1) := by
      apply BitVec.eq_of_toNat_eq
      show (BitVec.ofNat 32 (count μ) - 126#32 + 127#32).toNat = _
      simp only [BitVec.toNat_add, BitVec.toNat_sub, BitVec.toNat_ofNat]
      omega
    refine (congrArg (fun w => Ideal.ofBits .f32 (IntOp.shli .vector w 23#32)) hw).trans ?_
    refine (thr_pow (count μ + 1) (by omega) (by omega)).trans ?_
    rw [show ((count μ + 1 : Nat) : ℤ) - 127 = (count μ : ℤ) - 126 by omega]

/-- and the inverse's word is two to the opposite exponent. -/
theorem scale_down (μ : ℝ) (h0 : 0 ≤ μ) (h : μ < (2 : ℝ) ^ (126 : ℤ)) :
    Ideal.ofBits .f32 (IntOp.shli .vector (IntOp.subi 127#32 (expW (μ : EReal))) 23#32) = (((2 : ℝ) ^ (-expZ μ) : ℝ) : EReal) := by
  have hc := count_small μ h
  unfold expW expZ
  rw [cmp_zero, bisect_eq μ h0]
  by_cases hz : μ = 0
  · rw [decide_eq_true hz, if_pos hz]
    have hw : ∀ w : BitVec 32, IntOp.subi 127#32 (Scalar.select (BitVec.ofBool true) 0#32 w) = BitVec.ofNat 32 127 := fun w =>
      (congrArg (IntOp.subi 127#32) (if_pos rfl : Scalar.select (BitVec.ofBool true) 0#32 w = 0#32)).trans (by decide)
    rw [hw]
    refine Eq.trans (b := thr 127) rfl ((thr_pow 127 (by omega) (by omega)).trans ?_)
    norm_num
  · rw [decide_eq_false hz, if_neg hz]
    have hw : IntOp.subi 127#32 (IntOp.subi (BitVec.ofNat 32 (count μ)) 126#32) = BitVec.ofNat 32 (253 - count μ) := by
      apply BitVec.eq_of_toNat_eq
      show (127#32 - (BitVec.ofNat 32 (count μ) - 126#32)).toNat = _
      simp only [BitVec.toNat_sub, BitVec.toNat_ofNat]
      omega
    refine (congrArg (fun w => Ideal.ofBits .f32 (IntOp.shli .vector w 23#32)) hw).trans ?_
    refine (thr_pow (253 - count μ) (by omega) (by omega)).trans ?_
    rw [show ((253 - count μ : Nat) : ℤ) - 127 = -((count μ : ℤ) - 126) by omega]

/-! ## The reference's exponent -/

/-- The term of the reference's sum for one power. -/
def oneIf (μ : EReal) (i : Fin 254) : EReal :=
  FloatOps.sitofp (F := Ideal) .f32 (BitVec.setWidth 32 (FloatOps.cmpf (F := Ideal) (φ := .f32) .ole
    (FloatOps.exp2 (F := Ideal) (φ := .f32) (FloatOps.subf (F := Ideal) (φ := .f32) (FloatOps.sitofp (F := Ideal) .f32 (BitVec.ofNat 32 i.val)) (FloatOps.ofBits (F := Ideal) .f32 0x42FC0000#32))) μ))

theorem ofBits_126 : Ideal.ofBits .f32 0x42FC0000#32 = ((126 : ℝ) : EReal) := by
  simp [Ideal.ofBits, Ideal.ieee, -EReal.coe_mul]; norm_num

theorem oneIf_eq (μ : ℝ) (i : Fin 254) : oneIf (μ : EReal) i = (((if (2 : ℝ) ^ ((i.val : ℤ) - 126) ≤ μ then 1 else 0 : ℝ)) : EReal) := by
  have hi : (BitVec.ofNat 32 i.val).toInt = (i.val : ℤ) := by
    have : ∀ k : Fin 254, (BitVec.ofNat 32 k.val).toInt = (k.val : ℤ) := by decide +kernel
    exact this i
  have he : FloatOps.exp2 (F := Ideal) (φ := .f32) (FloatOps.subf (F := Ideal) (φ := .f32) (FloatOps.sitofp (F := Ideal) .f32 (BitVec.ofNat 32 i.val)) (FloatOps.ofBits (F := Ideal) .f32 0x42FC0000#32))
      = (((2 : ℝ) ^ ((i.val : ℤ) - 126) : ℝ) : EReal) := by
    show Ideal.exp2 ((((BitVec.ofNat 32 i.val).toInt : ℝ) : EReal) - Ideal.ofBits .f32 0x42FC0000#32) = _
    rw [hi, ofBits_126, ← EReal.coe_sub, ← exp2_int]
    push_cast
    rfl
  unfold oneIf
  rw [he]
  show ((((BitVec.setWidth 32 (BitVec.ofBool (decide ((((2 : ℝ) ^ ((i.val : ℤ) - 126) : ℝ) : EReal) ≤ (μ : EReal)))) : BitVec 32).toInt : ℝ) : ℝ) : EReal) = _
  refine congrArg _ ?_
  by_cases h : (2 : ℝ) ^ ((i.val : ℤ) - 126) ≤ μ
  · rw [if_pos h, decide_eq_true (EReal.coe_le_coe_iff.mpr h)]
    have : (BitVec.setWidth 32 (BitVec.ofBool true) : BitVec 32).toInt = 1 := by decide
    rw [this]; norm_num
  · rw [if_neg h, decide_eq_false (fun h' => h (EReal.coe_le_coe_iff.mp h'))]
    have : (BitVec.setWidth 32 (BitVec.ofBool false) : BitVec 32).toInt = 0 := by decide
    rw [this]; norm_num

/-- The sum is the count. -/
theorem sum_oneIf (μ : ℝ) : ∑ i : Fin 254, oneIf (μ : EReal) i = (((count μ : ℝ)) : EReal) := by
  have h : ∀ (s : Finset (Fin 254)) (f : Fin 254 → ℝ), ∑ i ∈ s, ((f i : ℝ) : EReal) = ((∑ i ∈ s, f i : ℝ) : EReal) := by
    intro s f
    induction s using Finset.cons_induction with
    | empty => simp
    | cons a s ha ih => rw [Finset.sum_cons, Finset.sum_cons, ih, EReal.coe_add]
  rw [Finset.sum_congr rfl (fun i _ => oneIf_eq μ i), h]
  refine congrArg _ ?_
  rw [Fin.sum_univ_eq_sum_range (fun i : Nat => (if (2 : ℝ) ^ ((i : ℤ) - 126) ≤ μ then 1 else 0 : ℝ)) 254, Finset.sum_boole]
  rfl

/-- The reference's exponent from the row's maximum `a` and its bound `μ`. -/
def expR (a μ : EReal) : EReal :=
  Scalar.select (FloatOps.cmpf (F := Ideal) (φ := .f32) .oeq a (FloatOps.ofBits (F := Ideal) .f32 0x00000000#32)) (FloatOps.ofBits (F := Ideal) .f32 0x00000000#32)
    (FloatOps.subf (F := Ideal) (φ := .f32) (∑ i : Fin 254, oneIf μ i) (FloatOps.ofBits (F := Ideal) .f32 0x42FC0000#32))

theorem expR_eq (a μ : ℝ) (hz : a = 0 ↔ μ = 0) : expR (a : EReal) (μ : EReal) = (((expZ μ : ℤ) : ℝ) : EReal) := by
  unfold expR expZ
  rw [cmp_zero, sum_oneIf]
  by_cases h : μ = 0
  · rw [decide_eq_true (hz.mpr h), if_pos h]
    show Ideal.ofBits .f32 0x00000000#32 = _
    rw [Ideal.ofBits_zero_f32]; simp
  · rw [decide_eq_false (fun h' => h (hz.mp h')), if_neg h]
    show ((count μ : ℝ) : EReal) - Ideal.ofBits .f32 0x42FC0000#32 = _
    rw [ofBits_126, ← EReal.coe_sub]
    push_cast
    rfl

/-! ## The row's bound -/

/-- The quantiser's constant. -/
theorem ofBits_c : Ideal.ofBits .f32 0x37924925#32 = (((9586981 : ℝ) * (2 : ℝ) ^ (-39 : ℤ) : ℝ) : EReal) := by
  simp [Ideal.ofBits, Ideal.ieee, -EReal.coe_mul]

/-- The largest finite bf16. -/
theorem ofBits_big : Ideal.ofBits .f32 0x7F7F0000#32 = (((16711680 : ℝ) * (2 : ℝ) ^ (104 : ℤ) : ℝ) : EReal) := by
  simp [Ideal.ofBits, Ideal.ieee, -EReal.coe_mul]

/-- The greatest magnitude of a row. -/
def rowMax (f : Fin 2816 → EReal) : EReal :=
  (Finset.univ : Finset (Fin 2816)).fold max (Ideal.ofBits .f32 0xFF800000#32) fun k => max (f k) (-f k)

/-- A row of finite floats: its maximum is a real, zero just if the bound is, and the bound is below `2 ^ 126`. -/
theorem rowMax_real (f : Fin 2816 → EReal) (hf : ∀ k, max (f k) (-f k) ≤ Ideal.ofBits .f32 0x7F7F0000#32) :
    ∃ a μ : ℝ, rowMax f = (a : EReal) ∧ rowMax f * Ideal.ofBits .f32 0x37924925#32 = (μ : EReal) ∧ 0 ≤ μ ∧ μ < (2 : ℝ) ^ (126 : ℤ) ∧ (a = 0 ↔ μ = 0) := by
  have hle : rowMax f ≤ Ideal.ofBits .f32 0x7F7F0000#32 := by
    unfold rowMax
    rw [Finset.fold_max_le]
    refine ⟨?_, fun k _ => hf k⟩
    have : Ideal.ofBits .f32 0xFF800000#32 = ⊥ := by simp [Ideal.ofBits, Ideal.ieee]
    rw [this]; exact bot_le
  have hge : 0 ≤ rowMax f := by
    unfold rowMax
    rw [Finset.le_fold_max]
    refine Or.inr ⟨0, Finset.mem_univ _, ?_⟩
    rcases le_total 0 (f 0) with h | h
    · exact le_max_of_le_left h
    · exact le_max_of_le_right (EReal.neg_nonneg.mpr h)
  rw [ofBits_big] at hle
  obtain ⟨a, ha⟩ : ∃ a : ℝ, rowMax f = (a : EReal) :=
    ⟨(rowMax f).toReal, (EReal.coe_toReal (ne_of_lt (lt_of_le_of_lt hle (EReal.coe_lt_top _)))
      (ne_of_gt (lt_of_lt_of_le EReal.bot_lt_zero hge))).symm⟩
  rw [ha] at hle hge
  have h0 : 0 ≤ a := by exact_mod_cast hge
  have h1 := EReal.coe_le_coe_iff.mp hle
  have hc : (0 : ℝ) < (9586981 : ℝ) * (2 : ℝ) ^ (-39 : ℤ) := by positivity
  refine ⟨a, a * ((9586981 : ℝ) * (2 : ℝ) ^ (-39 : ℤ)), ha, ?_, mul_nonneg h0 hc.le, ?_, ?_⟩
  · rw [ha, ofBits_c, ← EReal.coe_mul]
  · refine lt_of_le_of_lt (mul_le_mul_of_nonneg_right h1 hc.le) ?_
    norm_num
  · rw [mul_eq_zero]
    exact ⟨Or.inl, fun h => h.resolve_right hc.ne'⟩

/-! ## Operations at an index, at any number of rows -/

/-- The column of the rows' greatest magnitudes. -/
theorem rowMax_apply {n : Nat} (v : FVec Ideal ⟨2, ![n, 2816]⟩ .f32) (h : (⟨2, ![n, 2816]⟩ : Shape).Reduces [1] ⟨1, ![n]⟩) (hφ : FKind.Formats .f32)
    (ha : 0xFF800000#32 = FKind.maximumf.neutral .f32 hφ) (hc : (⟨1, ![n]⟩ : Shape).ShapeCasts ⟨2, ![n, 1]⟩) (r : Fin n) :
    shapeCast ⟨2, ![n, 1]⟩ (multiReduction .maximumf [1] ⟨1, ![n]⟩ (absf v) 0xFF800000#32 h hφ ha) hc (ix2 r (0 : Fin 1)) = rowMax (fun k => v (ix2 r k)) := by
  refine (ValueIdx.shapeCast_a_a1_apply _ hc r 0).trans ?_
  haveI : Std.Commutative (FloatOps.maximumf (F := Ideal) (φ := .f32)) := inferInstanceAs (Std.Commutative (max : EReal → EReal → EReal))
  haveI : Std.Associative (FloatOps.maximumf (F := Ideal) (φ := .f32)) := inferInstanceAs (Std.Associative (max : EReal → EReal → EReal))
  refine (multiReduction_maximumf_eq_fold (F := Ideal) (absf v) 0xFF800000#32 h hφ ha _).trans ?_
  refine (Shape.Reduces.fold_fiber_r2_a1 h _ (FloatOps.maximumf (F := Ideal) (φ := .f32)) _ (absf v)).trans ?_
  rfl

/-- The column of the rows' sums. -/
theorem rowSum_apply {n : Nat} (v : FVec Ideal ⟨2, ![n, 254]⟩ .f32) (h : (⟨2, ![n, 254]⟩ : Shape).Reduces [1] ⟨1, ![n]⟩) (hφ : FKind.Formats .f32)
    (ha : 0x00000000#32 = FKind.add.neutral .f32 hφ) (hc : (⟨1, ![n]⟩ : Shape).ShapeCasts ⟨2, ![n, 1]⟩) (r : Fin n) :
    shapeCast ⟨2, ![n, 1]⟩ (multiReduction .add [1] ⟨1, ![n]⟩ v 0x00000000#32 h hφ ha) hc (ix2 r (0 : Fin 1)) = ∑ i : Fin 254, v (ix2 r i) := by
  refine (ValueIdx.shapeCast_a_a1_apply _ hc r 0).trans ?_
  exact Ideal.reduceAdd_r2_a1 h v _

theorem mul_apply {s : Shape} (a b : FVec Ideal s .f32) (i : s.Idx) : mulf a b i = a i * b i := rfl

/-- A product of three, stored narrower. -/
theorem mul3_apply {s : Shape} (a b c : FVec Ideal s .f32) (h) (i : s.Idx) : truncf .bf16 (mulf (mulf a b) c) h i = a i * b i * c i := rfl

/-- Scaled, clipped and stored narrower. -/
theorem clip_apply {s : Shape} (lo hi : BitVec 32) (a : FVec Ideal s .bf16) (b : FVec Ideal s .f32) (h h') (i : s.Idx) :
    truncf .fp8e5m2 (minimumf (broadcast s (Scalar.ofBits (F := Ideal) .f32 hi)) (maximumf (broadcast s (Scalar.ofBits (F := Ideal) .f32 lo)) (mulf (extf .f32 a h') b))) h i
      = min (Ideal.ofBits .f32 hi) (max (Ideal.ofBits .f32 lo) (a i * b i)) := rfl

theorem exp2_apply {s : Shape} (a : FVec Ideal s .f32) (i : s.Idx) : exp2 a i = Ideal.exp2 (a i) := rfl

theorem exp2_neg_apply {s : Shape} (a : FVec Ideal s .f32) (b : BitVec 32) (i : s.Idx) :
    exp2 (subf (broadcast s (Scalar.ofBits (F := Ideal) .f32 b)) a) i = Ideal.exp2 (Ideal.ofBits .f32 b - a i) := rfl

/-- The reference's exponent from the maxima and the counts. -/
theorem expR_apply {s : Shape} (a c : FVec Ideal s .f32) (i : s.Idx) :
    select (cmpf .oeq a (broadcast s (Scalar.ofBits (F := Ideal) .f32 0x00000000#32))) (broadcast s (Scalar.ofBits (F := Ideal) .f32 0x00000000#32))
      (subf c (broadcast s (Scalar.ofBits (F := Ideal) .f32 0x42FC0000#32))) i
      = Scalar.select (FloatOps.cmpf (F := Ideal) (φ := .f32) .oeq (a i) (FloatOps.ofBits (F := Ideal) .f32 0x00000000#32)) (FloatOps.ofBits (F := Ideal) .f32 0x00000000#32)
        (FloatOps.subf (F := Ideal) (φ := .f32) (c i) (FloatOps.ofBits (F := Ideal) .f32 0x42FC0000#32)) := rfl

end Cert.Scale

end
-- ==== Proof.KernelIdealRow.lean ====
/- A tile's codes and scales at an index, over the extended reals. -/
module

public import proofs.«01_k».proof.Proof.KernelIdealRun
public import proofs.«01_k».proof.Proof.Scale

@[expose] public section

set_option maxRecDepth 16384

noncomputable section

namespace Cert.KernelIdeal.Row

open Idealize.ShloMosaic Idealize.ShloMosaic.TcCoe
open Cert.KernelIdeal Cert.KernelIdeal.Gen Cert.KernelIdeal.Run

/-- A row's bound: its greatest magnitude times the quantiser's constant. -/
theorem bound_apply (x0 : Vec Ideal S512x2816 .bf16) (r : Fin 512) :
    k0_pay5 x0 (ix2 r (0 : Fin 1)) = Scale.rowMax (fun k => x0 (ix2 r k)) * Ideal.ofBits .f32 0x37924925#32 := by
  unfold k0_pay5
  exact (Scale.mul_apply _ _ _).trans (congrArg (· * Ideal.ofBits .f32 0x37924925#32) (Scale.rowMax_apply (k0_pay4 x0) _ _ _ _ r))

/-- The row's exponent is the bisection's. -/
theorem exp_apply (x0 : Vec Ideal S512x2816 .bf16) (j : S512x1.Idx) :
    k0_pay8 (k0_pay5 x0) (k0_pay6 x0) k0_pay7 j = Scale.expW (k0_pay5 x0 j) := by
  unfold k0_pay8 k0_pay6 k0_pay7
  rfl

/-- A row's scale. -/
theorem scale_apply (x0 : Vec Ideal S512x2816 .bf16) (r : Fin 512) :
    scaleCol (scalesOf x0) (ix2 r (0 : Fin 1))
      = Ideal.ofBits .f32 (IntOp.shli .vector (IntOp.addi (Scale.expW (k0_pay5 x0 (ix2 r (0 : Fin 1)))) 127#32) 23#32) := by
  have h1 : scaleCol (scalesOf x0) (ix2 r (0 : Fin 1)) = scalesOf x0 (ix2 r (0 : Fin 128)) :=
    congrArg (scalesOf x0) (funext fun a : Fin 2 => Fin.ext (match a with | 0 => by show 0 + 1 * r.val = r.val; omega | 1 => rfl))
  rw [h1]
  unfold scalesOf k0_pay2
  rw [shapeCast_self, shapeCast_self, broadcastTo_apply _ _ (ix2 r (0 : Fin 128)) (ix2 r (0 : Fin 1)) (fun a => match a with | ⟨0, _⟩ => rfl | ⟨1, _⟩ => rfl)]
  unfold k0_pay9
  show Ideal.ofBits .f32 (IntOp.shli .vector (IntOp.addi (k0_pay8 (k0_pay5 x0) (k0_pay6 x0) k0_pay7 (ix2 r (0 : Fin 1))) 127#32) 23#32) = _
  rw [exp_apply]

/-- A row's codes. -/
theorem codes_apply (x0 : Vec Ideal S512x2816 .bf16) (r : Fin 512) (k : Fin 2816) :
    codesOf x0 (ix2 r k) = min (Ideal.ofBits .f32 0x47600000#32) (max (Ideal.ofBits .f32 0xC7600000#32) (x0 (ix2 r k)
      * Ideal.ofBits .f32 (IntOp.shli .vector (IntOp.subi 127#32 (Scale.expW (k0_pay5 x0 (ix2 r (0 : Fin 1))))) 23#32))) := by
  unfold codesOf k0_pay1
  rw [shapeCast_self]
  have he := exp_apply x0 (ix2 r (0 : Fin 1))
  unfold k0_pay10 k0_pay4
  generalize k0_pay8 (k0_pay5 x0) (k0_pay6 x0) k0_pay7 = e at he ⊢
  refine (Scale.clip_apply _ _ x0 _ _ _ _).trans ?_
  rw [broadcastTo_apply _ _ (ix2 r k) (ix2 r (0 : Fin 1)) (fun a => match a with | ⟨0, _⟩ => rfl | ⟨1, _⟩ => rfl), ← he]
  rfl

variable {m : (ℓ : Loc nD τ sig) → Buf (Elt Ideal) ℓ}

/-- A tile's products at an index: the row's codes against the weights, times both scales. -/
theorem valAt_apply (t e : Nat) (r : Fin 512) (j : Fin 3072) :
    valAt m t e (ix2 r j) = (∑ k : Fin 2816, codesOf (dyAt m t) (ix2 r k) * wAt m e (ix3 (0 : Fin 1) j k))
      * scaleCol (scalesOf (dyAt m t)) (ix2 r (0 : Fin 1)) * wsAt m e (ix2 (0 : Fin 1) j) := by
  unfold valAt
  generalize codesOf (dyAt m t) = c
  generalize scaleCol (scalesOf (dyAt m t)) = s
  generalize wAt m e = w
  generalize wsAt m e = ws
  refine (Scale.mul3_apply _ _ _ _ _).trans ?_
  rw [broadcastTo_apply _ _ (ix2 r j) (ix2 r (0 : Fin 1)) (fun a => match a with | ⟨0, _⟩ => rfl | ⟨1, _⟩ => rfl),
    broadcastTo_apply _ _ (ix2 r j) (ix2 (0 : Fin 1) j) (fun a => match a with | ⟨0, _⟩ => rfl | ⟨1, _⟩ => rfl)]
  refine congrArg (fun y => y * s (ix2 r (0 : Fin 1)) * ws (ix2 (0 : Fin 1) j)) ?_
  simp only [pointwise]
  exact zero_add _

end Cert.KernelIdeal.Row

end
-- ==== Proof.KernelIdealValue.lean ====
/- What the kernel's output array holds at the end: each row's products with the weights of the row's group. A tile's block gathers
   the rows of one group after another over consecutive points, and is written back when all its rows are there. -/
module

public import proofs.«01_k».proof.Proof.KernelIdealFrame
public import Idealize.ShloMosaic.Lib.Pipeline.ArrRel
public import Idealize.ShloMosaic.Lib.Pointwise

@[expose] public section

set_option maxRecDepth 16384

noncomputable section

namespace Cert.KernelIdeal.Run

open Idealize.ShloMosaic Idealize.ShloMosaic.TcCoe Idealize.ShloMosaic.Tactic Idealize.SL.Sem
open Idealize.ShloMosaic.Pipeline (RDat)
open Cert.KernelIdeal Cert.KernelIdeal.Gen

variable {F : FTy → Type} [FloatOps F]
variable {m : (ℓ : Loc nD τ sig) → Buf (Elt F) ℓ}

theorem ofNat_sge (a b : Nat) (ha : a < 2 ^ 31) (hb : b < 2 ^ 31) : IntOp.cmpi .sge (BitVec.ofNat 32 a) (BitVec.ofNat 32 b) = BitVec.ofBool (decide (b ≤ a)) := by
  show BitVec.ofBool (BitVec.sle _ _) = _
  rw [Routing.sle_ofNat32 hb ha]
theorem ofNat_slt (a b : Nat) (ha : a < 2 ^ 31) (hb : b < 2 ^ 31) : IntOp.cmpi .slt (BitVec.ofNat 32 a) (BitVec.ofNat 32 b) = BitVec.ofBool (decide (a < b)) := by
  show BitVec.ofBool (BitVec.slt _ _) = _
  rw [Routing.slt_ofNat32 ha hb]

/-- The stored block at an index: the product where the row is the group's, what was there elsewhere. -/
theorem pay3_apply (t e s d : Nat) (ht : t < 64) (hs : s ≤ 32768) (hd : d ≤ 32768) (Y : Vec F S512x3072 .bf16) (x : S512x3072.Idx) :
    k0_pay3 (BitVec.ofNat 32 t) (codesOf (dyAt m t)) (wAt m e) (scaleCol (scalesOf (dyAt m t))) (wsAt m e) (BitVec.ofNat 32 s) (BitVec.ofNat 32 d) Y x
      = if s ≤ t * 512 + (x 0).val ∧ t * 512 + (x 0).val < d then valAt m t e x else Y x := by
  have hx : (x 0).val < 512 := (x 0).isLt
  unfold k0_pay3
  have hm : broadcastTo S512x3072 (shapeCast S512x1 (andi (cmpi .sge (addi (broadcast S512x1 (Scalar.muli (BitVec.ofNat 32 t) 512#32)) (iota .tc S512x1 32 [0] iota_S512x1_d0_w32)) (broadcast S512x1 (BitVec.ofNat 32 s)))
      (cmpi .slt (addi (broadcast S512x1 (Scalar.muli (BitVec.ofNat 32 t) 512#32)) (iota .tc S512x1 32 [0] iota_S512x1_d0_w32)) (broadcast S512x1 (BitVec.ofNat 32 d)))) shapeCasts_S512x1_S512x1)
      broadcasts_S512x1_S512x3072 x = BitVec.ofBool (decide (s ≤ t * 512 + (x 0).val) && decide (t * 512 + (x 0).val < d)) := by
    rw [shapeCast_self]
    have hr : addi (broadcast S512x1 (Scalar.muli (BitVec.ofNat 32 t) 512#32)) (iota .tc S512x1 32 [0] iota_S512x1_d0_w32) (ValueIdx.ix2 (⟨(x 0).val, hx⟩ : Fin 512) (0 : Fin 1)) = BitVec.ofNat 32 (t * 512 + (x 0).val) := by
      show BitVec.ofNat 32 t * BitVec.ofNat 32 512 + BitVec.ofNat 32 (0 * 512 + (x 0).val) = _
      rw [BitVec.ofNat_mul_ofNat, BitVec.ofNat_add_ofNat]; congr 1; omega
    rw [broadcastTo_apply _ _ x (ValueIdx.ix2 (⟨(x 0).val, hx⟩ : Fin 512) (0 : Fin 1)) (fun a => match a with | ⟨0, _⟩ => rfl | ⟨1, _⟩ => rfl)]
    show IntOp.andi (IntOp.cmpi .sge _ (BitVec.ofNat 32 s)) (IntOp.cmpi .slt _ (BitVec.ofNat 32 d)) = _
    rw [hr, ofNat_sge _ _ (by omega) (by omega), ofNat_slt _ _ (by omega) (by omega), WordCmp.andi_ofBool]
  show Scalar.select (broadcastTo S512x3072 _ broadcasts_S512x1_S512x3072 x) _ (shapeCast S512x3072 Y shapeCasts_S512x3072_S512x3072 x) = _
  rw [hm, shapeCast_self]
  by_cases h1 : s ≤ t * 512 + (x 0).val
  · by_cases h2 : t * 512 + (x 0).val < d
    · rw [if_pos ⟨h1, h2⟩, decide_eq_true h1, decide_eq_true h2]; rfl
    · rw [if_neg (fun h => h2 h.2), decide_eq_true h1, decide_eq_false h2]; rfl
  · rw [if_neg (fun h => h1 h.1), decide_eq_false h1]; rfl

/-- What point `n` leaves at an index of the block it found at `Y`. -/
theorem outAt_apply (T : Tab m) (n : Nat) (hn : n < 79) (Y : Vec F S512x3072 .bf16) (x : S512x3072.Idx) :
    outAt T n Y x = if n < T.cnt ∧ T.rowEx (T.tile n * 512 + (x 0).val) = T.ex n then valAt m (T.tile n) (T.ex n) x else Y x := by
  have hx : (x 0).val < 512 := (x 0).isLt
  have ht := T.tile_lt n hn
  have he := T.ex_lt n hn
  have hmine := T.mine (T.ex n) he (T.tile n * 512 + (x 0).val) (by omega)
  unfold outAt
  by_cases hl : n < T.cnt
  · rw [if_pos hl, pay3_apply (T.tile n) (T.ex n) _ _ ht (T.st_le _ he) (T.en_le _ he)]
    by_cases h : T.rowEx (T.tile n * 512 + (x 0).val) = T.ex n
    · rw [if_pos (hmine.mpr h), if_pos ⟨hl, h⟩]
    · rw [if_neg (fun h' => h (hmine.mp h')), if_neg (fun h' => h h'.2)]
  · rw [if_neg hl, if_neg (fun h => hl h.1)]

theorem tile_le (T : Tab m) {a b : Nat} (h : a ≤ b) (hb : b < 79) : T.tile a ≤ T.tile b := by
  induction h with
  | refl => exact le_rfl
  | step h ih => exact le_trans (ih (by omega)) (T.tile_mono _ hb)

/-- The output's block is written back where the next point's tile differs, and at the last point. -/
theorem flush3 (T : Tab m) (t : Fin (cfgM m (okM T)).N) :
    ((cfgM m (okM T)).win 3).flush t = true ↔ t.val + 1 = 79 ∨ T.tile (t.val + 1) ≠ T.tile t.val := by
  have hN : (cfgM m (okM T)).N = 79 := N_0
  rw [Pipeline.Window.flush_eq_flushOf]
  unfold Pipeline.Window.flushOf
  rw [Bool.and_eq_true_iff, Bool.or_eq_true, decide_eq_true_iff, decide_eq_true_iff]
  constructor
  · rintro ⟨-, h | ⟨h, h'⟩⟩
    · exact .inl (h.trans hN)
    · refine .inr fun e => h' ?_
      show ixs3 T ⟨t.val + 1, h⟩ = ixs3 T t
      rw [index3, index3]; simp only [e]
  · intro h
    refine ⟨rfl, ?_⟩
    by_cases h1 : t.val + 1 = 79
    · exact .inl (h1.trans hN.symm)
    · have hlt : t.val + 1 < (cfgM m (okM T)).N := by have := t.isLt; omega
      refine .inr ⟨hlt, fun e => (h.resolve_left h1) ?_⟩
      have e' : ixs3 T ⟨t.val + 1, hlt⟩ = ixs3 T t := e
      rw [index3, index3] at e'
      exact congrFun e' 0

/-- Once a live point has stored a group's rows of a tile, they stay until the tile's block is written back. -/
theorem leaves3 (T : Tab m) : ∀ (u : Nat) (hu : u < (cfgM m (okM T)).N) (X : Vec F S512x3072 .bf16), (rdat T 0).Leaves 3 ⟨u, hu⟩ X →
    ∀ n, n ≤ u → n < T.cnt → T.tile n = T.tile u → ∀ x : S512x3072.Idx, T.rowEx (T.tile u * 512 + (x 0).val) = T.ex n → X x = valAt m (T.tile u) (T.ex n) x := by
  intro u
  have hN : (cfgM m (okM T)).N = 79 := N_0
  induction u with
  | zero =>
    rintro hu X ⟨Y, hY, hX⟩ n hn hl htile x hrow
    obtain rfl : n = 0 := by omega
    have hXx : X x = _ := (congrFun hX x).trans (outAt_apply T 0 (by omega) Y x)
    exact hXx.trans (if_pos ⟨hl, hrow⟩)
  | succ u ih =>
    rintro hu X ⟨Y, hY, hX⟩ n hn hl htile x hrow
    have hXx : X x = _ := (congrFun hX x).trans (outAt_apply T (u + 1) (by omega) Y x)
    by_cases hm : u + 1 < T.cnt ∧ T.rowEx (T.tile (u + 1) * 512 + (x 0).val) = T.ex (u + 1)
    · rw [hXx.trans (if_pos hm), ← hrow, hm.2]
    · refine (hXx.trans (if_neg hm)).trans ?_
      have hnu : n ≤ u := by
        rcases Nat.lt_or_ge u n with h | h
        · obtain rfl : n = u + 1 := by omega
          exact absurd ⟨hl, hrow⟩ hm
        · exact h
      have h1 := tile_le T hnu (by omega)
      have h2 := tile_le T (Nat.le_succ u) (by omega : u + 1 < 79)
      have h3 : T.tile (u + 1) = T.tile u := le_antisymm (by omega) h2
      have hf : ((cfgM m (okM T)).win 3).fetch ⟨u + 1, hu⟩ = false := Pipeline.Window.fetch_out _ rfl _
      rcases ((rdat T 0).finds_of_pos (w := 3) hf (Nat.succ_ne_zero u) Y).mp hY with h | h
      · rcases (flush3 T _).mp h with h | h
        · exact absurd h (by show ¬ (u + 1 - 1 + 1 = 79); omega)
        · exact absurd h3 h
      · rw [h3]
        rw [h3] at hrow htile
        exact ih (Nat.lt_of_succ_lt hu) Y h n hnu hl htile x hrow

/-- The array of products: each row with its group's weights. -/
def prodAt (T : Tab m) : S32768x3072.Idx → F .bf16 := fun i =>
  valAt m ((i 0).val / 512) (T.rowEx (i 0).val) fun | 0 => ⟨(i 0).val % 512, Nat.mod_lt _ (by decide)⟩ | 1 => ⟨(i 1).val, (i 1).isLt⟩

/-- The last point of a tile. -/
theorem last_point (T : Tab m) (n : Nat) (hn : n < 79) : ∃ u, n ≤ u ∧ u < 79 ∧ T.tile u = T.tile n ∧ (u + 1 = 79 ∨ T.tile (u + 1) ≠ T.tile u) := by
  obtain ⟨k, hk⟩ : ∃ k, n + k = 78 := ⟨78 - n, by omega⟩
  induction k generalizing n with
  | zero => exact ⟨n, le_rfl, hn, rfl, .inl (by omega)⟩
  | succ k ih =>
    by_cases h : T.tile (n + 1) = T.tile n
    · obtain ⟨u, h1, h2, h3, h4⟩ := ih (n + 1) (by omega) (by omega)
      exact ⟨u, by omega, h2, h3.trans h, h4⟩
    · exact ⟨n, le_rfl, hn, rfl, .inr h⟩

theorem valAt_congr (t t' e e' : Nat) (x x' : S512x3072.Idx) (ht : t = t') (he : e = e') (h0 : (x 0).val = (x' 0).val) (h1 : (x 1).val = (x' 1).val) :
    valAt m t e x = valAt m t' e' x' := by
  subst ht he
  congr 1
  funext a
  match a with
  | 0 => exact Fin.ext h0
  | 1 => exact Fin.ext h1

/-- Where an index of a point's block lies in the array. -/
def emb3 (T : Tab m) (t : Fin (cfgM m (okM T)).N) : S512x3072.Idx → S32768x3072.Idx := fun y => (((cfgM m (okM T)).win 3).blk t).view.emb y

theorem emb3_0 (T : Tab m) (t : Fin (cfgM m (okM T)).N) (y : S512x3072.Idx) : (emb3 T t y 0).val = T.tile t.val * 512 + (y 0).val := by
  have h0 : ixs3 T t 0 = T.tile t.val := congrFun (index3 T t) 0
  refine Eq.trans (b := ixs3 T t 0 * 512 + 1 * (y 0).val) rfl ?_
  rw [h0]; omega

theorem emb3_1 (T : Tab m) (t : Fin (cfgM m (okM T)).N) (y : S512x3072.Idx) : (emb3 T t y 1).val = (y 1).val := by
  have h1 : ixs3 T t 1 = 0 := congrFun (index3 T t) 1
  refine Eq.trans (b := ixs3 T t 1 * 3072 + 1 * (y 1).val) rfl ?_
  rw [h1]; omega

/-- A block that is written back holds its rows' products. -/
theorem flushed3 (T : Tab m) (t : Fin (cfgM m (okM T)).N) (ht : ((cfgM m (okM T)).win 3).flush t = true) (X : Vec F S512x3072 .bf16)
    (hX : (rdat T 0).Leaves 3 t X) (x : S512x3072.Idx) (i : S32768x3072.Idx) (h0 : (i 0).val = T.tile t.val * 512 + (x 0).val) (h1 : (i 1).val = (x 1).val) :
    X x = prodAt T i := by
  have hx : (x 0).val < 512 := (x 0).isLt
  have hi : (i 0).val < 32768 := (i 0).isLt
  have hN : (cfgM m (okM T)).N = 79 := N_0
  have htn := t.isLt
  obtain ⟨n, hl, htile, hex⟩ := T.cover (i 0).val hi
  have hcnt := T.cnt_le
  have hd : (i 0).val / 512 = T.tile t.val := by omega
  have hnt : n ≤ t.val := by
    by_contra hc
    rcases (flush3 T t).mp ht with h | h
    · omega
    · have a1 := tile_le T (by omega : t.val + 1 ≤ n) (by omega)
      have a2 := tile_le T (by omega : t.val ≤ t.val + 1) (by omega)
      omega
  have hr : T.rowEx (T.tile t.val * 512 + (x 0).val) = T.ex n := by rw [← h0, hex]
  refine (leaves3 T t.val t.isLt X hX n hnt hl (htile.trans hd) x hr).trans ?_
  exact valAt_congr _ _ _ _ _ _ hd.symm hex (by show _ = (i 0).val % 512; omega) h1.symm

/-- Every index of the array is in a block that is written back. -/
theorem cover3 (T : Tab m) (i : S32768x3072.Idx) :
    ∃ t : Fin (cfgM m (okM T)).N, ((cfgM m (okM T)).win 3).flush t = true ∧ ((cfgM m (okM T)).win 3).arr.view.emb i ∈ (((cfgM m (okM T)).win 3).blk t).view.set := by
  have hN : (cfgM m (okM T)).N = 79 := N_0
  have hi : (i 0).val < 32768 := (i 0).isLt
  have hi1 : (i 1).val < 3072 := (i 1).isLt
  obtain ⟨n, hl, htile, hex⟩ := T.cover (i 0).val hi
  have hcnt := T.cnt_le
  obtain ⟨u, h1, h2, h3, h4⟩ := last_point T n (by omega)
  have hu : u < (cfgM m (okM T)).N := by omega
  refine ⟨⟨u, hu⟩, (flush3 T _).mpr h4, ?_⟩
  refine (Pipeline.Window.emb_mem_blk_iff ((cfgM m (okM T)).win 3) ⟨u, hu⟩ i rfl).mpr ?_
  have hix := index3 T ⟨u, hu⟩
  have e0 : ixs3 T ⟨u, hu⟩ 0 = T.tile u := congrFun hix 0
  have e1 : ixs3 T ⟨u, hu⟩ 1 = 0 := congrFun hix 1
  intro (a : Fin 2)
  match a with
  | 0 =>
    show ixs3 T ⟨u, hu⟩ 0 * 512 ≤ (i 0).val ∧ (i 0).val < ixs3 T ⟨u, hu⟩ 0 * 512 + 512
    rw [e0]; omega
  | 1 =>
    show ixs3 T ⟨u, hu⟩ 1 * 3072 ≤ (i 1).val ∧ (i 1).val < ixs3 T ⟨u, hu⟩ 1 * 3072 + 3072
    rw [e1]; omega

set_option backward.isDefEq.respectTransparency.types false in
set_option maxHeartbeats 800000 in
/-- THE OUTPUT ARRAY: each row's products with its group's weights. -/
theorem out_eq (T : Tab m) (r : PUnit × MemSt nD τ sig (Elt F)) (h : RDat.FramePost (cfgM m (okM T)) (rdat T) (V m) r) (c : Dev nD) :
    r.2.mem ((c.tc : Thread nD τ).loc main_v43) = prodAt T := by
  obtain rfl : c = 0 := Subsingleton.elim _ _
  haveI : ∀ e, Nonempty (Elt F e) := fun e => inferInstance
  obtain ⟨after, hL, hA⟩ := Pipeline.RDat.FramePost.exists_exact h 0
  refine (hA 3).trans ?_
  refine Pipeline.Dat.arrAt_eq_of_emb ((rdat T 0).withAfter after) 3 (prodAt T) (fun t ht y => ?_) (fun i => cover3 T i)
  exact flushed3 T t ht (after 3 t) (hL 3 t ht) y (emb3 T t y) (emb3_0 T t y) (emb3_1 T t y)

end Cert.KernelIdeal.Run

end
-- ==== Proof.RefHost.lean ====
/- Each row's group as the reference finds it: the number of running sums at most the row, clipped to the last group. -/
module

public import proofs.«01_k».proof.Proof.Gen.ReferenceIdeal.Value
public import proofs.«01_k».proof.Proof.Cond
public import proofs.«01_k».proof.Proof.Tiles
public import Idealize.ShloMosaic.Lib.StableHlo.RunRead
public import Idealize.ShloMosaic.Lib.Routing.OpsSet

@[expose] public section

set_option maxRecDepth 16384

noncomputable section

namespace Cert.ReferenceIdeal.Val

open Idealize.ShloMosaic Idealize.ShloMosaic.TcCoe Idealize.ShloMosaic.Tactic Idealize.ShloMosaic.Routing
open Idealize.SL.Sem
open Cert.ReferenceIdeal Cert.ReferenceIdeal.Gen Cert.Tiles

variable {F : FTy → Type} [FloatOps F]

abbrev I16 := S16.Idx → BitVec 32
abbrev IRow := S32768.Idx → BitVec 32

/-- Running sums. -/
def cumOf (x : I16) : I16 := Host.reduceWindow IntOp.addi ![16] ![1] ![15] ![0] x (broadcastInDim S_ ![] bcast_S_S_ (constantI S_ 32 0#32)) reduceWindows_S16_S16_w16s1p15_0 h_S_
/-- How many of `c` are at most each of `p`. -/
def countOf (c : I16) (p : IRow) : IRow :=
  Host.reduce IntOp.addi (extui 32 (cmpi .sle (broadcastInDim S16x32768 ![0, 1] bcast_S16x1_S16x32768_0_1 (broadcastInDim S16x1 ![0] bcast_S16_S16x1_0 c))
    (broadcastInDim S16x32768 ![0, 1] bcast_S1x32768_S16x32768_0_1 (broadcastInDim S1x32768 ![1] bcast_S32768_S1x32768_1 p))) natLt_1_32)
    (constantI S_ 32 0#32) reducesTo_S16x32768_S32768_d0 h_S_
/-- Clipped to 0 … 15. -/
def clipOf (x : IRow) : IRow :=
  minsi (broadcastInDim S32768 ![] bcast_S_S32768 (constantI S_ 32 15#32)) (maxsi (broadcastInDim S32768 ![] bcast_S_S32768 (constantI S_ 32 0#32)) x)
/-- The rows' groups, as a column. -/
def colOf (g : I16) : S32768x1.Idx → BitVec 32 := broadcastInDim S32768x1 ![0] bcast_S32768_S32768x1_0 (clipOf (countOf (cumOf g) (iotaInDim S32768 32 0)))

section
variable (M : Valuation τ sig (Elt F))

theorem seg0 : (StableHlo.after hostOps0 M (Proc.devRef .tc main_v0) : I16) = cumOf (M (Proc.devRef .tc main_arg1) : I16) := by
  after_reads_simp; simp -implicitDefEqProofs only [StableHlo.TRef.toBuf, StableHlo.TRef.ofBuf, cast_cast, cast_eq]; unfold cumOf; with_reducible rfl
theorem seg1 : (StableHlo.after hostOps0_1 M (Proc.devRef .tc main_v1) : IRow) = iotaInDim S32768 32 0 := by
  after_reads_simp
theorem seg2 : (StableHlo.after hostOps0_2 M (Proc.devRef .tc main_v2) : IRow) = countOf (M (Proc.devRef .tc main_v0) : I16) (M (Proc.devRef .tc main_v1) : IRow) := by
  after_reads_simp; simp -implicitDefEqProofs only [StableHlo.TRef.toBuf, StableHlo.TRef.ofBuf, cast_cast, cast_eq]; unfold countOf; with_reducible rfl
theorem seg3a : (StableHlo.after hostOps0_3 M (Proc.devRef .tc main_c) : S_.Idx → BitVec 32) = constantI S_ 32 0#32 := by
  after_reads_simp
theorem seg3b : (StableHlo.after hostOps0_3 M (Proc.devRef .tc main_c_0) : S_.Idx → BitVec 32) = constantI S_ 32 15#32 := by
  after_reads_simp
theorem seg4 (h : (M (Proc.devRef .tc main_c) : S_.Idx → BitVec 32) = constantI S_ 32 0#32) (h' : (M (Proc.devRef .tc main_c_0) : S_.Idx → BitVec 32) = constantI S_ 32 15#32) :
    (StableHlo.after hostOps0_4 M (Proc.devRef .tc main_v3) : IRow) = clipOf (M (Proc.devRef .tc main_v2) : IRow) := by
  after_reads_simp; simp -implicitDefEqProofs only [StableHlo.TRef.toBuf, StableHlo.TRef.ofBuf, cast_cast, cast_eq]; unfold clipOf; simp only [id, h, h']
theorem seg5 : (StableHlo.after hostOps0_5 M (Proc.devRef .tc main_v4) : S32768x1.Idx → BitVec 32) = broadcastInDim S32768x1 ![0] bcast_S32768_S32768x1_0 (M (Proc.devRef .tc main_v3) : IRow) := by
  after_reads_simp
theorem keep1_v0 : StableHlo.after hostOps0_1 M (Proc.devRef .tc main_v0) = M (Proc.devRef .tc main_v0) := by after_reads_simp
theorem keep3_v2 : StableHlo.after hostOps0_3 M (Proc.devRef .tc main_v2) = M (Proc.devRef .tc main_v2) := by after_reads_simp

theorem after_append (l₁ l₂ : List (HloOp τ sig (Elt F))) : StableHlo.after (l₁ ++ l₂) M = StableHlo.after l₂ (StableHlo.after l₁ M) := by
  induction l₁ generalizing M with
  | nil => rfl
  | cons o l₁ ih => exact ih _

/-- The six lines of host operations leave the column in their last buffer. -/
theorem col_after : (StableHlo.after (List.flatten [hostOps0, hostOps0_1, hostOps0_2, hostOps0_3, hostOps0_4, hostOps0_5]) M (Proc.devRef .tc main_v4) : S32768x1.Idx → BitVec 32)
    = colOf (M (Proc.devRef .tc main_arg1) : I16) := by
  rw [List.flatten_cons, List.flatten_cons, List.flatten_cons, List.flatten_cons, List.flatten_cons, List.flatten_cons, List.flatten_nil, List.append_nil,
    after_append, after_append, after_append, after_append, after_append]
  rw [seg5, seg4 _ (seg3a _) (seg3b _), keep3_v2, seg2, seg1, keep1_v0, seg0]
  rfl
end

variable (m : (ℓ : Loc nD τ sig) → Buf (Elt F) ℓ)

/-- The group sizes at launch. -/
def gs : I16 := m ((0 : Dev nD), main_arg1)

theorem V_col : (V m 0 main_v4 : S32768x1.Idx → BitVec 32) = colOf (gs m) := col_after _

theorem countOf_eq {c : I16} {f : Nat → Nat} (hc : ∀ e : Fin 16, c (ValueIdx.ix1 e) = BitVec.ofNat 32 (f e.val)) (hf : ∀ e, e < 16 → f e < 2 ^ 31)
    (p : IRow) (k : Fin 32768) (x : Nat) (hx : x < 2 ^ 31) (hp : p (ValueIdx.ix1 k) = BitVec.ofNat 32 x) :
    countOf c p (ValueIdx.ix1 k) = BitVec.ofNat 32 (Nat.count (fun e => f e ≤ x) 16) := by
  unfold countOf
  apply BitVec.eq_of_toNat_eq
  rw [StableHlo.Predicate.toNat_reduce_count_rows (n := 16) (m := 32768) (by decide) _ natLt_1_32 reducesTo_S16x32768_S32768_d0 h_S_ (ValueIdx.ix1 k), BitVec.toNat_ofNat,
    Nat.mod_eq_of_lt (Nat.lt_of_le_of_lt (Nat.count_le _) (by decide)), ← card_filter_fin 16 fun e => f e ≤ x]
  refine congrArg Finset.card (Finset.filter_congr fun q _ => ?_)
  rw [ij_eq_ix2]
  have e1 := bcRows (n := 16) (m := 32768) bcast_S16_S16x1_0 bcast_S16x1_S16x32768_0_1 c q k
  have e2 := bcCols (n := 16) (m := 32768) bcast_S32768_S1x32768_1 bcast_S1x32768_S16x32768_0_1 p q k
  unfold cmpi
  show IntOp.cmpi .sle (broadcastInDim _ _ _ _ (ValueIdx.ix2 q k)) (broadcastInDim _ _ _ _ (ValueIdx.ix2 q k)) = 1#1 ↔ _
  rw [e1, e2, hp, hc]
  exact StableHlo.Predicate.sle_ofNat_iff _ _ (hf q.val q.isLt) hx

theorem clipOf_apply (x : IRow) (i : S32768.Idx) : clipOf x i = IntOp.minsi (BitVec.ofNat 32 15) (IntOp.maxsi (BitVec.ofNat 32 0) (x i)) := rfl

/-- A row's group is the number of running sums at most the row. -/
theorem col_eq (g : I16) (h : cum (nat16 g) 15 = 32768) (k : Fin 32768) : colOf g (ValueIdx.ix2 k (0 : Fin 1)) = BitVec.ofNat 32 (below (nat16 g) k.val) := by
  have hk := k.isLt
  have hb := (below_spec (nat16 g) k.val (by omega)).1
  have hc : ∀ e : Fin 16, cumOf g (ValueIdx.ix1 e) = BitVec.ofNat 32 (cum (nat16 g) e.val) := fun e =>
    cumsum1 (N := 16) (Nm1 := 15) rfl g (nat16 g) (fun e => by unfold nat16; rw [dif_pos e.isLt]; simp) _ rfl _ _ e
  have hf : ∀ e, e < 16 → cum (nat16 g) e < 2 ^ 31 := fun e he => by have := cum_le_all h e he; omega
  have hn : countOf (cumOf g) (iotaInDim S32768 32 0) (ValueIdx.ix1 k) = BitVec.ofNat 32 (below (nat16 g) k.val) :=
    countOf_eq hc hf (iotaInDim S32768 32 0) k k.val (by omega) rfl
  generalize below (nat16 g) k.val = b at hb hn
  refine (bcCol (n := 32768) bcast_S32768_S32768x1_0 _ k).trans ?_
  rw [clipOf_apply, hn]
  unfold IntOp.maxsi
  rw [slt_ofNat32 (by omega) (by omega), decide_eq_false (by omega), if_neg (by decide)]
  unfold IntOp.minsi
  rw [slt_ofNat32 (by omega) (by omega)]
  rw [decide_eq_false (by omega), if_neg (by decide)]

end Cert.ReferenceIdeal.Val

end
-- ==== Proof.RefValue.lean ====
/- What the reference's output array holds: at a row of group `e`, the row's products with group `e`'s weights. -/
module

public import proofs.«01_k».proof.Proof.RefHost
public import Idealize.ShloMosaic.Lib.Pointwise
public import Idealize.ShloMosaic.Lib.Pipeline.ValueKit.Geometry

@[expose] public section

set_option maxRecDepth 16384

noncomputable section

namespace Cert.ReferenceIdeal.Val

open Idealize.ShloMosaic Idealize.ShloMosaic.TcCoe Idealize.ShloMosaic.Tactic
open Idealize.SL.Sem
open Cert.ReferenceIdeal Cert.ReferenceIdeal.Gen

variable {F : FTy → Type} [FloatOps F]

/-- Group `n`'s weights and weight scales. -/
def wRow (x2 : Vec F S16x3072x2816 .fp8e4m3) (n : Nat) : Vec F S1x3072x2816 .fp8e4m3 := fun x =>
  x2 fun | 0 => ⟨n % 16, Nat.mod_lt _ (by decide)⟩ | 1 => ⟨(x 1).val, (x 1).isLt⟩ | 2 => ⟨(x 2).val, (x 2).isLt⟩
def wsRow (x3 : Vec F S16x3072 .f32) (n : Nat) : Vec F S1x3072 .f32 := fun x =>
  x3 fun | 0 => ⟨n % 16, Nat.mod_lt _ (by decide)⟩ | 1 => ⟨(x 1).val, (x 1).isLt⟩

theorem ld_w (x2 : Vec F S16x3072x2816 .fp8e4m3) (n : Nat) (h : ∀ a, (![n, 0, 0] : Fin 3 → Nat) a + S1x3072x2816.size a ≤ S16x3072x2816.size a) :
    View.ld x2 (Rect.unit (s := S16x3072x2816) ![n, 0, 0] S1x3072x2816.size h) = wRow x2 n := by
  funext (x : S1x3072x2816.Idx)
  have h0 : n + 1 ≤ 16 := h 0
  have hx : (x 0).val < 1 := (x 0).isLt
  refine congrArg x2 (funext fun a : Fin 3 => Fin.ext ?_)
  match a with
  | 0 => show n + 1 * (x 0).val = n % 16; omega
  | 1 => show 0 + 1 * (x 1).val = (x 1).val; omega
  | 2 => show 0 + 1 * (x 2).val = (x 2).val; omega

theorem ld_ws (x3 : Vec F S16x3072 .f32) (n : Nat) (h : ∀ a, (![n, 0] : Fin 2 → Nat) a + S1x3072.size a ≤ S16x3072.size a) :
    View.ld x3 (Rect.unit (s := S16x3072) ![n, 0] S1x3072.size h) = wsRow x3 n := by
  funext (x : S1x3072.Idx)
  have h0 : n + 1 ≤ 16 := h 0
  have hx : (x 0).val < 1 := (x 0).isLt
  refine congrArg x3 (funext fun a : Fin 2 => Fin.ext ?_)
  match a with
  | 0 => show n + 1 * (x 0).val = n % 16; omega
  | 1 => show 0 + 1 * (x 1).val = (x 1).val; omega

/-- The rows' products with group `n`'s weights, scaled. -/
def prod (codes : FVec F S32768x2816 .fp8e5m2) (scale : FVec F S32768x1 .f32) (w : Vec F S1x3072x2816 .fp8e4m3) (ws : Vec F S1x3072 .f32) : FVec F S32768x3072 .bf16 :=
  truncf .bf16 (mulf (mulf (matmul dot_S32768x2816_S3072x2816_S32768x3072_1_1_0_0_n_n none codes
    (shapeCast S3072x2816 w shapeCasts_S1x3072x2816_S3072x2816) (constant S32768x3072 .f32 0x00000000#32))
    (broadcastTo S32768x3072 scale broadcasts_S32768x1_S32768x3072))
    (broadcastTo S32768x3072 (shapeCast S1x3072 (shapeCast S3072 ws shapeCasts_S1x3072_S3072) shapeCasts_S3072_S1x3072) broadcasts_S1x3072_S32768x3072)) bitsLt_bf16_f32

/-- One group's turn: its products where the row is the group's. -/
def step (col : Vec F S32768x1 .i32) (n : BitVec 32) (val out : FVec F S32768x3072 .bf16) : FVec F S32768x3072 .bf16 :=
  select (broadcastTo S32768x3072 (shapeCast S32768x1 (cmpi .eq (shapeCast S32768x1 col shapeCasts_S32768x1_S32768x1) (broadcast S32768x1 n)) shapeCasts_S32768x1_S32768x1)
    broadcasts_S32768x1_S32768x3072) val out

/-- The output after the first `n` groups' turns. -/
def acc (x0 : Vec F S32768x2816 .bf16) (x1 : Vec F S32768x1 .i32) (x2 : Vec F S16x3072x2816 .fp8e4m3) (x3 : Vec F S16x3072 .f32) : Nat → FVec F S32768x3072 .bf16
  | 0 => k0_pay6
  | n + 1 => step x1 (BitVec.ofNat 32 n) (prod (k0_pay5 x0) (k0_pay4 x0) (wRow x2 n) (wsRow x3 n)) (acc x0 x1 x2 x3 n)

theorem step_apply (col : Vec F S32768x1 .i32) (n e : Nat) (hn : n < 16) (he : e < 16) (val out : FVec F S32768x3072 .bf16) (x : S32768x3072.Idx)
    (hc : (col : S32768x1.Idx → BitVec 32) (ValueIdx.ix2 (⟨(x 0).val, (x 0).isLt⟩ : Fin 32768) (0 : Fin 1)) = BitVec.ofNat 32 e) :
    step col (BitVec.ofNat 32 n) val out x = if e = n then val x else out x := by
  unfold step
  have hm : broadcastTo S32768x3072 (shapeCast S32768x1 (cmpi .eq (shapeCast S32768x1 (col : S32768x1.Idx → BitVec 32) shapeCasts_S32768x1_S32768x1) (broadcast S32768x1 (BitVec.ofNat 32 n))) shapeCasts_S32768x1_S32768x1)
    broadcasts_S32768x1_S32768x3072 x = BitVec.ofBool (decide (e = n)) := by
    rw [shapeCast_self, shapeCast_self]
    rw [broadcastTo_apply _ _ x (ValueIdx.ix2 (⟨(x 0).val, (x 0).isLt⟩ : Fin 32768) (0 : Fin 1)) (fun a => match a with | ⟨0, _⟩ => rfl | ⟨1, _⟩ => rfl)]
    show IntOp.cmpi .eq _ (BitVec.ofNat 32 n) = _
    rw [hc]
    show BitVec.ofBool (BitVec.ofNat 32 e == BitVec.ofNat 32 n) = _
    congr 1
    rw [Bool.eq_iff_iff, beq_iff_eq, decide_eq_true_iff]
    constructor
    · intro h
      have := congrArg BitVec.toNat h
      simp only [BitVec.toNat_ofNat] at this
      omega
    · rintro rfl; rfl
  show Scalar.select (broadcastTo S32768x3072 _ broadcasts_S32768x1_S32768x3072 x) _ _ = _
  rw [hm]
  by_cases h : e = n
  · rw [if_pos h, decide_eq_true h]; rfl
  · rw [if_neg h, decide_eq_false h]; rfl

theorem acc_apply (x0 : Vec F S32768x2816 .bf16) (x1 : Vec F S32768x1 .i32) (x2 : Vec F S16x3072x2816 .fp8e4m3) (x3 : Vec F S16x3072 .f32) (x : S32768x3072.Idx) (e : Nat) (he : e < 16)
    (hc : (x1 : S32768x1.Idx → BitVec 32) (ValueIdx.ix2 (⟨(x 0).val, (x 0).isLt⟩ : Fin 32768) (0 : Fin 1)) = BitVec.ofNat 32 e) :
    ∀ n, n ≤ 16 → e < n → acc x0 x1 x2 x3 n x = prod (k0_pay5 x0) (k0_pay4 x0) (wRow x2 e) (wsRow x3 e) x
  | 0, _, h => absurd h (Nat.not_lt_zero _)
  | n + 1, hn, h => by
    refine (step_apply x1 n e (by omega) he _ _ x hc).trans ?_
    by_cases hen : e = n
    · rw [if_pos hen, hen]
    · rw [if_neg hen]
      exact acc_apply x0 x1 x2 x3 x e he hc n (by omega) (by omega)

theorem zero2 : (![0, 0] : Fin 2 → Nat) = fun _ => 0 := funext fun a => match a with | 0 => rfl | 1 => rfl

/-- The body's stored value is the sixteen turns, one after another. -/
theorem out_acc (x0 : Vec F S32768x2816 .bf16) (x1 : Vec F S32768x1 .i32) (x2 : Vec F S16x3072x2816 .fp8e4m3) (x3 : Vec F S16x3072 .f32) :
    out0_4 x0 x1 x2 x3 = acc x0 x1 x2 x3 16 := by
  unfold out0_4 k0_pay24 k0_pay25
  refine (View.canon_unit_zero zero2 inb_S32768x3072_S32768x3072_0_0 _).trans ?_
  have h0 : View.ld x0 r0_0 = x0 := View.ld_unit_zero zero2 _ x0
  have h1 : View.ld x1 r0_3 = x1 := View.ld_unit_zero zero2 _ x1
  simp only [h0, h1, ld_w, ld_ws]
  rfl

variable (m : (ℓ : Loc nD τ sig) → Buf (Elt F) ℓ)

/-- Each window's one block is its array. -/
theorem iblk_eq0 : (iblk m 0 0 (0 : Fin 1) : S32768x2816.Idx → F .bf16) = m ((0 : Dev nD), main_arg0) := by
  refine Eq.trans ?_ (V_main_arg0 m 0)
  funext (x : S32768x2816.Idx)
  refine congrArg (V m 0 main_arg0 : S32768x2816.Idx → F .bf16) (funext fun a : Fin 2 => Fin.ext ?_)
  match a with
  | 0 => show 0 * 32768 + 1 * (x 0).val = (x 0).val; omega
  | 1 => show 0 * 2816 + 1 * (x 1).val = (x 1).val; omega
theorem iblk_eq1 : (iblk m 0 1 (0 : Fin 1) : S32768x1.Idx → BitVec 32) = colOf (gs m) := by
  refine Eq.trans ?_ (V_col m)
  funext (x : S32768x1.Idx)
  refine congrArg (V m 0 main_v4 : S32768x1.Idx → BitVec 32) (funext fun a : Fin 2 => Fin.ext ?_)
  match a with
  | 0 => show 0 * 32768 + 1 * (x 0).val = (x 0).val; omega
  | 1 => show 0 * 1 + 1 * (x 1).val = (x 1).val; omega
theorem iblk_eq2 : (iblk m 0 2 (0 : Fin 1) : S16x3072x2816.Idx → F .fp8e4m3) = m ((0 : Dev nD), main_arg2) := by
  refine Eq.trans ?_ (V_main_arg2 m 0)
  funext (x : S16x3072x2816.Idx)
  refine congrArg (V m 0 main_arg2 : S16x3072x2816.Idx → F .fp8e4m3) (funext fun a : Fin 3 => Fin.ext ?_)
  match a with
  | 0 => show 0 * 16 + 1 * (x 0).val = (x 0).val; omega
  | 1 => show 0 * 3072 + 1 * (x 1).val = (x 1).val; omega
  | 2 => show 0 * 2816 + 1 * (x 2).val = (x 2).val; omega
theorem iblk_eq3 : (iblk m 0 3 (0 : Fin 1) : S16x3072.Idx → F .f32) = m ((0 : Dev nD), main_arg3) := by
  refine Eq.trans ?_ (V_main_arg3 m 0)
  funext (x : S16x3072.Idx)
  refine congrArg (V m 0 main_arg3 : S16x3072.Idx → F .f32) (funext fun a : Fin 2 => Fin.ext ?_)
  match a with
  | 0 => show 0 * 16 + 1 * (x 0).val = (x 0).val; omega
  | 1 => show 0 * 3072 + 1 * (x 1).val = (x 1).val; omega

theorem whole4 : (cfg0.win 4).WholeAt (⟨0, by decide⟩ : Fin cfg0.N) := by decide +kernel

/-- THE OUTPUT ARRAY: the sixteen turns over the launched arguments. -/
theorem arr_eq : (dats m 0 0).arrAt 4 cfg0.N
    = acc (m ((0 : Dev nD), main_arg0) : S32768x2816.Idx → F .bf16) (colOf (gs m)) (m ((0 : Dev nD), main_arg2) : S16x3072x2816.Idx → F .fp8e4m3)
      (m ((0 : Dev nD), main_arg3) : S16x3072.Idx → F .f32) 16 := by
  refine Pipeline.Dat.arrAt_eq_of_after_last (dats m 0 0) 4 (0 : Fin 1) whole4 _ fun j => ?_
  have h : (dats m 0 0).after 4 (0 : Fin 1) = acc (m ((0 : Dev nD), main_arg0) : S32768x2816.Idx → F .bf16) (colOf (gs m)) (m ((0 : Dev nD), main_arg2) : S16x3072x2816.Idx → F .fp8e4m3)
      (m ((0 : Dev nD), main_arg3) : S16x3072.Idx → F .f32) 16 := by
    refine (after0_4 m 0 (0 : Fin 1)).trans ?_
    refine (out_acc _ _ _ _).trans ?_
    have e0 := iblk_eq0 m
    have e1 := iblk_eq1 m
    have e2 := iblk_eq2 m
    have e3 := iblk_eq3 m
    exact congr (congr (congr (congr (congrArg acc e0) e1) e2) e3) rfl
  exact congrFun h j

end Cert.ReferenceIdeal.Val

end
-- ==== Proof.RefRow.lean ====
/- The reference's codes, scales and products at an index, over the extended reals. -/
module

public import proofs.«01_k».proof.Proof.RefValue
public import proofs.«01_k».proof.Proof.Scale

@[expose] public section

set_option maxRecDepth 16384

noncomputable section

namespace Cert.ReferenceIdeal.Row

open Idealize.ShloMosaic Idealize.ShloMosaic.TcCoe
open Cert.ReferenceIdeal Cert.ReferenceIdeal.Gen Cert.ReferenceIdeal.Val
open scoped BigOperators

/-- The rows' greatest magnitudes. -/
def maxima (x0 : Vec Ideal S32768x2816 .bf16) : FVec Ideal S32768x1 .f32 :=
  shapeCast S32768x1 (multiReduction .maximumf [1] S32768 (absf (k0_pay2 x0)) 0xFF800000#32 reduces_S32768x2816_S32768 (.inl rfl) rfl) shapeCasts_S32768_S32768x1

theorem maxima_apply (x0 : Vec Ideal S32768x2816 .bf16) (r : Fin 32768) : maxima x0 (ix2 r (0 : Fin 1)) = Scale.rowMax (fun k => x0 (ix2 r k)) := by
  unfold maxima
  exact Scale.rowMax_apply (k0_pay2 x0) _ _ _ _ r

/-- The terms of the reference's count. -/
def terms (v : FVec Ideal S32768x1 .f32) : FVec Ideal S32768x254 .f32 :=
  sitofp .f32 (extui 32 (cmpf .ole (broadcastTo S32768x254 (exp2 (subf (sitofp .f32 (iota .tc S1x254 32 [1] iota_S1x254_d1_w32)) (broadcast S1x254 (Scalar.ofBits .f32 0x42FC0000#32)))) broadcasts_S1x254_S32768x254)
    (broadcastTo S32768x254 v broadcasts_S32768x1_S32768x254)) natLt_1_32)

theorem terms_apply (v : FVec Ideal S32768x1 .f32) (r : Fin 32768) (i : Fin 254) : terms v (ix2 r i) = Scale.oneIf (v (ix2 r (0 : Fin 1))) i := by
  have h1 : broadcastTo S32768x254 (exp2 (subf (sitofp .f32 (iota .tc S1x254 32 [1] iota_S1x254_d1_w32)) (broadcast S1x254 (Scalar.ofBits (F := Ideal) .f32 0x42FC0000#32)))) broadcasts_S1x254_S32768x254 (ix2 r i)
      = FloatOps.exp2 (F := Ideal) (φ := .f32) (FloatOps.subf (F := Ideal) (φ := .f32) (FloatOps.sitofp (F := Ideal) .f32 (BitVec.ofNat 32 i.val)) (FloatOps.ofBits (F := Ideal) .f32 0x42FC0000#32)) := by
    rw [broadcastTo_apply _ _ (ix2 r i) (ix2 (0 : Fin 1) i) (fun a => match a with | ⟨0, _⟩ => rfl | ⟨1, _⟩ => rfl)]
    have h2 : iota .tc S1x254 32 [1] iota_S1x254_d1_w32 (ix2 (0 : Fin 1) i) = BitVec.ofNat 32 i.val := by
      show BitVec.ofNat 32 (0 * 254 + i.val) = _
      rw [Nat.zero_mul, Nat.zero_add]
    show FloatOps.exp2 (F := Ideal) (φ := .f32) (FloatOps.subf (F := Ideal) (φ := .f32) (FloatOps.sitofp (F := Ideal) .f32 (iota .tc S1x254 32 [1] iota_S1x254_d1_w32 (ix2 (0 : Fin 1) i))) _) = _
    rw [h2]
    rfl
  have h3 : broadcastTo S32768x254 v broadcasts_S32768x1_S32768x254 (ix2 r i) = v (ix2 r (0 : Fin 1)) :=
    broadcastTo_apply _ _ (ix2 r i) (ix2 r (0 : Fin 1)) (fun a => match a with | ⟨0, _⟩ => rfl | ⟨1, _⟩ => rfl)
  unfold terms Scale.oneIf
  rw [← h1, ← h3]
  rfl

/-- The rows' counts. -/
def counts (v : FVec Ideal S32768x1 .f32) : FVec Ideal S32768x1 .f32 :=
  shapeCast S32768x1 (multiReduction .add [1] S32768 (terms v) 0x00000000#32 reduces_S32768x254_S32768 (.inl rfl) rfl) shapeCasts_S32768_S32768x1

theorem counts_apply (v : FVec Ideal S32768x1 .f32) (r : Fin 32768) : counts v (ix2 r (0 : Fin 1)) = ∑ i : Fin 254, Scale.oneIf (v (ix2 r (0 : Fin 1))) i := by
  unfold counts
  refine (Scale.rowSum_apply (terms v) _ _ _ _ r).trans ?_
  exact Finset.sum_congr rfl fun i _ => terms_apply v r i

/-- The exponents, from the maxima and the counts. -/
theorem exp_eq (x0 : Vec Ideal S32768x2816 .bf16) :
    k0_pay3 x0 = select (cmpf .oeq (maxima x0) (broadcast S32768x1 (Scalar.ofBits .f32 0x00000000#32))) (broadcast S32768x1 (Scalar.ofBits .f32 0x00000000#32))
      (subf (counts (mulf (maxima x0) (broadcast S32768x1 (Scalar.ofBits .f32 0x37924925#32)))) (broadcast S32768x1 (Scalar.ofBits .f32 0x42FC0000#32))) := by
  unfold k0_pay3 maxima counts terms
  rfl

/-- A row's exponent. -/
theorem exp_apply (x0 : Vec Ideal S32768x2816 .bf16) (r : Fin 32768) :
    k0_pay3 x0 (ix2 r (0 : Fin 1)) = Scale.expR (Scale.rowMax (fun k => x0 (ix2 r k))) (Scale.rowMax (fun k => x0 (ix2 r k)) * Ideal.ofBits .f32 0x37924925#32) := by
  refine (congrFun (exp_eq x0) (ix2 r (0 : Fin 1))).trans ((Scale.expR_apply _ _ _).trans ?_)
  have hb : mulf (maxima x0) (broadcast S32768x1 (Scalar.ofBits .f32 0x37924925#32)) (ix2 r (0 : Fin 1)) = Scale.rowMax (fun k => x0 (ix2 r k)) * Ideal.ofBits .f32 0x37924925#32 :=
    (Scale.mul_apply _ _ _).trans (congrArg (· * Ideal.ofBits .f32 0x37924925#32) (maxima_apply x0 r))
  have hc := counts_apply (mulf (maxima x0) (broadcast S32768x1 (Scalar.ofBits .f32 0x37924925#32))) r
  rw [hb] at hc
  rw [hc, maxima_apply]
  unfold Scale.expR
  exact rfl

/-- A row's scale. -/
theorem scale_apply (x0 : Vec Ideal S32768x2816 .bf16) (r : Fin 32768) : k0_pay4 x0 (ix2 r (0 : Fin 1)) = Ideal.exp2 (k0_pay3 x0 (ix2 r (0 : Fin 1))) := by
  unfold k0_pay4
  exact Scale.exp2_apply _ _

/-- A row's codes. -/
theorem codes_apply (x0 : Vec Ideal S32768x2816 .bf16) (r : Fin 32768) (k : Fin 2816) :
    k0_pay5 x0 (ix2 r k) = min (Ideal.ofBits .f32 0x47600000#32) (max (Ideal.ofBits .f32 0xC7600000#32) (x0 (ix2 r k)
      * Ideal.exp2 (Ideal.ofBits .f32 0x00000000#32 - k0_pay3 x0 (ix2 r (0 : Fin 1))))) := by
  unfold k0_pay5 k0_pay2
  generalize k0_pay3 x0 = e
  refine (Scale.clip_apply _ _ x0 _ _ _ _).trans ?_
  rw [broadcastTo_apply _ _ (ix2 r k) (ix2 r (0 : Fin 1)) (fun a => match a with | ⟨0, _⟩ => rfl | ⟨1, _⟩ => rfl), Scale.exp2_neg_apply]

/-- The products at an index: the row's codes against the weights, times both scales. -/
theorem prod_apply (c : FVec Ideal S32768x2816 .fp8e5m2) (s : FVec Ideal S32768x1 .f32) (w : Vec Ideal S1x3072x2816 .fp8e4m3) (ws : Vec Ideal S1x3072 .f32) (r : Fin 32768) (j : Fin 3072) :
    prod c s w ws (ix2 r j) = (∑ k : Fin 2816, c (ix2 r k) * w (ix3 (0 : Fin 1) j k)) * s (ix2 r (0 : Fin 1)) * ws (ix2 (0 : Fin 1) j) := by
  unfold prod
  rw [shapeCast_shapeCast]
  refine (Scale.mul3_apply _ _ _ _ _).trans ?_
  rw [broadcastTo_apply _ _ (ix2 r j) (ix2 r (0 : Fin 1)) (fun a => match a with | ⟨0, _⟩ => rfl | ⟨1, _⟩ => rfl),
    broadcastTo_apply _ _ (ix2 r j) (ix2 (0 : Fin 1) j) (fun a => match a with | ⟨0, _⟩ => rfl | ⟨1, _⟩ => rfl)]
  refine congrArg (fun y => y * s (ix2 r (0 : Fin 1)) * ws (ix2 (0 : Fin 1) j)) ?_
  simp only [pointwise]
  exact zero_add _

end Cert.ReferenceIdeal.Row

end
-- ==== Proof.Equation.lean ====
/- Kernel and reference compute the same array over the extended reals, when every float of the first operand is finite. -/
module

public import proofs.«01_k».proof.Proof.KernelIdealRow
public import proofs.«01_k».proof.Proof.KernelIdealValue
public import proofs.«01_k».proof.Proof.RefRow

@[expose] public section

set_option maxRecDepth 16384

noncomputable section

namespace Cert.Equation

open Idealize.ShloMosaic Idealize.ShloMosaic.TcCoe
open Cert.KernelIdeal.Run Cert.Tiles
open scoped BigOperators

/-- A row's scale is the same in both programs. -/
theorem scale_eq (x0 : Vec Ideal Cert.ReferenceIdeal.S32768x2816 .bf16) (y0 : Vec Ideal Cert.KernelIdeal.S512x2816 .bf16) (r : Fin 32768) (r' : Fin 512)
    (hrow : ∀ k : Fin 2816, y0 (ix2 r' k) = x0 (ix2 r k)) (hf : ∀ k : Fin 2816, max (x0 (ix2 r k)) (-x0 (ix2 r k)) ≤ Ideal.ofBits .f32 0x7F7F0000#32) :
    scaleCol (scalesOf y0) (ix2 r' (0 : Fin 1)) = Cert.ReferenceIdeal.Gen.k0_pay4 x0 (ix2 r (0 : Fin 1)) := by
  obtain ⟨a, μ, ha, hμ, h0, h1, hz⟩ := Scale.rowMax_real (fun k => x0 (ix2 r k)) hf
  have hy : (fun k => y0 (ix2 r' k)) = fun k => x0 (ix2 r k) := funext hrow
  rw [Cert.KernelIdeal.Row.scale_apply, Cert.KernelIdeal.Row.bound_apply, hy, hμ, Scale.scale_up μ h0 h1,
    Cert.ReferenceIdeal.Row.scale_apply, Cert.ReferenceIdeal.Row.exp_apply, hμ, ha, Scale.expR_eq a μ hz, Scale.exp2_int]

/-- A row's codes are the same in both programs. -/
theorem codes_eq (x0 : Vec Ideal Cert.ReferenceIdeal.S32768x2816 .bf16) (y0 : Vec Ideal Cert.KernelIdeal.S512x2816 .bf16) (r : Fin 32768) (r' : Fin 512)
    (hrow : ∀ k : Fin 2816, y0 (ix2 r' k) = x0 (ix2 r k)) (hf : ∀ k : Fin 2816, max (x0 (ix2 r k)) (-x0 (ix2 r k)) ≤ Ideal.ofBits .f32 0x7F7F0000#32) (k : Fin 2816) :
    codesOf y0 (ix2 r' k) = Cert.ReferenceIdeal.Gen.k0_pay5 x0 (ix2 r k) := by
  obtain ⟨a, μ, ha, hμ, h0, h1, hz⟩ := Scale.rowMax_real (fun k => x0 (ix2 r k)) hf
  have hy : (fun k => y0 (ix2 r' k)) = fun k => x0 (ix2 r k) := funext hrow
  have hneg : (0 : EReal) - (((Scale.expZ μ : ℤ) : ℝ) : EReal) = (((-Scale.expZ μ : ℤ) : ℝ) : EReal) := by
    rw [zero_sub, Int.cast_neg, EReal.coe_neg]
  rw [Cert.KernelIdeal.Row.codes_apply, Cert.KernelIdeal.Row.bound_apply, hy, hμ, Scale.scale_down μ h0 h1, hrow,
    Cert.ReferenceIdeal.Row.codes_apply, Cert.ReferenceIdeal.Row.exp_apply, hμ, ha, Scale.expR_eq a μ hz, Ideal.ofBits_zero_f32, hneg, Scale.exp2_int]

variable {m : (ℓ : Loc Cert.KernelIdeal.nD Cert.KernelIdeal.τ Cert.KernelIdeal.sig) → Buf (Elt Ideal) ℓ}

/-- The kernel's array at an index, from its tile's block. -/
theorem prodAt_apply (T : Tab m) (r : Fin 32768) (j : Fin 3072) :
    prodAt T (ix2 r j) = valAt m (r.val / 512) (T.rowEx r.val) (ix2 (⟨r.val % 512, Nat.mod_lt _ (by decide)⟩ : Fin 512) j) :=
  congrArg (valAt m (r.val / 512) (T.rowEx r.val)) (funext fun a : Fin 2 => match a with | 0 => rfl | 1 => rfl)

/-- A row of a tile is that row of the operand. -/
theorem dyAt_apply (x0 : Vec Ideal Cert.ReferenceIdeal.S32768x2816 .bf16) (h0 : V m 0 Cert.KernelIdeal.main_arg0 = x0) (r : Fin 32768) (k : Fin 2816) :
    dyAt m (r.val / 512) (ix2 (⟨r.val % 512, Nat.mod_lt _ (by decide)⟩ : Fin 512) k) = x0 (ix2 r k) := by
  subst h0
  have hr := r.isLt
  refine congrArg (V m 0 Cert.KernelIdeal.main_arg0 : Cert.KernelIdeal.S32768x2816.Idx → Ideal .bf16) (funext fun a : Fin 2 => Fin.ext ?_)
  match a with
  | 0 => show (r.val / 512 * 512 + r.val % 512) % 32768 = r.val; omega
  | 1 => rfl

theorem wAt_eq (x2 : Vec Ideal Cert.ReferenceIdeal.S16x3072x2816 .fp8e4m3) (h2 : V m 0 Cert.KernelIdeal.main_arg2 = x2) (e : Nat) :
    wAt m e = Cert.ReferenceIdeal.Val.wRow x2 e := by
  subst h2; rfl
theorem wsAt_eq (x3 : Vec Ideal Cert.ReferenceIdeal.S16x3072 .f32) (h3 : V m 0 Cert.KernelIdeal.main_arg3 = x3) (e : Nat) :
    wsAt m e = Cert.ReferenceIdeal.Val.wsRow x3 e := by
  subst h3; rfl

/-- The two arrays are equal. -/
theorem equation (h : cum (nat16 (gs m)) 15 = 32768) (x0 : Vec Ideal Cert.ReferenceIdeal.S32768x2816 .bf16) (x1 : Vec Ideal Cert.ReferenceIdeal.S32768x1 .i32)
    (x2 : Vec Ideal Cert.ReferenceIdeal.S16x3072x2816 .fp8e4m3) (x3 : Vec Ideal Cert.ReferenceIdeal.S16x3072 .f32)
    (h0 : V m 0 Cert.KernelIdeal.main_arg0 = x0) (h2 : V m 0 Cert.KernelIdeal.main_arg2 = x2) (h3 : V m 0 Cert.KernelIdeal.main_arg3 = x3)
    (hcol : ∀ k : Fin 32768, (x1 : Cert.ReferenceIdeal.S32768x1.Idx → BitVec 32) (ValueIdx.ix2 k (0 : Fin 1)) = BitVec.ofNat 32 (below (nat16 (gs m)) k.val))
    (hf : ∀ i : Cert.ReferenceIdeal.S32768x2816.Idx, max (x0 i) (-x0 i) ≤ Ideal.ofBits .f32 0x7F7F0000#32) :
    (prodAt (tab m h) : Cert.KernelIdeal.S32768x3072.Idx → EReal) = Cert.ReferenceIdeal.Val.acc x0 x1 x2 x3 16 := by
  funext (i : Cert.ReferenceIdeal.S32768x3072.Idx)
  obtain ⟨r, j, rfl⟩ : ∃ (r : Fin 32768) (j : Fin 3072), i = ix2 r j :=
    ⟨⟨(i 0).val, (i 0).isLt⟩, ⟨(i 1).val, (i 1).isLt⟩, funext fun a : Fin 2 => match a with | 0 => rfl | 1 => rfl⟩
  have he : below (nat16 (gs m)) r.val < 16 := (below_spec _ _ (by rw [h]; exact r.isLt)).1
  have hrow := dyAt_apply (m := m) x0 h0 r
  refine (prodAt_apply (tab m h) r j).trans ?_
  refine Eq.trans ?_ (Cert.ReferenceIdeal.Val.acc_apply x0 x1 x2 x3 (ix2 r j) (below (nat16 (gs m)) r.val) he (hcol r) 16 (Nat.le_refl 16) he).symm
  refine (Cert.KernelIdeal.Row.valAt_apply _ _ _ j).trans ?_
  refine Eq.trans ?_ (Cert.ReferenceIdeal.Row.prod_apply _ _ _ _ r j).symm
  have hw : wAt m ((tab m h).rowEx r.val) = Cert.ReferenceIdeal.Val.wRow x2 (below (nat16 (gs m)) r.val) := wAt_eq x2 h2 _
  have hws : wsAt m ((tab m h).rowEx r.val) = Cert.ReferenceIdeal.Val.wsRow x3 (below (nat16 (gs m)) r.val) := wsAt_eq x3 h3 _
  rw [hw, hws, scale_eq x0 _ r _ hrow (fun k => hf _)]
  refine congrArg (fun y => y * Cert.ReferenceIdeal.Gen.k0_pay4 x0 (ix2 r (0 : Fin 1)) * _) (Finset.sum_congr rfl fun k _ => ?_)
  rw [codes_eq x0 _ r _ hrow (fun k => hf _) k]

end Cert.Equation

end
-- ==== Proof.Algebraic.lean ====
/- Both programs, run from equal arguments, end with the same array over the extended reals. -/
module

public import proofs.«01_k».proof.Defs
public import proofs.«01_k».proof.Proof.Cond
public import proofs.«01_k».proof.Proof.Equation
public import proofs.«01_k».proof.Proof.Gen.ReferenceIdeal.Value
public import proofs.«01_k».proof.Proof.Gen.Pre_groups_cover_finite

@[expose] public section

set_option maxRecDepth 16384

noncomputable section

namespace Cert.Algebraic

open Idealize.ShloMosaic Idealize.ShloMosaic.TcCoe Idealize.SL.Sem
open Cert.KernelIdeal.Run Cert.Tiles

/-- The precondition's bound on an element, as an inequality of extended reals. -/
theorem finite_le (x0 : FVec Ideal Cert.Pre_groups_cover_finite.S32768x2816 .bf16) (g x2 x3)
    (h : Cert.Pre_groups_cover_finite.fn (F := Ideal) x0 g x2 x3 = fun _ => 1#1) (i : Cert.Pre_groups_cover_finite.S32768x2816.Idx) :
    max (x0 i) (-x0 i) ≤ Ideal.ofBits .f32 0x7F7F0000#32 := by
  have hi := finite_of_pre x0 g x2 x3 h i
  by_contra hn
  have hd : BitVec.ofBool (decide (max (x0 i) (-x0 i) ≤ Ideal.ofBits .f32 0x7F7F0000#32)) = 1#1 := hi
  rw [decide_eq_false hn] at hd
  exact absurd hd (by decide)

set_option backward.isDefEq.respectTransparency.types false in
set_option maxHeartbeats 800000 in
/-- The kernel's run ends with `prodAt` and its arguments unchanged. -/
theorem kernel_run (m : (ℓ : Loc Cert.KernelIdeal.nD Cert.KernelIdeal.τ Cert.KernelIdeal.sig) → Buf (Elt Ideal) ℓ) (g : Dev Cert.KernelIdeal.nD → PrngReg)
    (h : cum (nat16 (gs m)) 15 = 32768) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v43) = prodAt (tab m h)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  θ_run_mono (run (tab m h) g) fun r hr c => ⟨out_eq (tab m h) r hr.1 c, args_of (tab m h) r hr.1 c⟩

/-- The reference's array is the kernel's. -/
theorem arrays_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : cum (nat16 (gs m)) 15 = 32768)
    (a0 : m' ((0 : Dev Cert.ReferenceIdeal.nD), Cert.ReferenceIdeal.main_arg0) = m ((0 : Dev Cert.KernelIdeal.nD), Cert.KernelIdeal.main_arg0))
    (a1 : m' ((0 : Dev Cert.ReferenceIdeal.nD), Cert.ReferenceIdeal.main_arg1) = m ((0 : Dev Cert.KernelIdeal.nD), Cert.KernelIdeal.main_arg1))
    (a2 : m' ((0 : Dev Cert.ReferenceIdeal.nD), Cert.ReferenceIdeal.main_arg2) = m ((0 : Dev Cert.KernelIdeal.nD), Cert.KernelIdeal.main_arg2))
    (a3 : m' ((0 : Dev Cert.ReferenceIdeal.nD), Cert.ReferenceIdeal.main_arg3) = m ((0 : Dev Cert.KernelIdeal.nD), Cert.KernelIdeal.main_arg3))
    (x : FVec Ideal Cert.Pre_groups_cover_finite.S32768x2816 .bf16) (hx : m ((0 : Dev Cert.KernelIdeal.nD), Cert.KernelIdeal.main_arg0) = x)
    (hf : ∀ i, max (x i) (-x i) ≤ Ideal.ofBits .f32 0x7F7F0000#32) :
    ((Cert.ReferenceIdeal.Gen.dats m' 0 0).arrAt 4 Cert.ReferenceIdeal.cfg0.N : Cert.KernelIdeal.S32768x3072.Idx → EReal) = prodAt (tab m h) := by
  refine (Cert.ReferenceIdeal.Val.arr_eq m').trans (Cert.Equation.equation h _ _ _ _ ?_ ?_ ?_ ?_ ?_).symm
  · exact (V_arg m Cert.KernelIdeal.main_arg0 (.inl rfl) 0).trans a0.symm
  · exact (V_arg m Cert.KernelIdeal.main_arg2 (.inr (.inr (.inl rfl))) 0).trans a2.symm
  · exact (V_arg m Cert.KernelIdeal.main_arg3 (.inr (.inr (.inr rfl))) 0).trans a3.symm
  · have hg : Cert.ReferenceIdeal.Val.gs m' = gs m := a1
    rw [hg]
    exact Cert.ReferenceIdeal.Val.col_eq (gs m) h
  · have e : m' ((0 : Dev Cert.ReferenceIdeal.nD), Cert.ReferenceIdeal.main_arg0) = x := a0.trans hx
    subst e
    exact hf

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_groups_cover
public import proofs.«01_k».proof.Proof.Gen.Pre_groups_cover_finite
public import proofs.«01_k».proof.Proof.KernelFrame
public import proofs.«01_k».proof.Proof.KernelIdealFrame
public import proofs.«01_k».proof.Proof.Cond
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Over the extended reals the kernel and the reference, run from equal arguments, end with the same array. -/
theorem algebraic :
    Cert.algebraic_KernelIdeal_ReferenceIdeal_pre_groups_cover_finite (hKernelIdeal := Cert.KernelIdeal.Gen.facts)
      (hReferenceIdeal := Cert.ReferenceIdeal.Gen.facts) (hPre_groups_cover_finite := Cert.Pre_groups_cover_finite.Gen.facts) :=
  fun m g m' g' hpre hargs => by
    have h := Cert.Tiles.cum_of_pre_finite _ _ _ _ (hpre 0)
    obtain ⟨a0, a1, a2, a3⟩ := hargs 0
    refine ⟨fun _ => Cert.KernelIdeal.Run.prodAt (Cert.KernelIdeal.Run.tab m h), Cert.Algebraic.kernel_run m g h, ?_⟩
    refine θ_run_mono (Cert.ReferenceIdeal.Value.run_blocks m' g') fun r hr c => ?_
    obtain rfl : c = 0 := Subsingleton.elim _ _
    exact ⟨(hr 0).1.trans (Cert.Algebraic.arrays_eq m m' h a0 a1 a2 a3 _ rfl (Cert.Algebraic.finite_le _ _ _ _ (hpre 0))), (hr 0).2⟩

theorem claim : Cert.Claim := ⟨Cert.Kernel.Gen.facts, Cert.KernelIdeal.Gen.facts, Cert.ReferenceIdeal.Gen.facts, Cert.Pre_groups_cover.Gen.facts, Cert.Pre_groups_cover_finite.Gen.facts,
  fun m g h => Cert.Kernel.Run.frame m g (Cert.Tiles.cum_of_pre _ _ _ _ (h 0)),
  fun m g h => Cert.KernelIdeal.Run.frame m g (Cert.Tiles.cum_of_pre _ _ _ _ (h 0)),
  fun m g h => Cert.KernelIdeal.Run.frame m g (Cert.Tiles.cum_of_pre_finite _ _ _ _ (h 0)),
  fun m g _ => Cert.ReferenceIdeal.Gen.frame m g,
  fun m g _ => Cert.ReferenceIdeal.Gen.frame m g,
  trivial,
  algebraic⟩

end Cert.Proof

end
